-- ==== Defs.lean ====
def Pre_MergeGrad (m : (ℓ : Loc Cert.MergeGrad.nD Cert.MergeGrad.τ Cert.MergeGrad.sig) → Buf (Elt Bits) ℓ) : Prop :=
  True

def Pre_MergeGradIdeal (m : (ℓ : Loc Cert.MergeGradIdeal.nD Cert.MergeGradIdeal.τ Cert.MergeGradIdeal.sig) → Buf (Elt Ideal) ℓ) : Prop :=
  True

def Pre_MergeGradRefIdeal (m : (ℓ : Loc Cert.MergeGradRefIdeal.nD Cert.MergeGradRefIdeal.τ Cert.MergeGradRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpGateDx (m : (ℓ : Loc Cert.UpGateDx.nD Cert.UpGateDx.τ Cert.UpGateDx.sig) → Buf (Elt Bits) ℓ) : Prop :=
  True

def Pre_UpGateDxIdeal (m : (ℓ : Loc Cert.UpGateDxIdeal.nD Cert.UpGateDxIdeal.τ Cert.UpGateDxIdeal.sig) → Buf (Elt Ideal) ℓ) : Prop :=
  True

def Pre_UpGateDxRefIdeal (m : (ℓ : Loc Cert.UpGateDxRefIdeal.nD Cert.UpGateDxRefIdeal.τ Cert.UpGateDxRefIdeal.sig) → Buf (Elt Ideal) ℓ) : Prop :=
  True

def Pre_UpValDx (m : (ℓ : Loc Cert.UpValDx.nD Cert.UpValDx.τ Cert.UpValDx.sig) → Buf (Elt Bits) ℓ) : Prop :=
  True

def Pre_UpValDxIdeal (m : (ℓ : Loc Cert.UpValDxIdeal.nD Cert.UpValDxIdeal.τ Cert.UpValDxIdeal.sig) → Buf (Elt Ideal) ℓ) : Prop :=
  True

def Pre_UpValDxRefIdeal (m : (ℓ : Loc Cert.UpValDxRefIdeal.nD Cert.UpValDxRefIdeal.τ Cert.UpValDxRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_ScanGrad (m : (ℓ : Loc Cert.ScanGrad.nD Cert.ScanGrad.τ Cert.ScanGrad.sig) → Buf (Elt Bits) ℓ) : Prop :=
  True

def Pre_ScanGradIdeal (m : (ℓ : Loc Cert.ScanGradIdeal.nD Cert.ScanGradIdeal.τ Cert.ScanGradIdeal.sig) → Buf (Elt Ideal) ℓ) : Prop :=
  True

def Pre_ScanGradRefIdeal (m : (ℓ : Loc Cert.ScanGradRefIdeal.nD Cert.ScanGradRefIdeal.τ Cert.ScanGradRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradRefIdeal (m : (ℓ : Loc Cert.NormGradRefIdeal.nD Cert.NormGradRefIdeal.τ Cert.NormGradRefIdeal.sig) → Buf (Elt Ideal) ℓ) : Prop :=
  True

def Pre_LruPostGrad (m : (ℓ : Loc Cert.LruPostGrad.nD Cert.LruPostGrad.τ Cert.LruPostGrad.sig) → Buf (Elt Bits) ℓ) : Prop :=
  True

def Pre_LruPostGradIdeal (m : (ℓ : Loc Cert.LruPostGradIdeal.nD Cert.LruPostGradIdeal.τ Cert.LruPostGradIdeal.sig) → Buf (Elt Ideal) ℓ) : Prop :=
  True

def Pre_LruPostGradRefIdeal (m : (ℓ : Loc Cert.LruPostGradRefIdeal.nD Cert.LruPostGradRefIdeal.τ Cert.LruPostGradRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_LruPostFwd (m : (ℓ : Loc Cert.LruPostFwd.nD Cert.LruPostFwd.τ Cert.LruPostFwd.sig) → Buf (Elt Bits) ℓ) : Prop :=
  True

def Pre_LruPostFwdIdeal (m : (ℓ : Loc Cert.LruPostFwdIdeal.nD Cert.LruPostFwdIdeal.τ Cert.LruPostFwdIdeal.sig) → Buf (Elt Ideal) ℓ) : Prop :=
  True

def Pre_LruPostFwdRefIdeal (m : (ℓ : Loc Cert.LruPostFwdRefIdeal.nD Cert.LruPostFwdRefIdeal.τ Cert.LruPostFwdRefIdeal.sig) → Buf (Elt Ideal) ℓ) : Prop :=
  True

def Pre_RetPostFwd (m : (ℓ : Loc Cert.RetPostFwd.nD Cert.RetPostFwd.τ Cert.RetPostFwd.sig) → Buf (Elt Bits) ℓ) : Prop :=
  True

def Pre_RetPostFwdIdeal (m : (ℓ : Loc Cert.RetPostFwdIdeal.nD Cert.RetPostFwdIdeal.τ Cert.RetPostFwdIdeal.sig) → Buf (Elt Ideal) ℓ) : Prop :=
  True

def Pre_RetPostFwdRefIdeal (m : (ℓ : Loc Cert.RetPostFwdRefIdeal.nD Cert.RetPostFwdRefIdeal.τ Cert.RetPostFwdRefIdeal.sig) → Buf (Elt Ideal) ℓ) : Prop :=
  True

def Pre_DnPostFwd (m : (ℓ : Loc Cert.DnPostFwd.nD Cert.DnPostFwd.τ Cert.DnPostFwd.sig) → Buf (Elt Bits) ℓ) : Prop :=
  True

def Pre_DnPostFwdIdeal (m : (ℓ : Loc Cert.DnPostFwdIdeal.nD Cert.DnPostFwdIdeal.τ Cert.DnPostFwdIdeal.sig) → Buf (Elt Ideal) ℓ) : Prop :=
  True

def Pre_DnPostFwdRefIdeal (m : (ℓ : Loc Cert.DnPostFwdRefIdeal.nD Cert.DnPostFwdRefIdeal.τ Cert.DnPostFwdRefIdeal.sig) → Buf (Elt Ideal) ℓ) : Prop :=
  True

def quiescent_MergeGrad [hMergeGrad : Cert.MergeGrad.Facts] : Prop :=
  ∀ (m : (ℓ : Loc Cert.MergeGrad.nD Cert.MergeGrad.τ Cert.MergeGrad.sig) → Buf (Elt Bits) ℓ) (g : Dev Cert.MergeGrad.nD → PrngReg), Pre_MergeGrad m →
    θ_run (Cert.MergeGrad.defs (F := Bits)) (onTc (τ := Cert.MergeGrad.τ) (Cert.MergeGrad.main (F := Bits))) ⟨m, fun _ => 0, g⟩ (fun r => (∀ c : Dev Cert.MergeGrad.nD,
      r.2.mem ((c.tc : Thread Cert.MergeGrad.nD Cert.MergeGrad.τ).loc Cert.MergeGrad.main_arg0) = m ((c.tc : Thread Cert.MergeGrad.nD Cert.MergeGrad.τ).loc Cert.MergeGrad.main_arg0)
      ∧ r.2.mem ((c.tc : Thread Cert.MergeGrad.nD Cert.MergeGrad.τ).loc Cert.MergeGrad.main_arg1) = m ((c.tc : Thread Cert.MergeGrad.nD Cert.MergeGrad.τ).loc Cert.MergeGrad.main_arg1)
      ∧ r.2.mem ((c.tc : Thread Cert.MergeGrad.nD Cert.MergeGrad.τ).loc Cert.MergeGrad.main_arg2) = m ((c.tc : Thread Cert.MergeGrad.nD Cert.MergeGrad.τ).loc Cert.MergeGrad.main_arg2)
      ∧ r.2.mem ((c.tc : Thread Cert.MergeGrad.nD Cert.MergeGrad.τ).loc Cert.MergeGrad.main_arg3) = m ((c.tc : Thread Cert.MergeGrad.nD Cert.MergeGrad.τ).loc Cert.MergeGrad.main_arg3)
      ∧ r.2.mem ((c.tc : Thread Cert.MergeGrad.nD Cert.MergeGrad.τ).loc Cert.MergeGrad.main_arg4) = m ((c.tc : Thread Cert.MergeGrad.nD Cert.MergeGrad.τ).loc Cert.MergeGrad.main_arg4)
      ∧ r.2.mem ((c.tc : Thread Cert.MergeGrad.nD Cert.MergeGrad.τ).loc Cert.MergeGrad.main_arg5) = m ((c.tc : Thread Cert.MergeGrad.nD Cert.MergeGrad.τ).loc Cert.MergeGrad.main_arg5)
      ∧ r.2.mem ((c.tc : Thread Cert.MergeGrad.nD Cert.MergeGrad.τ).loc Cert.MergeGrad.main_arg6) = m ((c.tc : Thread Cert.MergeGrad.nD Cert.MergeGrad.τ).loc Cert.MergeGrad.main_arg6))
      ∧ r.2.sem = fun _ => 0)

def quiescent_MergeGradIdeal [hMergeGradIdeal : Cert.MergeGradIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg), Pre_MergeGradIdeal m →
    θ_run (Cert.MergeGradIdeal.defs (F := Ideal)) (onTc (τ := Cert.MergeGradIdeal.τ) (Cert.MergeGradIdeal.main (F := Ideal))) ⟨m, fun _ => 0, g⟩ (fun r => (∀ c : Dev Cert.MergeGradIdeal.nD,
      r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
      ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
      ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
      ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
      ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4)
      ∧ r.2.mem ((c.tc : Thread Cert.MergeGradIdeal.nD Cert.MergeGradIdeal.τ).loc Cert.MergeGradIdeal.main_arg5) = m ((c.tc : Thread Cert.MergeGradIdeal.nD Cert.MergeGradIdeal.τ).loc Cert.MergeGradIdeal.main_arg5)
      ∧ r.2.mem ((c.tc : Thread Cert.MergeGradIdeal.nD Cert.MergeGradIdeal.τ).loc Cert.MergeGradIdeal.main_arg6) = m ((c.tc : Thread Cert.MergeGradIdeal.nD Cert.MergeGradIdeal.τ).loc Cert.MergeGradIdeal.main_arg6))
      ∧ r.2.sem = fun _ => 0)

def quiescent_MergeGradRefIdeal [hMergeGradRefIdeal : Cert.MergeGradRefIdeal.Facts] : Prop :=
  ∀ (m : (ℓ : Loc Cert.MergeGradRefIdeal.nD Cert.MergeGradRefIdeal.τ Cert.MergeGradRefIdeal.sig) → Buf (Elt Ideal) ℓ) (g : Dev Cert.MergeGradRefIdeal.nD → PrngReg), Pre_MergeGradRefIdeal m →
    θ_run (Cert.MergeGradRefIdeal.defs (F := Ideal)) (onTc (τ := Cert.MergeGradRefIdeal.τ) (Cert.MergeGradRefIdeal.main (F := Ideal))) ⟨m, fun _ => 0, g⟩ (fun r => (∀ c : Dev Cert.MergeGradRefIdeal.nD,
      r.2.mem ((c.tc : Thread Cert.MergeGradRefIdeal.nD Cert.MergeGradRefIdeal.τ).loc Cert.MergeGradRefIdeal.main_arg0) = m ((c.tc : Thread Cert.MergeGradRefIdeal.nD Cert.MergeGradRefIdeal.τ).loc Cert.MergeGradRefIdeal.main_arg0)
      ∧ r.2.mem ((c.tc : Thread Cert.MergeGradRefIdeal.nD Cert.MergeGradRefIdeal.τ).loc Cert.MergeGradRefIdeal.main_arg1) = m ((c.tc : Thread Cert.MergeGradRefIdeal.nD Cert.MergeGradRefIdeal.τ).loc Cert.MergeGradRefIdeal.main_arg1)
      ∧ r.2.mem ((c.tc : Thread Cert.MergeGradRefIdeal.nD Cert.MergeGradRefIdeal.τ).loc Cert.MergeGradRefIdeal.main_arg2) = m ((c.tc : Thread Cert.MergeGradRefIdeal.nD Cert.MergeGradRefIdeal.τ).loc Cert.MergeGradRefIdeal.main_arg2)
      ∧ r.2.mem ((c.tc : Thread Cert.MergeGradRefIdeal.nD Cert.MergeGradRefIdeal.τ).loc Cert.MergeGradRefIdeal.main_arg3) = m ((c.tc : Thread Cert.MergeGradRefIdeal.nD Cert.MergeGradRefIdeal.τ).loc Cert.MergeGradRefIdeal.main_arg3)
      ∧ r.2.mem ((c.tc : Thread Cert.MergeGradRefIdeal.nD Cert.MergeGradRefIdeal.τ).loc Cert.MergeGradRefIdeal.main_arg4) = m ((c.tc : Thread Cert.MergeGradRefIdeal.nD Cert.MergeGradRefIdeal.τ).loc Cert.MergeGradRefIdeal.main_arg4)
      ∧ r.2.mem ((c.tc : Thread Cert.MergeGradRefIdeal.nD Cert.MergeGradRefIdeal.τ).loc Cert.MergeGradRefIdeal.main_arg5) = m ((c.tc : Thread Cert.MergeGradRefIdeal.nD Cert.MergeGradRefIdeal.τ).loc Cert.MergeGradRefIdeal.main_arg5)
      ∧ r.2.mem ((c.tc : Thread Cert.MergeGradRefIdeal.nD Cert.MergeGradRefIdeal.τ).loc Cert.MergeGradRefIdeal.main_arg6) = m ((c.tc : Thread Cert.MergeGradRefIdeal.nD Cert.MergeGradRefIdeal.τ).loc Cert.MergeGradRefIdeal.main_arg6))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpGateDx [hUpGateDx : Cert.UpGateDx.Facts] : Prop :=
  ∀ (m : (ℓ : Loc Cert.UpGateDx.nD Cert.UpGateDx.τ Cert.UpGateDx.sig) → Buf (Elt Bits) ℓ) (g : Dev Cert.UpGateDx.nD → PrngReg), Pre_UpGateDx m →
    θ_run (Cert.UpGateDx.defs (F := Bits)) (onTc (τ := Cert.UpGateDx.τ) (Cert.UpGateDx.main (F := Bits))) ⟨m, fun _ => 0, g⟩ (fun r => (∀ c : Dev Cert.UpGateDx.nD,
      r.2.mem ((c.tc : Thread Cert.UpGateDx.nD Cert.UpGateDx.τ).loc Cert.UpGateDx.main_arg0) = m ((c.tc : Thread Cert.UpGateDx.nD Cert.UpGateDx.τ).loc Cert.UpGateDx.main_arg0)
      ∧ r.2.mem ((c.tc : Thread Cert.UpGateDx.nD Cert.UpGateDx.τ).loc Cert.UpGateDx.main_arg1) = m ((c.tc : Thread Cert.UpGateDx.nD Cert.UpGateDx.τ).loc Cert.UpGateDx.main_arg1)
      ∧ r.2.mem ((c.tc : Thread Cert.UpGateDx.nD Cert.UpGateDx.τ).loc Cert.UpGateDx.main_arg2) = m ((c.tc : Thread Cert.UpGateDx.nD Cert.UpGateDx.τ).loc Cert.UpGateDx.main_arg2))
      ∧ r.2.sem = fun _ => 0)

def quiescent_UpGateDxIdeal [hUpGateDxIdeal : Cert.UpGateDxIdeal.Facts] : Prop :=
  ∀ (m : (ℓ : Loc Cert.UpGateDxIdeal.nD Cert.UpGateDxIdeal.τ Cert.UpGateDxIdeal.sig) → Buf (Elt Ideal) ℓ) (g : Dev Cert.UpGateDxIdeal.nD → PrngReg), Pre_UpGateDxIdeal m →
    θ_run (Cert.UpGateDxIdeal.defs (F := Ideal)) (onTc (τ := Cert.UpGateDxIdeal.τ) (Cert.UpGateDxIdeal.main (F := Ideal))) ⟨m, fun _ => 0, g⟩ (fun r => (∀ c : Dev Cert.UpGateDxIdeal.nD,
      r.2.mem ((c.tc : Thread Cert.UpGateDxIdeal.nD Cert.UpGateDxIdeal.τ).loc Cert.UpGateDxIdeal.main_arg0) = m ((c.tc : Thread Cert.UpGateDxIdeal.nD Cert.UpGateDxIdeal.τ).loc Cert.UpGateDxIdeal.main_arg0)
      ∧ r.2.mem ((c.tc : Thread Cert.UpGateDxIdeal.nD Cert.UpGateDxIdeal.τ).loc Cert.UpGateDxIdeal.main_arg1) = m ((c.tc : Thread Cert.UpGateDxIdeal.nD Cert.UpGateDxIdeal.τ).loc Cert.UpGateDxIdeal.main_arg1)
      ∧ r.2.mem ((c.tc : Thread Cert.UpGateDxIdeal.nD Cert.UpGateDxIdeal.τ).loc Cert.UpGateDxIdeal.main_arg2) = m ((c.tc : Thread Cert.UpGateDxIdeal.nD Cert.UpGateDxIdeal.τ).loc Cert.UpGateDxIdeal.main_arg2))
      ∧ r.2.sem = fun _ => 0)

def quiescent_UpGateDxRefIdeal [hUpGateDxRefIdeal : Cert.UpGateDxRefIdeal.Facts] : Prop :=
  ∀ (m : (ℓ : Loc Cert.UpGateDxRefIdeal.nD Cert.UpGateDxRefIdeal.τ Cert.UpGateDxRefIdeal.sig) → Buf (Elt Ideal) ℓ) (g : Dev Cert.UpGateDxRefIdeal.nD → PrngReg), Pre_UpGateDxRefIdeal m →
    θ_run (Cert.UpGateDxRefIdeal.defs (F := Ideal)) (onTc (τ := Cert.UpGateDxRefIdeal.τ) (Cert.UpGateDxRefIdeal.main (F := Ideal))) ⟨m, fun _ => 0, g⟩ (fun r => (∀ c : Dev Cert.UpGateDxRefIdeal.nD,
      r.2.mem ((c.tc : Thread Cert.UpGateDxRefIdeal.nD Cert.UpGateDxRefIdeal.τ).loc Cert.UpGateDxRefIdeal.main_arg0) = m ((c.tc : Thread Cert.UpGateDxRefIdeal.nD Cert.UpGateDxRefIdeal.τ).loc Cert.UpGateDxRefIdeal.main_arg0)
      ∧ r.2.mem ((c.tc : Thread Cert.UpGateDxRefIdeal.nD Cert.UpGateDxRefIdeal.τ).loc Cert.UpGateDxRefIdeal.main_arg1) = m ((c.tc : Thread Cert.UpGateDxRefIdeal.nD Cert.UpGateDxRefIdeal.τ).loc Cert.UpGateDxRefIdeal.main_arg1)
      ∧ r.2.mem ((c.tc : Thread Cert.UpGateDxRefIdeal.nD Cert.UpGateDxRefIdeal.τ).loc Cert.UpGateDxRefIdeal.main_arg2) = m ((c.tc : Thread Cert.UpGateDxRefIdeal.nD Cert.UpGateDxRefIdeal.τ).loc Cert.UpGateDxRefIdeal.main_arg2))
      ∧ r.2.sem = fun _ => 0)

def quiescent_UpValDx [hUpValDx : Cert.UpValDx.Facts] : Prop :=
  ∀ (m : (ℓ : Loc Cert.UpValDx.nD Cert.UpValDx.τ Cert.UpValDx.sig) → Buf (Elt Bits) ℓ) (g : Dev Cert.UpValDx.nD → PrngReg), Pre_UpValDx m →
    θ_run (Cert.UpValDx.defs (F := Bits)) (onTc (τ := Cert.UpValDx.τ) (Cert.UpValDx.main (F := Bits))) ⟨m, fun _ => 0, g⟩ (fun r => (∀ c : Dev Cert.UpValDx.nD,
      r.2.mem ((c.tc : Thread Cert.UpValDx.nD Cert.UpValDx.τ).loc Cert.UpValDx.main_arg0) = m ((c.tc : Thread Cert.UpValDx.nD Cert.UpValDx.τ).loc Cert.UpValDx.main_arg0)
      ∧ r.2.mem ((c.tc : Thread Cert.UpValDx.nD Cert.UpValDx.τ).loc Cert.UpValDx.main_arg1) = m ((c.tc : Thread Cert.UpValDx.nD Cert.UpValDx.τ).loc Cert.UpValDx.main_arg1)
      ∧ r.2.mem ((c.tc : Thread Cert.UpValDx.nD Cert.UpValDx.τ).loc Cert.UpValDx.main_arg2) = m ((c.tc : Thread Cert.UpValDx.nD Cert.UpValDx.τ).loc Cert.UpValDx.main_arg2))
      ∧ r.2.sem = fun _ => 0)

def quiescent_UpValDxIdeal [hUpValDxIdeal : Cert.UpValDxIdeal.Facts] : Prop :=
  ∀ (m : (ℓ : Loc Cert.UpValDxIdeal.nD Cert.UpValDxIdeal.τ Cert.UpValDxIdeal.sig) → Buf (Elt Ideal) ℓ) (g : Dev Cert.UpValDxIdeal.nD → PrngReg), Pre_UpValDxIdeal m →
    θ_run (Cert.UpValDxIdeal.defs (F := Ideal)) (onTc (τ := Cert.UpValDxIdeal.τ) (Cert.UpValDxIdeal.main (F := Ideal))) ⟨m, fun _ => 0, g⟩ (fun r => (∀ c : Dev Cert.UpValDxIdeal.nD,
      r.2.mem ((c.tc : Thread Cert.UpValDxIdeal.nD Cert.UpValDxIdeal.τ).loc Cert.UpValDxIdeal.main_arg0) = m ((c.tc : Thread Cert.UpValDxIdeal.nD Cert.UpValDxIdeal.τ).loc Cert.UpValDxIdeal.main_arg0)
      ∧ r.2.mem ((c.tc : Thread Cert.UpValDxIdeal.nD Cert.UpValDxIdeal.τ).loc Cert.UpValDxIdeal.main_arg1) = m ((c.tc : Thread Cert.UpValDxIdeal.nD Cert.UpValDxIdeal.τ).loc Cert.UpValDxIdeal.main_arg1)
      ∧ r.2.mem ((c.tc : Thread Cert.UpValDxIdeal.nD Cert.UpValDxIdeal.τ).loc Cert.UpValDxIdeal.main_arg2) = m ((c.tc : Thread Cert.UpValDxIdeal.nD Cert.UpValDxIdeal.τ).loc Cert.UpValDxIdeal.main_arg2))
      ∧ r.2.sem = fun _ => 0)

def quiescent_UpValDxRefIdeal [hUpValDxRefIdeal : Cert.UpValDxRefIdeal.Facts] : Prop :=
  ∀ (m : (ℓ : Loc Cert.UpValDxRefIdeal.nD Cert.UpValDxRefIdeal.τ Cert.UpValDxRefIdeal.sig) → Buf (Elt Ideal) ℓ) (g : Dev Cert.UpValDxRefIdeal.nD → PrngReg), Pre_UpValDxRefIdeal m →
    θ_run (Cert.UpValDxRefIdeal.defs (F := Ideal)) (onTc (τ := Cert.UpValDxRefIdeal.τ) (Cert.UpValDxRefIdeal.main (F := Ideal))) ⟨m, fun _ => 0, g⟩ (fun r => (∀ c : Dev Cert.UpValDxRefIdeal.nD,
      r.2.mem ((c.tc : Thread Cert.UpValDxRefIdeal.nD Cert.UpValDxRefIdeal.τ).loc Cert.UpValDxRefIdeal.main_arg0) = m ((c.tc : Thread Cert.UpValDxRefIdeal.nD Cert.UpValDxRefIdeal.τ).loc Cert.UpValDxRefIdeal.main_arg0)
      ∧ r.2.mem ((c.tc : Thread Cert.UpValDxRefIdeal.nD Cert.UpValDxRefIdeal.τ).loc Cert.UpValDxRefIdeal.main_arg1) = m ((c.tc : Thread Cert.UpValDxRefIdeal.nD Cert.UpValDxRefIdeal.τ).loc Cert.UpValDxRefIdeal.main_arg1)
      ∧ r.2.mem ((c.tc : Thread Cert.UpValDxRefIdeal.nD Cert.UpValDxRefIdeal.τ).loc Cert.UpValDxRefIdeal.main_arg2) = m ((c.tc : Thread Cert.UpValDxRefIdeal.nD Cert.UpValDxRefIdeal.τ).loc Cert.UpValDxRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_ScanGrad [hScanGrad : Cert.ScanGrad.Facts] : Prop :=
  ∀ (m : (ℓ : Loc Cert.ScanGrad.nD Cert.ScanGrad.τ Cert.ScanGrad.sig) → Buf (Elt Bits) ℓ) (g : Dev Cert.ScanGrad.nD → PrngReg), Pre_ScanGrad m →
    θ_run (Cert.ScanGrad.defs (F := Bits)) (onTc (τ := Cert.ScanGrad.τ) (Cert.ScanGrad.main (F := Bits))) ⟨m, fun _ => 0, g⟩ (fun r => (∀ c : Dev Cert.ScanGrad.nD,
      r.2.mem ((c.tc : Thread Cert.ScanGrad.nD Cert.ScanGrad.τ).loc Cert.ScanGrad.main_arg0) = m ((c.tc : Thread Cert.ScanGrad.nD Cert.ScanGrad.τ).loc Cert.ScanGrad.main_arg0)
      ∧ r.2.mem ((c.tc : Thread Cert.ScanGrad.nD Cert.ScanGrad.τ).loc Cert.ScanGrad.main_arg1) = m ((c.tc : Thread Cert.ScanGrad.nD Cert.ScanGrad.τ).loc Cert.ScanGrad.main_arg1)
      ∧ r.2.mem ((c.tc : Thread Cert.ScanGrad.nD Cert.ScanGrad.τ).loc Cert.ScanGrad.main_arg2) = m ((c.tc : Thread Cert.ScanGrad.nD Cert.ScanGrad.τ).loc Cert.ScanGrad.main_arg2)
      ∧ r.2.mem ((c.tc : Thread Cert.ScanGrad.nD Cert.ScanGrad.τ).loc Cert.ScanGrad.main_arg3) = m ((c.tc : Thread Cert.ScanGrad.nD Cert.ScanGrad.τ).loc Cert.ScanGrad.main_arg3)
      ∧ r.2.mem ((c.tc : Thread Cert.ScanGrad.nD Cert.ScanGrad.τ).loc Cert.ScanGrad.main_arg4) = m ((c.tc : Thread Cert.ScanGrad.nD Cert.ScanGrad.τ).loc Cert.ScanGrad.main_arg4)
      ∧ r.2.mem ((c.tc : Thread Cert.ScanGrad.nD Cert.ScanGrad.τ).loc Cert.ScanGrad.main_arg5) = m ((c.tc : Thread Cert.ScanGrad.nD Cert.ScanGrad.τ).loc Cert.ScanGrad.main_arg5)
      ∧ r.2.mem ((c.tc : Thread Cert.ScanGrad.nD Cert.ScanGrad.τ).loc Cert.ScanGrad.main_arg6) = m ((c.tc : Thread Cert.ScanGrad.nD Cert.ScanGrad.τ).loc Cert.ScanGrad.main_arg6)
      ∧ r.2.mem ((c.tc : Thread Cert.ScanGrad.nD Cert.ScanGrad.τ).loc Cert.ScanGrad.main_arg7) = m ((c.tc : Thread Cert.ScanGrad.nD Cert.ScanGrad.τ).loc Cert.ScanGrad.main_arg7))
      ∧ r.2.sem = fun _ => 0)

def quiescent_ScanGradIdeal [hScanGradIdeal : Cert.ScanGradIdeal.Facts] : Prop :=
  ∀ (m : (ℓ : Loc Cert.ScanGradIdeal.nD Cert.ScanGradIdeal.τ Cert.ScanGradIdeal.sig) → Buf (Elt Ideal) ℓ) (g : Dev Cert.ScanGradIdeal.nD → PrngReg), Pre_ScanGradIdeal m →
    θ_run (Cert.ScanGradIdeal.defs (F := Ideal)) (onTc (τ := Cert.ScanGradIdeal.τ) (Cert.ScanGradIdeal.main (F := Ideal))) ⟨m, fun _ => 0, g⟩ (fun r => (∀ c : Dev Cert.ScanGradIdeal.nD,
      r.2.mem ((c.tc : Thread Cert.ScanGradIdeal.nD Cert.ScanGradIdeal.τ).loc Cert.ScanGradIdeal.main_arg0) = m ((c.tc : Thread Cert.ScanGradIdeal.nD Cert.ScanGradIdeal.τ).loc Cert.ScanGradIdeal.main_arg0)
      ∧ r.2.mem ((c.tc : Thread Cert.ScanGradIdeal.nD Cert.ScanGradIdeal.τ).loc Cert.ScanGradIdeal.main_arg1) = m ((c.tc : Thread Cert.ScanGradIdeal.nD Cert.ScanGradIdeal.τ).loc Cert.ScanGradIdeal.main_arg1)
      ∧ r.2.mem ((c.tc : Thread Cert.ScanGradIdeal.nD Cert.ScanGradIdeal.τ).loc Cert.ScanGradIdeal.main_arg2) = m ((c.tc : Thread Cert.ScanGradIdeal.nD Cert.ScanGradIdeal.τ).loc Cert.ScanGradIdeal.main_arg2)
      ∧ r.2.mem ((c.tc : Thread Cert.ScanGradIdeal.nD Cert.ScanGradIdeal.τ).loc Cert.ScanGradIdeal.main_arg3) = m ((c.tc : Thread Cert.ScanGradIdeal.nD Cert.ScanGradIdeal.τ).loc Cert.ScanGradIdeal.main_arg3)
      ∧ r.2.mem ((c.tc : Thread Cert.ScanGradIdeal.nD Cert.ScanGradIdeal.τ).loc Cert.ScanGradIdeal.main_arg4) = m ((c.tc : Thread Cert.ScanGradIdeal.nD Cert.ScanGradIdeal.τ).loc Cert.ScanGradIdeal.main_arg4)
      ∧ r.2.mem ((c.tc : Thread Cert.ScanGradIdeal.nD Cert.ScanGradIdeal.τ).loc Cert.ScanGradIdeal.main_arg5) = m ((c.tc : Thread Cert.ScanGradIdeal.nD Cert.ScanGradIdeal.τ).loc Cert.ScanGradIdeal.main_arg5)
      ∧ r.2.mem ((c.tc : Thread Cert.ScanGradIdeal.nD Cert.ScanGradIdeal.τ).loc Cert.ScanGradIdeal.main_arg6) = m ((c.tc : Thread Cert.ScanGradIdeal.nD Cert.ScanGradIdeal.τ).loc Cert.ScanGradIdeal.main_arg6)
      ∧ r.2.mem ((c.tc : Thread Cert.ScanGradIdeal.nD Cert.ScanGradIdeal.τ).loc Cert.ScanGradIdeal.main_arg7) = m ((c.tc : Thread Cert.ScanGradIdeal.nD Cert.ScanGradIdeal.τ).loc Cert.ScanGradIdeal.main_arg7))
      ∧ r.2.sem = fun _ => 0)

def quiescent_ScanGradRefIdeal [hScanGradRefIdeal : Cert.ScanGradRefIdeal.Facts] : Prop :=
  ∀ (m : (ℓ : Loc Cert.ScanGradRefIdeal.nD Cert.ScanGradRefIdeal.τ Cert.ScanGradRefIdeal.sig) → Buf (Elt Ideal) ℓ) (g : Dev Cert.ScanGradRefIdeal.nD → PrngReg), Pre_ScanGradRefIdeal m →
    θ_run (Cert.ScanGradRefIdeal.defs (F := Ideal)) (onTc (τ := Cert.ScanGradRefIdeal.τ) (Cert.ScanGradRefIdeal.main (F := Ideal))) ⟨m, fun _ => 0, g⟩ (fun r => (∀ c : Dev Cert.ScanGradRefIdeal.nD,
      r.2.mem ((c.tc : Thread Cert.ScanGradRefIdeal.nD Cert.ScanGradRefIdeal.τ).loc Cert.ScanGradRefIdeal.main_arg0) = m ((c.tc : Thread Cert.ScanGradRefIdeal.nD Cert.ScanGradRefIdeal.τ).loc Cert.ScanGradRefIdeal.main_arg0)
      ∧ r.2.mem ((c.tc : Thread Cert.ScanGradRefIdeal.nD Cert.ScanGradRefIdeal.τ).loc Cert.ScanGradRefIdeal.main_arg1) = m ((c.tc : Thread Cert.ScanGradRefIdeal.nD Cert.ScanGradRefIdeal.τ).loc Cert.ScanGradRefIdeal.main_arg1)
      ∧ r.2.mem ((c.tc : Thread Cert.ScanGradRefIdeal.nD Cert.ScanGradRefIdeal.τ).loc Cert.ScanGradRefIdeal.main_arg2) = m ((c.tc : Thread Cert.ScanGradRefIdeal.nD Cert.ScanGradRefIdeal.τ).loc Cert.ScanGradRefIdeal.main_arg2)
      ∧ r.2.mem ((c.tc : Thread Cert.ScanGradRefIdeal.nD Cert.ScanGradRefIdeal.τ).loc Cert.ScanGradRefIdeal.main_arg3) = m ((c.tc : Thread Cert.ScanGradRefIdeal.nD Cert.ScanGradRefIdeal.τ).loc Cert.ScanGradRefIdeal.main_arg3)
      ∧ r.2.mem ((c.tc : Thread Cert.ScanGradRefIdeal.nD Cert.ScanGradRefIdeal.τ).loc Cert.ScanGradRefIdeal.main_arg4) = m ((c.tc : Thread Cert.ScanGradRefIdeal.nD Cert.ScanGradRefIdeal.τ).loc Cert.ScanGradRefIdeal.main_arg4)
      ∧ r.2.mem ((c.tc : Thread Cert.ScanGradRefIdeal.nD Cert.ScanGradRefIdeal.τ).loc Cert.ScanGradRefIdeal.main_arg5) = m ((c.tc : Thread Cert.ScanGradRefIdeal.nD Cert.ScanGradRefIdeal.τ).loc Cert.ScanGradRefIdeal.main_arg5)
      ∧ r.2.mem ((c.tc : Thread Cert.ScanGradRefIdeal.nD Cert.ScanGradRefIdeal.τ).loc Cert.ScanGradRefIdeal.main_arg6) = m ((c.tc : Thread Cert.ScanGradRefIdeal.nD Cert.ScanGradRefIdeal.τ).loc Cert.ScanGradRefIdeal.main_arg6)
      ∧ r.2.mem ((c.tc : Thread Cert.ScanGradRefIdeal.nD Cert.ScanGradRefIdeal.τ).loc Cert.ScanGradRefIdeal.main_arg7) = m ((c.tc : Thread Cert.ScanGradRefIdeal.nD Cert.ScanGradRefIdeal.τ).loc Cert.ScanGradRefIdeal.main_arg7))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3))
      ∧ r.2.sem = fun _ => 0)

def quiescent_LruPostGrad [hLruPostGrad : Cert.LruPostGrad.Facts] : Prop :=
  ∀ (m : (ℓ : Loc Cert.LruPostGrad.nD Cert.LruPostGrad.τ Cert.LruPostGrad.sig) → Buf (Elt Bits) ℓ) (g : Dev Cert.LruPostGrad.nD → PrngReg), Pre_LruPostGrad m →
    θ_run (Cert.LruPostGrad.defs (F := Bits)) (onTc (τ := Cert.LruPostGrad.τ) (Cert.LruPostGrad.main (F := Bits))) ⟨m, fun _ => 0, g⟩ (fun r => (∀ c : Dev Cert.LruPostGrad.nD,
      r.2.mem ((c.tc : Thread Cert.LruPostGrad.nD Cert.LruPostGrad.τ).loc Cert.LruPostGrad.main_arg0) = m ((c.tc : Thread Cert.LruPostGrad.nD Cert.LruPostGrad.τ).loc Cert.LruPostGrad.main_arg0)
      ∧ r.2.mem ((c.tc : Thread Cert.LruPostGrad.nD Cert.LruPostGrad.τ).loc Cert.LruPostGrad.main_arg1) = m ((c.tc : Thread Cert.LruPostGrad.nD Cert.LruPostGrad.τ).loc Cert.LruPostGrad.main_arg1)
      ∧ r.2.mem ((c.tc : Thread Cert.LruPostGrad.nD Cert.LruPostGrad.τ).loc Cert.LruPostGrad.main_arg2) = m ((c.tc : Thread Cert.LruPostGrad.nD Cert.LruPostGrad.τ).loc Cert.LruPostGrad.main_arg2)
      ∧ r.2.mem ((c.tc : Thread Cert.LruPostGrad.nD Cert.LruPostGrad.τ).loc Cert.LruPostGrad.main_arg3) = m ((c.tc : Thread Cert.LruPostGrad.nD Cert.LruPostGrad.τ).loc Cert.LruPostGrad.main_arg3))
      ∧ r.2.sem = fun _ => 0)

def quiescent_LruPostGradIdeal [hLruPostGradIdeal : Cert.LruPostGradIdeal.Facts] : Prop :=
  ∀ (m : (ℓ : Loc Cert.LruPostGradIdeal.nD Cert.LruPostGradIdeal.τ Cert.LruPostGradIdeal.sig) → Buf (Elt Ideal) ℓ) (g : Dev Cert.LruPostGradIdeal.nD → PrngReg), Pre_LruPostGradIdeal m →
    θ_run (Cert.LruPostGradIdeal.defs (F := Ideal)) (onTc (τ := Cert.LruPostGradIdeal.τ) (Cert.LruPostGradIdeal.main (F := Ideal))) ⟨m, fun _ => 0, g⟩ (fun r => (∀ c : Dev Cert.LruPostGradIdeal.nD,
      r.2.mem ((c.tc : Thread Cert.LruPostGradIdeal.nD Cert.LruPostGradIdeal.τ).loc Cert.LruPostGradIdeal.main_arg0) = m ((c.tc : Thread Cert.LruPostGradIdeal.nD Cert.LruPostGradIdeal.τ).loc Cert.LruPostGradIdeal.main_arg0)
      ∧ r.2.mem ((c.tc : Thread Cert.LruPostGradIdeal.nD Cert.LruPostGradIdeal.τ).loc Cert.LruPostGradIdeal.main_arg1) = m ((c.tc : Thread Cert.LruPostGradIdeal.nD Cert.LruPostGradIdeal.τ).loc Cert.LruPostGradIdeal.main_arg1)
      ∧ r.2.mem ((c.tc : Thread Cert.LruPostGradIdeal.nD Cert.LruPostGradIdeal.τ).loc Cert.LruPostGradIdeal.main_arg2) = m ((c.tc : Thread Cert.LruPostGradIdeal.nD Cert.LruPostGradIdeal.τ).loc Cert.LruPostGradIdeal.main_arg2)
      ∧ r.2.mem ((c.tc : Thread Cert.LruPostGradIdeal.nD Cert.LruPostGradIdeal.τ).loc Cert.LruPostGradIdeal.main_arg3) = m ((c.tc : Thread Cert.LruPostGradIdeal.nD Cert.LruPostGradIdeal.τ).loc Cert.LruPostGradIdeal.main_arg3))
      ∧ r.2.sem = fun _ => 0)

def quiescent_LruPostGradRefIdeal [hLruPostGradRefIdeal : Cert.LruPostGradRefIdeal.Facts] : Prop :=
  ∀ (m : (ℓ : Loc Cert.LruPostGradRefIdeal.nD Cert.LruPostGradRefIdeal.τ Cert.LruPostGradRefIdeal.sig) → Buf (Elt Ideal) ℓ) (g : Dev Cert.LruPostGradRefIdeal.nD → PrngReg), Pre_LruPostGradRefIdeal m →
    θ_run (Cert.LruPostGradRefIdeal.defs (F := Ideal)) (onTc (τ := Cert.LruPostGradRefIdeal.τ) (Cert.LruPostGradRefIdeal.main (F := Ideal))) ⟨m, fun _ => 0, g⟩ (fun r => (∀ c : Dev Cert.LruPostGradRefIdeal.nD,
      r.2.mem ((c.tc : Thread Cert.LruPostGradRefIdeal.nD Cert.LruPostGradRefIdeal.τ).loc Cert.LruPostGradRefIdeal.main_arg0) = m ((c.tc : Thread Cert.LruPostGradRefIdeal.nD Cert.LruPostGradRefIdeal.τ).loc Cert.LruPostGradRefIdeal.main_arg0)
      ∧ r.2.mem ((c.tc : Thread Cert.LruPostGradRefIdeal.nD Cert.LruPostGradRefIdeal.τ).loc Cert.LruPostGradRefIdeal.main_arg1) = m ((c.tc : Thread Cert.LruPostGradRefIdeal.nD Cert.LruPostGradRefIdeal.τ).loc Cert.LruPostGradRefIdeal.main_arg1)
      ∧ r.2.mem ((c.tc : Thread Cert.LruPostGradRefIdeal.nD Cert.LruPostGradRefIdeal.τ).loc Cert.LruPostGradRefIdeal.main_arg2) = m ((c.tc : Thread Cert.LruPostGradRefIdeal.nD Cert.LruPostGradRefIdeal.τ).loc Cert.LruPostGradRefIdeal.main_arg2)
      ∧ r.2.mem ((c.tc : Thread Cert.LruPostGradRefIdeal.nD Cert.LruPostGradRefIdeal.τ).loc Cert.LruPostGradRefIdeal.main_arg3) = m ((c.tc : Thread Cert.LruPostGradRefIdeal.nD Cert.LruPostGradRefIdeal.τ).loc Cert.LruPostGradRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_LruPostFwd [hLruPostFwd : Cert.LruPostFwd.Facts] : Prop :=
  ∀ (m : (ℓ : Loc Cert.LruPostFwd.nD Cert.LruPostFwd.τ Cert.LruPostFwd.sig) → Buf (Elt Bits) ℓ) (g : Dev Cert.LruPostFwd.nD → PrngReg), Pre_LruPostFwd m →
    θ_run (Cert.LruPostFwd.defs (F := Bits)) (onTc (τ := Cert.LruPostFwd.τ) (Cert.LruPostFwd.main (F := Bits))) ⟨m, fun _ => 0, g⟩ (fun r => (∀ c : Dev Cert.LruPostFwd.nD,
      r.2.mem ((c.tc : Thread Cert.LruPostFwd.nD Cert.LruPostFwd.τ).loc Cert.LruPostFwd.main_arg0) = m ((c.tc : Thread Cert.LruPostFwd.nD Cert.LruPostFwd.τ).loc Cert.LruPostFwd.main_arg0)
      ∧ r.2.mem ((c.tc : Thread Cert.LruPostFwd.nD Cert.LruPostFwd.τ).loc Cert.LruPostFwd.main_arg1) = m ((c.tc : Thread Cert.LruPostFwd.nD Cert.LruPostFwd.τ).loc Cert.LruPostFwd.main_arg1))
      ∧ r.2.sem = fun _ => 0)

def quiescent_LruPostFwdIdeal [hLruPostFwdIdeal : Cert.LruPostFwdIdeal.Facts] : Prop :=
  ∀ (m : (ℓ : Loc Cert.LruPostFwdIdeal.nD Cert.LruPostFwdIdeal.τ Cert.LruPostFwdIdeal.sig) → Buf (Elt Ideal) ℓ) (g : Dev Cert.LruPostFwdIdeal.nD → PrngReg), Pre_LruPostFwdIdeal m →
    θ_run (Cert.LruPostFwdIdeal.defs (F := Ideal)) (onTc (τ := Cert.LruPostFwdIdeal.τ) (Cert.LruPostFwdIdeal.main (F := Ideal))) ⟨m, fun _ => 0, g⟩ (fun r => (∀ c : Dev Cert.LruPostFwdIdeal.nD,
      r.2.mem ((c.tc : Thread Cert.LruPostFwdIdeal.nD Cert.LruPostFwdIdeal.τ).loc Cert.LruPostFwdIdeal.main_arg0) = m ((c.tc : Thread Cert.LruPostFwdIdeal.nD Cert.LruPostFwdIdeal.τ).loc Cert.LruPostFwdIdeal.main_arg0)
      ∧ r.2.mem ((c.tc : Thread Cert.LruPostFwdIdeal.nD Cert.LruPostFwdIdeal.τ).loc Cert.LruPostFwdIdeal.main_arg1) = m ((c.tc : Thread Cert.LruPostFwdIdeal.nD Cert.LruPostFwdIdeal.τ).loc Cert.LruPostFwdIdeal.main_arg1))
      ∧ r.2.sem = fun _ => 0)

def quiescent_LruPostFwdRefIdeal [hLruPostFwdRefIdeal : Cert.LruPostFwdRefIdeal.Facts] : Prop :=
  ∀ (m : (ℓ : Loc Cert.LruPostFwdRefIdeal.nD Cert.LruPostFwdRefIdeal.τ Cert.LruPostFwdRefIdeal.sig) → Buf (Elt Ideal) ℓ) (g : Dev Cert.LruPostFwdRefIdeal.nD → PrngReg), Pre_LruPostFwdRefIdeal m →
    θ_run (Cert.LruPostFwdRefIdeal.defs (F := Ideal)) (onTc (τ := Cert.LruPostFwdRefIdeal.τ) (Cert.LruPostFwdRefIdeal.main (F := Ideal))) ⟨m, fun _ => 0, g⟩ (fun r => (∀ c : Dev Cert.LruPostFwdRefIdeal.nD,
      r.2.mem ((c.tc : Thread Cert.LruPostFwdRefIdeal.nD Cert.LruPostFwdRefIdeal.τ).loc Cert.LruPostFwdRefIdeal.main_arg0) = m ((c.tc : Thread Cert.LruPostFwdRefIdeal.nD Cert.LruPostFwdRefIdeal.τ).loc Cert.LruPostFwdRefIdeal.main_arg0)
      ∧ r.2.mem ((c.tc : Thread Cert.LruPostFwdRefIdeal.nD Cert.LruPostFwdRefIdeal.τ).loc Cert.LruPostFwdRefIdeal.main_arg1) = m ((c.tc : Thread Cert.LruPostFwdRefIdeal.nD Cert.LruPostFwdRefIdeal.τ).loc Cert.LruPostFwdRefIdeal.main_arg1))
      ∧ r.2.sem = fun _ => 0)

def quiescent_RetPostFwd [hRetPostFwd : Cert.RetPostFwd.Facts] : Prop :=
  ∀ (m : (ℓ : Loc Cert.RetPostFwd.nD Cert.RetPostFwd.τ Cert.RetPostFwd.sig) → Buf (Elt Bits) ℓ) (g : Dev Cert.RetPostFwd.nD → PrngReg), Pre_RetPostFwd m →
    θ_run (Cert.RetPostFwd.defs (F := Bits)) (onTc (τ := Cert.RetPostFwd.τ) (Cert.RetPostFwd.main (F := Bits))) ⟨m, fun _ => 0, g⟩ (fun r => (∀ c : Dev Cert.RetPostFwd.nD,
      r.2.mem ((c.tc : Thread Cert.RetPostFwd.nD Cert.RetPostFwd.τ).loc Cert.RetPostFwd.main_arg0) = m ((c.tc : Thread Cert.RetPostFwd.nD Cert.RetPostFwd.τ).loc Cert.RetPostFwd.main_arg0)
      ∧ r.2.mem ((c.tc : Thread Cert.RetPostFwd.nD Cert.RetPostFwd.τ).loc Cert.RetPostFwd.main_arg1) = m ((c.tc : Thread Cert.RetPostFwd.nD Cert.RetPostFwd.τ).loc Cert.RetPostFwd.main_arg1))
      ∧ r.2.sem = fun _ => 0)

def quiescent_RetPostFwdIdeal [hRetPostFwdIdeal : Cert.RetPostFwdIdeal.Facts] : Prop :=
  ∀ (m : (ℓ : Loc Cert.RetPostFwdIdeal.nD Cert.RetPostFwdIdeal.τ Cert.RetPostFwdIdeal.sig) → Buf (Elt Ideal) ℓ) (g : Dev Cert.RetPostFwdIdeal.nD → PrngReg), Pre_RetPostFwdIdeal m →
    θ_run (Cert.RetPostFwdIdeal.defs (F := Ideal)) (onTc (τ := Cert.RetPostFwdIdeal.τ) (Cert.RetPostFwdIdeal.main (F := Ideal))) ⟨m, fun _ => 0, g⟩ (fun r => (∀ c : Dev Cert.RetPostFwdIdeal.nD,
      r.2.mem ((c.tc : Thread Cert.RetPostFwdIdeal.nD Cert.RetPostFwdIdeal.τ).loc Cert.RetPostFwdIdeal.main_arg0) = m ((c.tc : Thread Cert.RetPostFwdIdeal.nD Cert.RetPostFwdIdeal.τ).loc Cert.RetPostFwdIdeal.main_arg0)
      ∧ r.2.mem ((c.tc : Thread Cert.RetPostFwdIdeal.nD Cert.RetPostFwdIdeal.τ).loc Cert.RetPostFwdIdeal.main_arg1) = m ((c.tc : Thread Cert.RetPostFwdIdeal.nD Cert.RetPostFwdIdeal.τ).loc Cert.RetPostFwdIdeal.main_arg1))
      ∧ r.2.sem = fun _ => 0)

def quiescent_RetPostFwdRefIdeal [hRetPostFwdRefIdeal : Cert.RetPostFwdRefIdeal.Facts] : Prop :=
  ∀ (m : (ℓ : Loc Cert.RetPostFwdRefIdeal.nD Cert.RetPostFwdRefIdeal.τ Cert.RetPostFwdRefIdeal.sig) → Buf (Elt Ideal) ℓ) (g : Dev Cert.RetPostFwdRefIdeal.nD → PrngReg), Pre_RetPostFwdRefIdeal m →
    θ_run (Cert.RetPostFwdRefIdeal.defs (F := Ideal)) (onTc (τ := Cert.RetPostFwdRefIdeal.τ) (Cert.RetPostFwdRefIdeal.main (F := Ideal))) ⟨m, fun _ => 0, g⟩ (fun r => (∀ c : Dev Cert.RetPostFwdRefIdeal.nD,
      r.2.mem ((c.tc : Thread Cert.RetPostFwdRefIdeal.nD Cert.RetPostFwdRefIdeal.τ).loc Cert.RetPostFwdRefIdeal.main_arg0) = m ((c.tc : Thread Cert.RetPostFwdRefIdeal.nD Cert.RetPostFwdRefIdeal.τ).loc Cert.RetPostFwdRefIdeal.main_arg0)
      ∧ r.2.mem ((c.tc : Thread Cert.RetPostFwdRefIdeal.nD Cert.RetPostFwdRefIdeal.τ).loc Cert.RetPostFwdRefIdeal.main_arg1) = m ((c.tc : Thread Cert.RetPostFwdRefIdeal.nD Cert.RetPostFwdRefIdeal.τ).loc Cert.RetPostFwdRefIdeal.main_arg1))
      ∧ r.2.sem = fun _ => 0)

def quiescent_DnPostFwd [hDnPostFwd : Cert.DnPostFwd.Facts] : Prop :=
  ∀ (m : (ℓ : Loc Cert.DnPostFwd.nD Cert.DnPostFwd.τ Cert.DnPostFwd.sig) → Buf (Elt Bits) ℓ) (g : Dev Cert.DnPostFwd.nD → PrngReg), Pre_DnPostFwd m →
    θ_run (Cert.DnPostFwd.defs (F := Bits)) (onTc (τ := Cert.DnPostFwd.τ) (Cert.DnPostFwd.main (F := Bits))) ⟨m, fun _ => 0, g⟩ (fun r => (∀ c : Dev Cert.DnPostFwd.nD,
      r.2.mem ((c.tc : Thread Cert.DnPostFwd.nD Cert.DnPostFwd.τ).loc Cert.DnPostFwd.main_arg0) = m ((c.tc : Thread Cert.DnPostFwd.nD Cert.DnPostFwd.τ).loc Cert.DnPostFwd.main_arg0)
      ∧ r.2.mem ((c.tc : Thread Cert.DnPostFwd.nD Cert.DnPostFwd.τ).loc Cert.DnPostFwd.main_arg1) = m ((c.tc : Thread Cert.DnPostFwd.nD Cert.DnPostFwd.τ).loc Cert.DnPostFwd.main_arg1)
      ∧ r.2.mem ((c.tc : Thread Cert.DnPostFwd.nD Cert.DnPostFwd.τ).loc Cert.DnPostFwd.main_arg2) = m ((c.tc : Thread Cert.DnPostFwd.nD Cert.DnPostFwd.τ).loc Cert.DnPostFwd.main_arg2))
      ∧ r.2.sem = fun _ => 0)

def quiescent_DnPostFwdIdeal [hDnPostFwdIdeal : Cert.DnPostFwdIdeal.Facts] : Prop :=
  ∀ (m : (ℓ : Loc Cert.DnPostFwdIdeal.nD Cert.DnPostFwdIdeal.τ Cert.DnPostFwdIdeal.sig) → Buf (Elt Ideal) ℓ) (g : Dev Cert.DnPostFwdIdeal.nD → PrngReg), Pre_DnPostFwdIdeal m →
    θ_run (Cert.DnPostFwdIdeal.defs (F := Ideal)) (onTc (τ := Cert.DnPostFwdIdeal.τ) (Cert.DnPostFwdIdeal.main (F := Ideal))) ⟨m, fun _ => 0, g⟩ (fun r => (∀ c : Dev Cert.DnPostFwdIdeal.nD,
      r.2.mem ((c.tc : Thread Cert.DnPostFwdIdeal.nD Cert.DnPostFwdIdeal.τ).loc Cert.DnPostFwdIdeal.main_arg0) = m ((c.tc : Thread Cert.DnPostFwdIdeal.nD Cert.DnPostFwdIdeal.τ).loc Cert.DnPostFwdIdeal.main_arg0)
      ∧ r.2.mem ((c.tc : Thread Cert.DnPostFwdIdeal.nD Cert.DnPostFwdIdeal.τ).loc Cert.DnPostFwdIdeal.main_arg1) = m ((c.tc : Thread Cert.DnPostFwdIdeal.nD Cert.DnPostFwdIdeal.τ).loc Cert.DnPostFwdIdeal.main_arg1)
      ∧ r.2.mem ((c.tc : Thread Cert.DnPostFwdIdeal.nD Cert.DnPostFwdIdeal.τ).loc Cert.DnPostFwdIdeal.main_arg2) = m ((c.tc : Thread Cert.DnPostFwdIdeal.nD Cert.DnPostFwdIdeal.τ).loc Cert.DnPostFwdIdeal.main_arg2))
      ∧ r.2.sem = fun _ => 0)

def quiescent_DnPostFwdRefIdeal [hDnPostFwdRefIdeal : Cert.DnPostFwdRefIdeal.Facts] : Prop :=
  ∀ (m : (ℓ : Loc Cert.DnPostFwdRefIdeal.nD Cert.DnPostFwdRefIdeal.τ Cert.DnPostFwdRefIdeal.sig) → Buf (Elt Ideal) ℓ) (g : Dev Cert.DnPostFwdRefIdeal.nD → PrngReg), Pre_DnPostFwdRefIdeal m →
    θ_run (Cert.DnPostFwdRefIdeal.defs (F := Ideal)) (onTc (τ := Cert.DnPostFwdRefIdeal.τ) (Cert.DnPostFwdRefIdeal.main (F := Ideal))) ⟨m, fun _ => 0, g⟩ (fun r => (∀ c : Dev Cert.DnPostFwdRefIdeal.nD,
      r.2.mem ((c.tc : Thread Cert.DnPostFwdRefIdeal.nD Cert.DnPostFwdRefIdeal.τ).loc Cert.DnPostFwdRefIdeal.main_arg0) = m ((c.tc : Thread Cert.DnPostFwdRefIdeal.nD Cert.DnPostFwdRefIdeal.τ).loc Cert.DnPostFwdRefIdeal.main_arg0)
      ∧ r.2.mem ((c.tc : Thread Cert.DnPostFwdRefIdeal.nD Cert.DnPostFwdRefIdeal.τ).loc Cert.DnPostFwdRefIdeal.main_arg1) = m ((c.tc : Thread Cert.DnPostFwdRefIdeal.nD Cert.DnPostFwdRefIdeal.τ).loc Cert.DnPostFwdRefIdeal.main_arg1)
      ∧ r.2.mem ((c.tc : Thread Cert.DnPostFwdRefIdeal.nD Cert.DnPostFwdRefIdeal.τ).loc Cert.DnPostFwdRefIdeal.main_arg2) = m ((c.tc : Thread Cert.DnPostFwdRefIdeal.nD Cert.DnPostFwdRefIdeal.τ).loc Cert.DnPostFwdRefIdeal.main_arg2))
      ∧ r.2.sem = fun _ => 0)

def preserves_MergeGrad_MergeGradIdeal : Prop :=
  True

def algebraic_MergeGradIdeal_MergeGradRefIdeal [hMergeGradIdeal : Cert.MergeGradIdeal.Facts] [hMergeGradRefIdeal : Cert.MergeGradRefIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg)
    (m' : (ℓ : Loc Cert.MergeGradRefIdeal.nD Cert.MergeGradRefIdeal.τ Cert.MergeGradRefIdeal.sig) → Buf (Elt Ideal) ℓ) (g' : Dev Cert.MergeGradRefIdeal.nD → PrngReg), Pre_MergeGradIdeal m →
    (∀ c : Dev Cert.MergeGradIdeal.nD,
      m' ((c.tc : Thread Cert.MergeGradRefIdeal.nD Cert.MergeGradRefIdeal.τ).loc Cert.MergeGradRefIdeal.main_arg0) = m ((c.tc : Thread Cert.MergeGradIdeal.nD Cert.MergeGradIdeal.τ).loc Cert.MergeGradIdeal.main_arg0)
      ∧ m' ((c.tc : Thread Cert.MergeGradRefIdeal.nD Cert.MergeGradRefIdeal.τ).loc Cert.MergeGradRefIdeal.main_arg1) = m ((c.tc : Thread Cert.MergeGradIdeal.nD Cert.MergeGradIdeal.τ).loc Cert.MergeGradIdeal.main_arg1)
      ∧ m' ((c.tc : Thread Cert.MergeGradRefIdeal.nD Cert.MergeGradRefIdeal.τ).loc Cert.MergeGradRefIdeal.main_arg2) = m ((c.tc : Thread Cert.MergeGradIdeal.nD Cert.MergeGradIdeal.τ).loc Cert.MergeGradIdeal.main_arg2)
      ∧ m' ((c.tc : Thread Cert.MergeGradRefIdeal.nD Cert.MergeGradRefIdeal.τ).loc Cert.MergeGradRefIdeal.main_arg3) = m ((c.tc : Thread Cert.MergeGradIdeal.nD Cert.MergeGradIdeal.τ).loc Cert.MergeGradIdeal.main_arg3)
      ∧ m' ((c.tc : Thread Cert.MergeGradRefIdeal.nD Cert.MergeGradRefIdeal.τ).loc Cert.MergeGradRefIdeal.main_arg4) = m ((c.tc : Thread Cert.MergeGradIdeal.nD Cert.MergeGradIdeal.τ).loc Cert.MergeGradIdeal.main_arg4)
      ∧ m' ((c.tc : Thread Cert.MergeGradRefIdeal.nD Cert.MergeGradRefIdeal.τ).loc Cert.MergeGradRefIdeal.main_arg5) = m ((c.tc : Thread Cert.MergeGradIdeal.nD Cert.MergeGradIdeal.τ).loc Cert.MergeGradIdeal.main_arg5)
      ∧ m' ((c.tc : Thread Cert.MergeGradRefIdeal.nD Cert.MergeGradRefIdeal.τ).loc Cert.MergeGradRefIdeal.main_arg6) = m ((c.tc : Thread Cert.MergeGradIdeal.nD Cert.MergeGradIdeal.τ).loc Cert.MergeGradIdeal.main_arg6)) →
    ∃ (v0 : (c : Dev Cert.MergeGradIdeal.nD) → Buf (Elt Ideal) ((c.tc : Thread Cert.MergeGradIdeal.nD Cert.MergeGradIdeal.τ).loc Cert.MergeGradIdeal.main_v0_0)) (v1 : (c : Dev Cert.MergeGradIdeal.nD) → Buf (Elt Ideal) ((c.tc : Thread Cert.MergeGradIdeal.nD Cert.MergeGradIdeal.τ).loc Cert.MergeGradIdeal.main_v0_1)) (v2 : (c : Dev Cert.MergeGradIdeal.nD) → Buf (Elt Ideal) ((c.tc : Thread Cert.MergeGradIdeal.nD Cert.MergeGradIdeal.τ).loc Cert.MergeGradIdeal.main_v0_2)) (v3 : (c : Dev Cert.MergeGradIdeal.nD) → Buf (Elt Ideal) ((c.tc : Thread Cert.MergeGradIdeal.nD Cert.MergeGradIdeal.τ).loc Cert.MergeGradIdeal.main_v0_3)),
      θ_run (Cert.MergeGradIdeal.defs (F := Ideal)) (onTc (τ := Cert.MergeGradIdeal.τ) (Cert.MergeGradIdeal.main (F := Ideal))) ⟨m, fun _ => 0, g⟩ (fun r => ∀ c : Dev Cert.MergeGradIdeal.nD,
          r.2.mem ((c.tc : Thread Cert.MergeGradIdeal.nD Cert.MergeGradIdeal.τ).loc Cert.MergeGradIdeal.main_v0_0) = v0 c
          ∧ r.2.mem ((c.tc : Thread Cert.MergeGradIdeal.nD Cert.MergeGradIdeal.τ).loc Cert.MergeGradIdeal.main_v0_1) = v1 c
          ∧ r.2.mem ((c.tc : Thread Cert.MergeGradIdeal.nD Cert.MergeGradIdeal.τ).loc Cert.MergeGradIdeal.main_v0_2) = v2 c
          ∧ r.2.mem ((c.tc : Thread Cert.MergeGradIdeal.nD Cert.MergeGradIdeal.τ).loc Cert.MergeGradIdeal.main_v0_3) = v3 c
          ∧ r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
          ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
          ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
          ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
          ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4)
          ∧ r.2.mem ((c.tc : Thread Cert.MergeGradIdeal.nD Cert.MergeGradIdeal.τ).loc Cert.MergeGradIdeal.main_arg5) = m ((c.tc : Thread Cert.MergeGradIdeal.nD Cert.MergeGradIdeal.τ).loc Cert.MergeGradIdeal.main_arg5)
          ∧ r.2.mem ((c.tc : Thread Cert.MergeGradIdeal.nD Cert.MergeGradIdeal.τ).loc Cert.MergeGradIdeal.main_arg6) = m ((c.tc : Thread Cert.MergeGradIdeal.nD Cert.MergeGradIdeal.τ).loc Cert.MergeGradIdeal.main_arg6))
      ∧ θ_run (Cert.MergeGradRefIdeal.defs (F := Ideal)) (onTc (τ := Cert.MergeGradRefIdeal.τ) (Cert.MergeGradRefIdeal.main (F := Ideal))) ⟨m', fun _ => 0, g'⟩ (fun r => ∀ c : Dev Cert.MergeGradRefIdeal.nD,
          r.2.mem ((c.tc : Thread Cert.MergeGradRefIdeal.nD Cert.MergeGradRefIdeal.τ).loc Cert.MergeGradRefIdeal.main_v62) = v0 c
          ∧ r.2.mem ((c.tc : Thread Cert.MergeGradRefIdeal.nD Cert.MergeGradRefIdeal.τ).loc Cert.MergeGradRefIdeal.main_v63) = v1 c
          ∧ r.2.mem ((c.tc : Thread Cert.MergeGradRefIdeal.nD Cert.MergeGradRefIdeal.τ).loc Cert.MergeGradRefIdeal.main_v64) = v2 c
          ∧ r.2.mem ((c.tc : Thread Cert.MergeGradRefIdeal.nD Cert.MergeGradRefIdeal.τ).loc Cert.MergeGradRefIdeal.main_v61) = v3 c
          ∧ r.2.mem ((c.tc : Thread Cert.MergeGradRefIdeal.nD Cert.MergeGradRefIdeal.τ).loc Cert.MergeGradRefIdeal.main_arg0) = m' ((c.tc : Thread Cert.MergeGradRefIdeal.nD Cert.MergeGradRefIdeal.τ).loc Cert.MergeGradRefIdeal.main_arg0)
          ∧ r.2.mem ((c.tc : Thread Cert.MergeGradRefIdeal.nD Cert.MergeGradRefIdeal.τ).loc Cert.MergeGradRefIdeal.main_arg1) = m' ((c.tc : Thread Cert.MergeGradRefIdeal.nD Cert.MergeGradRefIdeal.τ).loc Cert.MergeGradRefIdeal.main_arg1)
          ∧ r.2.mem ((c.tc : Thread Cert.MergeGradRefIdeal.nD Cert.MergeGradRefIdeal.τ).loc Cert.MergeGradRefIdeal.main_arg2) = m' ((c.tc : Thread Cert.MergeGradRefIdeal.nD Cert.MergeGradRefIdeal.τ).loc Cert.MergeGradRefIdeal.main_arg2)
          ∧ r.2.mem ((c.tc : Thread Cert.MergeGradRefIdeal.nD Cert.MergeGradRefIdeal.τ).loc Cert.MergeGradRefIdeal.main_arg3) = m' ((c.tc : Thread Cert.MergeGradRefIdeal.nD Cert.MergeGradRefIdeal.τ).loc Cert.MergeGradRefIdeal.main_arg3)
          ∧ r.2.mem ((c.tc : Thread Cert.MergeGradRefIdeal.nD Cert.MergeGradRefIdeal.τ).loc Cert.MergeGradRefIdeal.main_arg4) = m' ((c.tc : Thread Cert.MergeGradRefIdeal.nD Cert.MergeGradRefIdeal.τ).loc Cert.MergeGradRefIdeal.main_arg4)
          ∧ r.2.mem ((c.tc : Thread Cert.MergeGradRefIdeal.nD Cert.MergeGradRefIdeal.τ).loc Cert.MergeGradRefIdeal.main_arg5) = m' ((c.tc : Thread Cert.MergeGradRefIdeal.nD Cert.MergeGradRefIdeal.τ).loc Cert.MergeGradRefIdeal.main_arg5)
          ∧ r.2.mem ((c.tc : Thread Cert.MergeGradRefIdeal.nD Cert.MergeGradRefIdeal.τ).loc Cert.MergeGradRefIdeal.main_arg6) = m' ((c.tc : Thread Cert.MergeGradRefIdeal.nD Cert.MergeGradRefIdeal.τ).loc Cert.MergeGradRefIdeal.main_arg6))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpGateDx_UpGateDxIdeal : Prop :=
  True

def algebraic_UpGateDxIdeal_UpGateDxRefIdeal [hUpGateDxIdeal : Cert.UpGateDxIdeal.Facts] [hUpGateDxRefIdeal : Cert.UpGateDxRefIdeal.Facts] : Prop :=
  ∀ (m : (ℓ : Loc Cert.UpGateDxIdeal.nD Cert.UpGateDxIdeal.τ Cert.UpGateDxIdeal.sig) → Buf (Elt Ideal) ℓ) (g : Dev Cert.UpGateDxIdeal.nD → PrngReg)
    (m' : (ℓ : Loc Cert.UpGateDxRefIdeal.nD Cert.UpGateDxRefIdeal.τ Cert.UpGateDxRefIdeal.sig) → Buf (Elt Ideal) ℓ) (g' : Dev Cert.UpGateDxRefIdeal.nD → PrngReg), Pre_UpGateDxIdeal m →
    (∀ c : Dev Cert.UpGateDxIdeal.nD,
      m' ((c.tc : Thread Cert.UpGateDxRefIdeal.nD Cert.UpGateDxRefIdeal.τ).loc Cert.UpGateDxRefIdeal.main_arg0) = m ((c.tc : Thread Cert.UpGateDxIdeal.nD Cert.UpGateDxIdeal.τ).loc Cert.UpGateDxIdeal.main_arg0)
      ∧ m' ((c.tc : Thread Cert.UpGateDxRefIdeal.nD Cert.UpGateDxRefIdeal.τ).loc Cert.UpGateDxRefIdeal.main_arg1) = m ((c.tc : Thread Cert.UpGateDxIdeal.nD Cert.UpGateDxIdeal.τ).loc Cert.UpGateDxIdeal.main_arg1)
      ∧ m' ((c.tc : Thread Cert.UpGateDxRefIdeal.nD Cert.UpGateDxRefIdeal.τ).loc Cert.UpGateDxRefIdeal.main_arg2) = m ((c.tc : Thread Cert.UpGateDxIdeal.nD Cert.UpGateDxIdeal.τ).loc Cert.UpGateDxIdeal.main_arg2)) →
    ∃ (v0 : (c : Dev Cert.UpGateDxIdeal.nD) → Buf (Elt Ideal) ((c.tc : Thread Cert.UpGateDxIdeal.nD Cert.UpGateDxIdeal.τ).loc Cert.UpGateDxIdeal.main_v0)),
      θ_run (Cert.UpGateDxIdeal.defs (F := Ideal)) (onTc (τ := Cert.UpGateDxIdeal.τ) (Cert.UpGateDxIdeal.main (F := Ideal))) ⟨m, fun _ => 0, g⟩ (fun r => ∀ c : Dev Cert.UpGateDxIdeal.nD,
          r.2.mem ((c.tc : Thread Cert.UpGateDxIdeal.nD Cert.UpGateDxIdeal.τ).loc Cert.UpGateDxIdeal.main_v0) = v0 c
          ∧ r.2.mem ((c.tc : Thread Cert.UpGateDxIdeal.nD Cert.UpGateDxIdeal.τ).loc Cert.UpGateDxIdeal.main_arg0) = m ((c.tc : Thread Cert.UpGateDxIdeal.nD Cert.UpGateDxIdeal.τ).loc Cert.UpGateDxIdeal.main_arg0)
          ∧ r.2.mem ((c.tc : Thread Cert.UpGateDxIdeal.nD Cert.UpGateDxIdeal.τ).loc Cert.UpGateDxIdeal.main_arg1) = m ((c.tc : Thread Cert.UpGateDxIdeal.nD Cert.UpGateDxIdeal.τ).loc Cert.UpGateDxIdeal.main_arg1)
          ∧ r.2.mem ((c.tc : Thread Cert.UpGateDxIdeal.nD Cert.UpGateDxIdeal.τ).loc Cert.UpGateDxIdeal.main_arg2) = m ((c.tc : Thread Cert.UpGateDxIdeal.nD Cert.UpGateDxIdeal.τ).loc Cert.UpGateDxIdeal.main_arg2))
      ∧ θ_run (Cert.UpGateDxRefIdeal.defs (F := Ideal)) (onTc (τ := Cert.UpGateDxRefIdeal.τ) (Cert.UpGateDxRefIdeal.main (F := Ideal))) ⟨m', fun _ => 0, g'⟩ (fun r => ∀ c : Dev Cert.UpGateDxRefIdeal.nD,
          r.2.mem ((c.tc : Thread Cert.UpGateDxRefIdeal.nD Cert.UpGateDxRefIdeal.τ).loc Cert.UpGateDxRefIdeal.main_v5) = v0 c
          ∧ r.2.mem ((c.tc : Thread Cert.UpGateDxRefIdeal.nD Cert.UpGateDxRefIdeal.τ).loc Cert.UpGateDxRefIdeal.main_arg0) = m' ((c.tc : Thread Cert.UpGateDxRefIdeal.nD Cert.UpGateDxRefIdeal.τ).loc Cert.UpGateDxRefIdeal.main_arg0)
          ∧ r.2.mem ((c.tc : Thread Cert.UpGateDxRefIdeal.nD Cert.UpGateDxRefIdeal.τ).loc Cert.UpGateDxRefIdeal.main_arg1) = m' ((c.tc : Thread Cert.UpGateDxRefIdeal.nD Cert.UpGateDxRefIdeal.τ).loc Cert.UpGateDxRefIdeal.main_arg1)
          ∧ r.2.mem ((c.tc : Thread Cert.UpGateDxRefIdeal.nD Cert.UpGateDxRefIdeal.τ).loc Cert.UpGateDxRefIdeal.main_arg2) = m' ((c.tc : Thread Cert.UpGateDxRefIdeal.nD Cert.UpGateDxRefIdeal.τ).loc Cert.UpGateDxRefIdeal.main_arg2))

def preserves_UpValDx_UpValDxIdeal : Prop :=
  True

def algebraic_UpValDxIdeal_UpValDxRefIdeal [hUpValDxIdeal : Cert.UpValDxIdeal.Facts] [hUpValDxRefIdeal : Cert.UpValDxRefIdeal.Facts] : Prop :=
  ∀ (m : (ℓ : Loc Cert.UpValDxIdeal.nD Cert.UpValDxIdeal.τ Cert.UpValDxIdeal.sig) → Buf (Elt Ideal) ℓ) (g : Dev Cert.UpValDxIdeal.nD → PrngReg)
    (m' : (ℓ : Loc Cert.UpValDxRefIdeal.nD Cert.UpValDxRefIdeal.τ Cert.UpValDxRefIdeal.sig) → Buf (Elt Ideal) ℓ) (g' : Dev Cert.UpValDxRefIdeal.nD → PrngReg), Pre_UpValDxIdeal m →
    (∀ c : Dev Cert.UpValDxIdeal.nD,
      m' ((c.tc : Thread Cert.UpValDxRefIdeal.nD Cert.UpValDxRefIdeal.τ).loc Cert.UpValDxRefIdeal.main_arg0) = m ((c.tc : Thread Cert.UpValDxIdeal.nD Cert.UpValDxIdeal.τ).loc Cert.UpValDxIdeal.main_arg0)
      ∧ m' ((c.tc : Thread Cert.UpValDxRefIdeal.nD Cert.UpValDxRefIdeal.τ).loc Cert.UpValDxRefIdeal.main_arg1) = m ((c.tc : Thread Cert.UpValDxIdeal.nD Cert.UpValDxIdeal.τ).loc Cert.UpValDxIdeal.main_arg1)
      ∧ m' ((c.tc : Thread Cert.UpValDxRefIdeal.nD Cert.UpValDxRefIdeal.τ).loc Cert.UpValDxRefIdeal.main_arg2) = m ((c.tc : Thread Cert.UpValDxIdeal.nD Cert.UpValDxIdeal.τ).loc Cert.UpValDxIdeal.main_arg2)) →
    ∃ (v0 : (c : Dev Cert.UpValDxIdeal.nD) → Buf (Elt Ideal) ((c.tc : Thread Cert.UpValDxIdeal.nD Cert.UpValDxIdeal.τ).loc Cert.UpValDxIdeal.main_v0)),
      θ_run (Cert.UpValDxIdeal.defs (F := Ideal)) (onTc (τ := Cert.UpValDxIdeal.τ) (Cert.UpValDxIdeal.main (F := Ideal))) ⟨m, fun _ => 0, g⟩ (fun r => ∀ c : Dev Cert.UpValDxIdeal.nD,
          r.2.mem ((c.tc : Thread Cert.UpValDxIdeal.nD Cert.UpValDxIdeal.τ).loc Cert.UpValDxIdeal.main_v0) = v0 c
          ∧ r.2.mem ((c.tc : Thread Cert.UpValDxIdeal.nD Cert.UpValDxIdeal.τ).loc Cert.UpValDxIdeal.main_arg0) = m ((c.tc : Thread Cert.UpValDxIdeal.nD Cert.UpValDxIdeal.τ).loc Cert.UpValDxIdeal.main_arg0)
          ∧ r.2.mem ((c.tc : Thread Cert.UpValDxIdeal.nD Cert.UpValDxIdeal.τ).loc Cert.UpValDxIdeal.main_arg1) = m ((c.tc : Thread Cert.UpValDxIdeal.nD Cert.UpValDxIdeal.τ).loc Cert.UpValDxIdeal.main_arg1)
          ∧ r.2.mem ((c.tc : Thread Cert.UpValDxIdeal.nD Cert.UpValDxIdeal.τ).loc Cert.UpValDxIdeal.main_arg2) = m ((c.tc : Thread Cert.UpValDxIdeal.nD Cert.UpValDxIdeal.τ).loc Cert.UpValDxIdeal.main_arg2))
      ∧ θ_run (Cert.UpValDxRefIdeal.defs (F := Ideal)) (onTc (τ := Cert.UpValDxRefIdeal.τ) (Cert.UpValDxRefIdeal.main (F := Ideal))) ⟨m', fun _ => 0, g'⟩ (fun r => ∀ c : Dev Cert.UpValDxRefIdeal.nD,
          r.2.mem ((c.tc : Thread Cert.UpValDxRefIdeal.nD Cert.UpValDxRefIdeal.τ).loc Cert.UpValDxRefIdeal.main_v6) = v0 c
          ∧ r.2.mem ((c.tc : Thread Cert.UpValDxRefIdeal.nD Cert.UpValDxRefIdeal.τ).loc Cert.UpValDxRefIdeal.main_arg0) = m' ((c.tc : Thread Cert.UpValDxRefIdeal.nD Cert.UpValDxRefIdeal.τ).loc Cert.UpValDxRefIdeal.main_arg0)
          ∧ r.2.mem ((c.tc : Thread Cert.UpValDxRefIdeal.nD Cert.UpValDxRefIdeal.τ).loc Cert.UpValDxRefIdeal.main_arg1) = m' ((c.tc : Thread Cert.UpValDxRefIdeal.nD Cert.UpValDxRefIdeal.τ).loc Cert.UpValDxRefIdeal.main_arg1)
          ∧ r.2.mem ((c.tc : Thread Cert.UpValDxRefIdeal.nD Cert.UpValDxRefIdeal.τ).loc Cert.UpValDxRefIdeal.main_arg2) = m' ((c.tc : Thread Cert.UpValDxRefIdeal.nD Cert.UpValDxRefIdeal.τ).loc Cert.UpValDxRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v4) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v5) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v2) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v2) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v3) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v0_0)) (v1 : (c : Dev Cert.OutFwdIdeal.nD) → Buf (Elt Ideal) ((c.tc : Thread Cert.OutFwdIdeal.nD Cert.OutFwdIdeal.τ).loc Cert.OutFwdIdeal.main_v0_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0_0) = v0 c
          ∧ r.2.mem ((c.tc : Thread Cert.OutFwdIdeal.nD Cert.OutFwdIdeal.τ).loc Cert.OutFwdIdeal.main_v0_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_v16) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v43) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_ScanGrad_ScanGradIdeal : Prop :=
  True

def algebraic_ScanGradIdeal_ScanGradRefIdeal [hScanGradIdeal : Cert.ScanGradIdeal.Facts] [hScanGradRefIdeal : Cert.ScanGradRefIdeal.Facts] : Prop :=
  ∀ (m : (ℓ : Loc Cert.ScanGradIdeal.nD Cert.ScanGradIdeal.τ Cert.ScanGradIdeal.sig) → Buf (Elt Ideal) ℓ) (g : Dev Cert.ScanGradIdeal.nD → PrngReg)
    (m' : (ℓ : Loc Cert.ScanGradRefIdeal.nD Cert.ScanGradRefIdeal.τ Cert.ScanGradRefIdeal.sig) → Buf (Elt Ideal) ℓ) (g' : Dev Cert.ScanGradRefIdeal.nD → PrngReg), Pre_ScanGradIdeal m →
    (∀ c : Dev Cert.ScanGradIdeal.nD,
      m' ((c.tc : Thread Cert.ScanGradRefIdeal.nD Cert.ScanGradRefIdeal.τ).loc Cert.ScanGradRefIdeal.main_arg0) = m ((c.tc : Thread Cert.ScanGradIdeal.nD Cert.ScanGradIdeal.τ).loc Cert.ScanGradIdeal.main_arg0)
      ∧ m' ((c.tc : Thread Cert.ScanGradRefIdeal.nD Cert.ScanGradRefIdeal.τ).loc Cert.ScanGradRefIdeal.main_arg1) = m ((c.tc : Thread Cert.ScanGradIdeal.nD Cert.ScanGradIdeal.τ).loc Cert.ScanGradIdeal.main_arg1)
      ∧ m' ((c.tc : Thread Cert.ScanGradRefIdeal.nD Cert.ScanGradRefIdeal.τ).loc Cert.ScanGradRefIdeal.main_arg2) = m ((c.tc : Thread Cert.ScanGradIdeal.nD Cert.ScanGradIdeal.τ).loc Cert.ScanGradIdeal.main_arg2)
      ∧ m' ((c.tc : Thread Cert.ScanGradRefIdeal.nD Cert.ScanGradRefIdeal.τ).loc Cert.ScanGradRefIdeal.main_arg3) = m ((c.tc : Thread Cert.ScanGradIdeal.nD Cert.ScanGradIdeal.τ).loc Cert.ScanGradIdeal.main_arg3)
      ∧ m' ((c.tc : Thread Cert.ScanGradRefIdeal.nD Cert.ScanGradRefIdeal.τ).loc Cert.ScanGradRefIdeal.main_arg4) = m ((c.tc : Thread Cert.ScanGradIdeal.nD Cert.ScanGradIdeal.τ).loc Cert.ScanGradIdeal.main_arg4)
      ∧ m' ((c.tc : Thread Cert.ScanGradRefIdeal.nD Cert.ScanGradRefIdeal.τ).loc Cert.ScanGradRefIdeal.main_arg5) = m ((c.tc : Thread Cert.ScanGradIdeal.nD Cert.ScanGradIdeal.τ).loc Cert.ScanGradIdeal.main_arg5)
      ∧ m' ((c.tc : Thread Cert.ScanGradRefIdeal.nD Cert.ScanGradRefIdeal.τ).loc Cert.ScanGradRefIdeal.main_arg6) = m ((c.tc : Thread Cert.ScanGradIdeal.nD Cert.ScanGradIdeal.τ).loc Cert.ScanGradIdeal.main_arg6)
      ∧ m' ((c.tc : Thread Cert.ScanGradRefIdeal.nD Cert.ScanGradRefIdeal.τ).loc Cert.ScanGradRefIdeal.main_arg7) = m ((c.tc : Thread Cert.ScanGradIdeal.nD Cert.ScanGradIdeal.τ).loc Cert.ScanGradIdeal.main_arg7)) →
    ∃ (v0 : (c : Dev Cert.ScanGradIdeal.nD) → Buf (Elt Ideal) ((c.tc : Thread Cert.ScanGradIdeal.nD Cert.ScanGradIdeal.τ).loc Cert.ScanGradIdeal.main_v0_0)) (v1 : (c : Dev Cert.ScanGradIdeal.nD) → Buf (Elt Ideal) ((c.tc : Thread Cert.ScanGradIdeal.nD Cert.ScanGradIdeal.τ).loc Cert.ScanGradIdeal.main_v0_1)) (v2 : (c : Dev Cert.ScanGradIdeal.nD) → Buf (Elt Ideal) ((c.tc : Thread Cert.ScanGradIdeal.nD Cert.ScanGradIdeal.τ).loc Cert.ScanGradIdeal.main_v0_2)) (v3 : (c : Dev Cert.ScanGradIdeal.nD) → Buf (Elt Ideal) ((c.tc : Thread Cert.ScanGradIdeal.nD Cert.ScanGradIdeal.τ).loc Cert.ScanGradIdeal.main_v0_3)) (v4 : (c : Dev Cert.ScanGradIdeal.nD) → Buf (Elt Ideal) ((c.tc : Thread Cert.ScanGradIdeal.nD Cert.ScanGradIdeal.τ).loc Cert.ScanGradIdeal.main_v0_4)) (v5 : (c : Dev Cert.ScanGradIdeal.nD) → Buf (Elt Ideal) ((c.tc : Thread Cert.ScanGradIdeal.nD Cert.ScanGradIdeal.τ).loc Cert.ScanGradIdeal.main_v0_5)),
      θ_run (Cert.ScanGradIdeal.defs (F := Ideal)) (onTc (τ := Cert.ScanGradIdeal.τ) (Cert.ScanGradIdeal.main (F := Ideal))) ⟨m, fun _ => 0, g⟩ (fun r => ∀ c : Dev Cert.ScanGradIdeal.nD,
          r.2.mem ((c.tc : Thread Cert.ScanGradIdeal.nD Cert.ScanGradIdeal.τ).loc Cert.ScanGradIdeal.main_v0_0) = v0 c
          ∧ r.2.mem ((c.tc : Thread Cert.ScanGradIdeal.nD Cert.ScanGradIdeal.τ).loc Cert.ScanGradIdeal.main_v0_1) = v1 c
          ∧ r.2.mem ((c.tc : Thread Cert.ScanGradIdeal.nD Cert.ScanGradIdeal.τ).loc Cert.ScanGradIdeal.main_v0_2) = v2 c
          ∧ r.2.mem ((c.tc : Thread Cert.ScanGradIdeal.nD Cert.ScanGradIdeal.τ).loc Cert.ScanGradIdeal.main_v0_3) = v3 c
          ∧ r.2.mem ((c.tc : Thread Cert.ScanGradIdeal.nD Cert.ScanGradIdeal.τ).loc Cert.ScanGradIdeal.main_v0_4) = v4 c
          ∧ r.2.mem ((c.tc : Thread Cert.ScanGradIdeal.nD Cert.ScanGradIdeal.τ).loc Cert.ScanGradIdeal.main_v0_5) = v5 c
          ∧ r.2.mem ((c.tc : Thread Cert.ScanGradIdeal.nD Cert.ScanGradIdeal.τ).loc Cert.ScanGradIdeal.main_arg0) = m ((c.tc : Thread Cert.ScanGradIdeal.nD Cert.ScanGradIdeal.τ).loc Cert.ScanGradIdeal.main_arg0)
          ∧ r.2.mem ((c.tc : Thread Cert.ScanGradIdeal.nD Cert.ScanGradIdeal.τ).loc Cert.ScanGradIdeal.main_arg1) = m ((c.tc : Thread Cert.ScanGradIdeal.nD Cert.ScanGradIdeal.τ).loc Cert.ScanGradIdeal.main_arg1)
          ∧ r.2.mem ((c.tc : Thread Cert.ScanGradIdeal.nD Cert.ScanGradIdeal.τ).loc Cert.ScanGradIdeal.main_arg2) = m ((c.tc : Thread Cert.ScanGradIdeal.nD Cert.ScanGradIdeal.τ).loc Cert.ScanGradIdeal.main_arg2)
          ∧ r.2.mem ((c.tc : Thread Cert.ScanGradIdeal.nD Cert.ScanGradIdeal.τ).loc Cert.ScanGradIdeal.main_arg3) = m ((c.tc : Thread Cert.ScanGradIdeal.nD Cert.ScanGradIdeal.τ).loc Cert.ScanGradIdeal.main_arg3)
          ∧ r.2.mem ((c.tc : Thread Cert.ScanGradIdeal.nD Cert.ScanGradIdeal.τ).loc Cert.ScanGradIdeal.main_arg4) = m ((c.tc : Thread Cert.ScanGradIdeal.nD Cert.ScanGradIdeal.τ).loc Cert.ScanGradIdeal.main_arg4)
          ∧ r.2.mem ((c.tc : Thread Cert.ScanGradIdeal.nD Cert.ScanGradIdeal.τ).loc Cert.ScanGradIdeal.main_arg5) = m ((c.tc : Thread Cert.ScanGradIdeal.nD Cert.ScanGradIdeal.τ).loc Cert.ScanGradIdeal.main_arg5)
          ∧ r.2.mem ((c.tc : Thread Cert.ScanGradIdeal.nD Cert.ScanGradIdeal.τ).loc Cert.ScanGradIdeal.main_arg6) = m ((c.tc : Thread Cert.ScanGradIdeal.nD Cert.ScanGradIdeal.τ).loc Cert.ScanGradIdeal.main_arg6)
          ∧ r.2.mem ((c.tc : Thread Cert.ScanGradIdeal.nD Cert.ScanGradIdeal.τ).loc Cert.ScanGradIdeal.main_arg7) = m ((c.tc : Thread Cert.ScanGradIdeal.nD Cert.ScanGradIdeal.τ).loc Cert.ScanGradIdeal.main_arg7))
      ∧ θ_run (Cert.ScanGradRefIdeal.defs (F := Ideal)) (onTc (τ := Cert.ScanGradRefIdeal.τ) (Cert.ScanGradRefIdeal.main (F := Ideal))) ⟨m', fun _ => 0, g'⟩ (fun r => ∀ c : Dev Cert.ScanGradRefIdeal.nD,
          r.2.mem ((c.tc : Thread Cert.ScanGradRefIdeal.nD Cert.ScanGradRefIdeal.τ).loc Cert.ScanGradRefIdeal.main_v40) = v0 c
          ∧ r.2.mem ((c.tc : Thread Cert.ScanGradRefIdeal.nD Cert.ScanGradRefIdeal.τ).loc Cert.ScanGradRefIdeal.main_v38) = v1 c
          ∧ r.2.mem ((c.tc : Thread Cert.ScanGradRefIdeal.nD Cert.ScanGradRefIdeal.τ).loc Cert.ScanGradRefIdeal.main_v36) = v2 c
          ∧ r.2.mem ((c.tc : Thread Cert.ScanGradRefIdeal.nD Cert.ScanGradRefIdeal.τ).loc Cert.ScanGradRefIdeal.main_v33) = v3 c
          ∧ r.2.mem ((c.tc : Thread Cert.ScanGradRefIdeal.nD Cert.ScanGradRefIdeal.τ).loc Cert.ScanGradRefIdeal.main_v31) = v4 c
          ∧ r.2.mem ((c.tc : Thread Cert.ScanGradRefIdeal.nD Cert.ScanGradRefIdeal.τ).loc Cert.ScanGradRefIdeal.main_v45) = v5 c
          ∧ r.2.mem ((c.tc : Thread Cert.ScanGradRefIdeal.nD Cert.ScanGradRefIdeal.τ).loc Cert.ScanGradRefIdeal.main_arg0) = m' ((c.tc : Thread Cert.ScanGradRefIdeal.nD Cert.ScanGradRefIdeal.τ).loc Cert.ScanGradRefIdeal.main_arg0)
          ∧ r.2.mem ((c.tc : Thread Cert.ScanGradRefIdeal.nD Cert.ScanGradRefIdeal.τ).loc Cert.ScanGradRefIdeal.main_arg1) = m' ((c.tc : Thread Cert.ScanGradRefIdeal.nD Cert.ScanGradRefIdeal.τ).loc Cert.ScanGradRefIdeal.main_arg1)
          ∧ r.2.mem ((c.tc : Thread Cert.ScanGradRefIdeal.nD Cert.ScanGradRefIdeal.τ).loc Cert.ScanGradRefIdeal.main_arg2) = m' ((c.tc : Thread Cert.ScanGradRefIdeal.nD Cert.ScanGradRefIdeal.τ).loc Cert.ScanGradRefIdeal.main_arg2)
          ∧ r.2.mem ((c.tc : Thread Cert.ScanGradRefIdeal.nD Cert.ScanGradRefIdeal.τ).loc Cert.ScanGradRefIdeal.main_arg3) = m' ((c.tc : Thread Cert.ScanGradRefIdeal.nD Cert.ScanGradRefIdeal.τ).loc Cert.ScanGradRefIdeal.main_arg3)
          ∧ r.2.mem ((c.tc : Thread Cert.ScanGradRefIdeal.nD Cert.ScanGradRefIdeal.τ).loc Cert.ScanGradRefIdeal.main_arg4) = m' ((c.tc : Thread Cert.ScanGradRefIdeal.nD Cert.ScanGradRefIdeal.τ).loc Cert.ScanGradRefIdeal.main_arg4)
          ∧ r.2.mem ((c.tc : Thread Cert.ScanGradRefIdeal.nD Cert.ScanGradRefIdeal.τ).loc Cert.ScanGradRefIdeal.main_arg5) = m' ((c.tc : Thread Cert.ScanGradRefIdeal.nD Cert.ScanGradRefIdeal.τ).loc Cert.ScanGradRefIdeal.main_arg5)
          ∧ r.2.mem ((c.tc : Thread Cert.ScanGradRefIdeal.nD Cert.ScanGradRefIdeal.τ).loc Cert.ScanGradRefIdeal.main_arg6) = m' ((c.tc : Thread Cert.ScanGradRefIdeal.nD Cert.ScanGradRefIdeal.τ).loc Cert.ScanGradRefIdeal.main_arg6)
          ∧ r.2.mem ((c.tc : Thread Cert.ScanGradRefIdeal.nD Cert.ScanGradRefIdeal.τ).loc Cert.ScanGradRefIdeal.main_arg7) = m' ((c.tc : Thread Cert.ScanGradRefIdeal.nD Cert.ScanGradRefIdeal.τ).loc Cert.ScanGradRefIdeal.main_arg7))

def preserves_NormGrad_NormGradIdeal : Prop :=
  True

def algebraic_NormGradIdeal_NormGradRefIdeal [hNormGradIdeal : Cert.NormGradIdeal.Facts] [hNormGradRefIdeal : Cert.NormGradRefIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_1)) (v2 : (c : Dev Cert.NormGradIdeal.nD) → Buf (Elt Ideal) ((c.tc : Thread Cert.NormGradIdeal.nD Cert.NormGradIdeal.τ).loc Cert.NormGradIdeal.main_v0_2)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_1) = v1 c
          ∧ r.2.mem ((c.tc : Thread Cert.NormGradIdeal.nD Cert.NormGradIdeal.τ).loc Cert.NormGradIdeal.main_v0_2) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v34) = v0 c
          ∧ r.2.mem ((c.tc : Thread Cert.NormGradRefIdeal.nD Cert.NormGradRefIdeal.τ).loc Cert.NormGradRefIdeal.main_v35) = v1 c
          ∧ r.2.mem ((c.tc : Thread Cert.NormGradRefIdeal.nD Cert.NormGradRefIdeal.τ).loc Cert.NormGradRefIdeal.main_v36) = v2 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3))

def preserves_LruPostGrad_LruPostGradIdeal : Prop :=
  True

def algebraic_LruPostGradIdeal_LruPostGradRefIdeal [hLruPostGradIdeal : Cert.LruPostGradIdeal.Facts] [hLruPostGradRefIdeal : Cert.LruPostGradRefIdeal.Facts] : Prop :=
  ∀ (m : (ℓ : Loc Cert.LruPostGradIdeal.nD Cert.LruPostGradIdeal.τ Cert.LruPostGradIdeal.sig) → Buf (Elt Ideal) ℓ) (g : Dev Cert.LruPostGradIdeal.nD → PrngReg)
    (m' : (ℓ : Loc Cert.LruPostGradRefIdeal.nD Cert.LruPostGradRefIdeal.τ Cert.LruPostGradRefIdeal.sig) → Buf (Elt Ideal) ℓ) (g' : Dev Cert.LruPostGradRefIdeal.nD → PrngReg), Pre_LruPostGradIdeal m →
    (∀ c : Dev Cert.LruPostGradIdeal.nD,
      m' ((c.tc : Thread Cert.LruPostGradRefIdeal.nD Cert.LruPostGradRefIdeal.τ).loc Cert.LruPostGradRefIdeal.main_arg0) = m ((c.tc : Thread Cert.LruPostGradIdeal.nD Cert.LruPostGradIdeal.τ).loc Cert.LruPostGradIdeal.main_arg0)
      ∧ m' ((c.tc : Thread Cert.LruPostGradRefIdeal.nD Cert.LruPostGradRefIdeal.τ).loc Cert.LruPostGradRefIdeal.main_arg1) = m ((c.tc : Thread Cert.LruPostGradIdeal.nD Cert.LruPostGradIdeal.τ).loc Cert.LruPostGradIdeal.main_arg1)
      ∧ m' ((c.tc : Thread Cert.LruPostGradRefIdeal.nD Cert.LruPostGradRefIdeal.τ).loc Cert.LruPostGradRefIdeal.main_arg2) = m ((c.tc : Thread Cert.LruPostGradIdeal.nD Cert.LruPostGradIdeal.τ).loc Cert.LruPostGradIdeal.main_arg2)
      ∧ m' ((c.tc : Thread Cert.LruPostGradRefIdeal.nD Cert.LruPostGradRefIdeal.τ).loc Cert.LruPostGradRefIdeal.main_arg3) = m ((c.tc : Thread Cert.LruPostGradIdeal.nD Cert.LruPostGradIdeal.τ).loc Cert.LruPostGradIdeal.main_arg3)) →
    ∃ (v0 : (c : Dev Cert.LruPostGradIdeal.nD) → Buf (Elt Ideal) ((c.tc : Thread Cert.LruPostGradIdeal.nD Cert.LruPostGradIdeal.τ).loc Cert.LruPostGradIdeal.main_v0_0)) (v1 : (c : Dev Cert.LruPostGradIdeal.nD) → Buf (Elt Ideal) ((c.tc : Thread Cert.LruPostGradIdeal.nD Cert.LruPostGradIdeal.τ).loc Cert.LruPostGradIdeal.main_v0_1)),
      θ_run (Cert.LruPostGradIdeal.defs (F := Ideal)) (onTc (τ := Cert.LruPostGradIdeal.τ) (Cert.LruPostGradIdeal.main (F := Ideal))) ⟨m, fun _ => 0, g⟩ (fun r => ∀ c : Dev Cert.LruPostGradIdeal.nD,
          r.2.mem ((c.tc : Thread Cert.LruPostGradIdeal.nD Cert.LruPostGradIdeal.τ).loc Cert.LruPostGradIdeal.main_v0_0) = v0 c
          ∧ r.2.mem ((c.tc : Thread Cert.LruPostGradIdeal.nD Cert.LruPostGradIdeal.τ).loc Cert.LruPostGradIdeal.main_v0_1) = v1 c
          ∧ r.2.mem ((c.tc : Thread Cert.LruPostGradIdeal.nD Cert.LruPostGradIdeal.τ).loc Cert.LruPostGradIdeal.main_arg0) = m ((c.tc : Thread Cert.LruPostGradIdeal.nD Cert.LruPostGradIdeal.τ).loc Cert.LruPostGradIdeal.main_arg0)
          ∧ r.2.mem ((c.tc : Thread Cert.LruPostGradIdeal.nD Cert.LruPostGradIdeal.τ).loc Cert.LruPostGradIdeal.main_arg1) = m ((c.tc : Thread Cert.LruPostGradIdeal.nD Cert.LruPostGradIdeal.τ).loc Cert.LruPostGradIdeal.main_arg1)
          ∧ r.2.mem ((c.tc : Thread Cert.LruPostGradIdeal.nD Cert.LruPostGradIdeal.τ).loc Cert.LruPostGradIdeal.main_arg2) = m ((c.tc : Thread Cert.LruPostGradIdeal.nD Cert.LruPostGradIdeal.τ).loc Cert.LruPostGradIdeal.main_arg2)
          ∧ r.2.mem ((c.tc : Thread Cert.LruPostGradIdeal.nD Cert.LruPostGradIdeal.τ).loc Cert.LruPostGradIdeal.main_arg3) = m ((c.tc : Thread Cert.LruPostGradIdeal.nD Cert.LruPostGradIdeal.τ).loc Cert.LruPostGradIdeal.main_arg3))
      ∧ θ_run (Cert.LruPostGradRefIdeal.defs (F := Ideal)) (onTc (τ := Cert.LruPostGradRefIdeal.τ) (Cert.LruPostGradRefIdeal.main (F := Ideal))) ⟨m', fun _ => 0, g'⟩ (fun r => ∀ c : Dev Cert.LruPostGradRefIdeal.nD,
          r.2.mem ((c.tc : Thread Cert.LruPostGradRefIdeal.nD Cert.LruPostGradRefIdeal.τ).loc Cert.LruPostGradRefIdeal.main_v24) = v0 c
          ∧ r.2.mem ((c.tc : Thread Cert.LruPostGradRefIdeal.nD Cert.LruPostGradRefIdeal.τ).loc Cert.LruPostGradRefIdeal.main_v40) = v1 c
          ∧ r.2.mem ((c.tc : Thread Cert.LruPostGradRefIdeal.nD Cert.LruPostGradRefIdeal.τ).loc Cert.LruPostGradRefIdeal.main_arg0) = m' ((c.tc : Thread Cert.LruPostGradRefIdeal.nD Cert.LruPostGradRefIdeal.τ).loc Cert.LruPostGradRefIdeal.main_arg0)
          ∧ r.2.mem ((c.tc : Thread Cert.LruPostGradRefIdeal.nD Cert.LruPostGradRefIdeal.τ).loc Cert.LruPostGradRefIdeal.main_arg1) = m' ((c.tc : Thread Cert.LruPostGradRefIdeal.nD Cert.LruPostGradRefIdeal.τ).loc Cert.LruPostGradRefIdeal.main_arg1)
          ∧ r.2.mem ((c.tc : Thread Cert.LruPostGradRefIdeal.nD Cert.LruPostGradRefIdeal.τ).loc Cert.LruPostGradRefIdeal.main_arg2) = m' ((c.tc : Thread Cert.LruPostGradRefIdeal.nD Cert.LruPostGradRefIdeal.τ).loc Cert.LruPostGradRefIdeal.main_arg2)
          ∧ r.2.mem ((c.tc : Thread Cert.LruPostGradRefIdeal.nD Cert.LruPostGradRefIdeal.τ).loc Cert.LruPostGradRefIdeal.main_arg3) = m' ((c.tc : Thread Cert.LruPostGradRefIdeal.nD Cert.LruPostGradRefIdeal.τ).loc Cert.LruPostGradRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_LruPostFwd_LruPostFwdIdeal : Prop :=
  True

def algebraic_LruPostFwdIdeal_LruPostFwdRefIdeal [hLruPostFwdIdeal : Cert.LruPostFwdIdeal.Facts] [hLruPostFwdRefIdeal : Cert.LruPostFwdRefIdeal.Facts] : Prop :=
  ∀ (m : (ℓ : Loc Cert.LruPostFwdIdeal.nD Cert.LruPostFwdIdeal.τ Cert.LruPostFwdIdeal.sig) → Buf (Elt Ideal) ℓ) (g : Dev Cert.LruPostFwdIdeal.nD → PrngReg)
    (m' : (ℓ : Loc Cert.LruPostFwdRefIdeal.nD Cert.LruPostFwdRefIdeal.τ Cert.LruPostFwdRefIdeal.sig) → Buf (Elt Ideal) ℓ) (g' : Dev Cert.LruPostFwdRefIdeal.nD → PrngReg), Pre_LruPostFwdIdeal m →
    (∀ c : Dev Cert.LruPostFwdIdeal.nD,
      m' ((c.tc : Thread Cert.LruPostFwdRefIdeal.nD Cert.LruPostFwdRefIdeal.τ).loc Cert.LruPostFwdRefIdeal.main_arg0) = m ((c.tc : Thread Cert.LruPostFwdIdeal.nD Cert.LruPostFwdIdeal.τ).loc Cert.LruPostFwdIdeal.main_arg0)
      ∧ m' ((c.tc : Thread Cert.LruPostFwdRefIdeal.nD Cert.LruPostFwdRefIdeal.τ).loc Cert.LruPostFwdRefIdeal.main_arg1) = m ((c.tc : Thread Cert.LruPostFwdIdeal.nD Cert.LruPostFwdIdeal.τ).loc Cert.LruPostFwdIdeal.main_arg1)) →
    ∃ (v0 : (c : Dev Cert.LruPostFwdIdeal.nD) → Buf (Elt Ideal) ((c.tc : Thread Cert.LruPostFwdIdeal.nD Cert.LruPostFwdIdeal.τ).loc Cert.LruPostFwdIdeal.main_v0)),
      θ_run (Cert.LruPostFwdIdeal.defs (F := Ideal)) (onTc (τ := Cert.LruPostFwdIdeal.τ) (Cert.LruPostFwdIdeal.main (F := Ideal))) ⟨m, fun _ => 0, g⟩ (fun r => ∀ c : Dev Cert.LruPostFwdIdeal.nD,
          r.2.mem ((c.tc : Thread Cert.LruPostFwdIdeal.nD Cert.LruPostFwdIdeal.τ).loc Cert.LruPostFwdIdeal.main_v0) = v0 c
          ∧ r.2.mem ((c.tc : Thread Cert.LruPostFwdIdeal.nD Cert.LruPostFwdIdeal.τ).loc Cert.LruPostFwdIdeal.main_arg0) = m ((c.tc : Thread Cert.LruPostFwdIdeal.nD Cert.LruPostFwdIdeal.τ).loc Cert.LruPostFwdIdeal.main_arg0)
          ∧ r.2.mem ((c.tc : Thread Cert.LruPostFwdIdeal.nD Cert.LruPostFwdIdeal.τ).loc Cert.LruPostFwdIdeal.main_arg1) = m ((c.tc : Thread Cert.LruPostFwdIdeal.nD Cert.LruPostFwdIdeal.τ).loc Cert.LruPostFwdIdeal.main_arg1))
      ∧ θ_run (Cert.LruPostFwdRefIdeal.defs (F := Ideal)) (onTc (τ := Cert.LruPostFwdRefIdeal.τ) (Cert.LruPostFwdRefIdeal.main (F := Ideal))) ⟨m', fun _ => 0, g'⟩ (fun r => ∀ c : Dev Cert.LruPostFwdRefIdeal.nD,
          r.2.mem ((c.tc : Thread Cert.LruPostFwdRefIdeal.nD Cert.LruPostFwdRefIdeal.τ).loc Cert.LruPostFwdRefIdeal.main_v15) = v0 c
          ∧ r.2.mem ((c.tc : Thread Cert.LruPostFwdRefIdeal.nD Cert.LruPostFwdRefIdeal.τ).loc Cert.LruPostFwdRefIdeal.main_arg0) = m' ((c.tc : Thread Cert.LruPostFwdRefIdeal.nD Cert.LruPostFwdRefIdeal.τ).loc Cert.LruPostFwdRefIdeal.main_arg0)
          ∧ r.2.mem ((c.tc : Thread Cert.LruPostFwdRefIdeal.nD Cert.LruPostFwdRefIdeal.τ).loc Cert.LruPostFwdRefIdeal.main_arg1) = m' ((c.tc : Thread Cert.LruPostFwdRefIdeal.nD Cert.LruPostFwdRefIdeal.τ).loc Cert.LruPostFwdRefIdeal.main_arg1))

def preserves_RetPostFwd_RetPostFwdIdeal : Prop :=
  True

def algebraic_RetPostFwdIdeal_RetPostFwdRefIdeal [hRetPostFwdIdeal : Cert.RetPostFwdIdeal.Facts] [hRetPostFwdRefIdeal : Cert.RetPostFwdRefIdeal.Facts] : Prop :=
  ∀ (m : (ℓ : Loc Cert.RetPostFwdIdeal.nD Cert.RetPostFwdIdeal.τ Cert.RetPostFwdIdeal.sig) → Buf (Elt Ideal) ℓ) (g : Dev Cert.RetPostFwdIdeal.nD → PrngReg)
    (m' : (ℓ : Loc Cert.RetPostFwdRefIdeal.nD Cert.RetPostFwdRefIdeal.τ Cert.RetPostFwdRefIdeal.sig) → Buf (Elt Ideal) ℓ) (g' : Dev Cert.RetPostFwdRefIdeal.nD → PrngReg), Pre_RetPostFwdIdeal m →
    (∀ c : Dev Cert.RetPostFwdIdeal.nD,
      m' ((c.tc : Thread Cert.RetPostFwdRefIdeal.nD Cert.RetPostFwdRefIdeal.τ).loc Cert.RetPostFwdRefIdeal.main_arg0) = m ((c.tc : Thread Cert.RetPostFwdIdeal.nD Cert.RetPostFwdIdeal.τ).loc Cert.RetPostFwdIdeal.main_arg0)
      ∧ m' ((c.tc : Thread Cert.RetPostFwdRefIdeal.nD Cert.RetPostFwdRefIdeal.τ).loc Cert.RetPostFwdRefIdeal.main_arg1) = m ((c.tc : Thread Cert.RetPostFwdIdeal.nD Cert.RetPostFwdIdeal.τ).loc Cert.RetPostFwdIdeal.main_arg1)) →
    ∃ (v0 : (c : Dev Cert.RetPostFwdIdeal.nD) → Buf (Elt Ideal) ((c.tc : Thread Cert.RetPostFwdIdeal.nD Cert.RetPostFwdIdeal.τ).loc Cert.RetPostFwdIdeal.main_v0)),
      θ_run (Cert.RetPostFwdIdeal.defs (F := Ideal)) (onTc (τ := Cert.RetPostFwdIdeal.τ) (Cert.RetPostFwdIdeal.main (F := Ideal))) ⟨m, fun _ => 0, g⟩ (fun r => ∀ c : Dev Cert.RetPostFwdIdeal.nD,
          r.2.mem ((c.tc : Thread Cert.RetPostFwdIdeal.nD Cert.RetPostFwdIdeal.τ).loc Cert.RetPostFwdIdeal.main_v0) = v0 c
          ∧ r.2.mem ((c.tc : Thread Cert.RetPostFwdIdeal.nD Cert.RetPostFwdIdeal.τ).loc Cert.RetPostFwdIdeal.main_arg0) = m ((c.tc : Thread Cert.RetPostFwdIdeal.nD Cert.RetPostFwdIdeal.τ).loc Cert.RetPostFwdIdeal.main_arg0)
          ∧ r.2.mem ((c.tc : Thread Cert.RetPostFwdIdeal.nD Cert.RetPostFwdIdeal.τ).loc Cert.RetPostFwdIdeal.main_arg1) = m ((c.tc : Thread Cert.RetPostFwdIdeal.nD Cert.RetPostFwdIdeal.τ).loc Cert.RetPostFwdIdeal.main_arg1))
      ∧ θ_run (Cert.RetPostFwdRefIdeal.defs (F := Ideal)) (onTc (τ := Cert.RetPostFwdRefIdeal.τ) (Cert.RetPostFwdRefIdeal.main (F := Ideal))) ⟨m', fun _ => 0, g'⟩ (fun r => ∀ c : Dev Cert.RetPostFwdRefIdeal.nD,
          r.2.mem ((c.tc : Thread Cert.RetPostFwdRefIdeal.nD Cert.RetPostFwdRefIdeal.τ).loc Cert.RetPostFwdRefIdeal.main_v24) = v0 c
          ∧ r.2.mem ((c.tc : Thread Cert.RetPostFwdRefIdeal.nD Cert.RetPostFwdRefIdeal.τ).loc Cert.RetPostFwdRefIdeal.main_arg0) = m' ((c.tc : Thread Cert.RetPostFwdRefIdeal.nD Cert.RetPostFwdRefIdeal.τ).loc Cert.RetPostFwdRefIdeal.main_arg0)
          ∧ r.2.mem ((c.tc : Thread Cert.RetPostFwdRefIdeal.nD Cert.RetPostFwdRefIdeal.τ).loc Cert.RetPostFwdRefIdeal.main_arg1) = m' ((c.tc : Thread Cert.RetPostFwdRefIdeal.nD Cert.RetPostFwdRefIdeal.τ).loc Cert.RetPostFwdRefIdeal.main_arg1))

def preserves_DnPostFwd_DnPostFwdIdeal : Prop :=
  True

def algebraic_DnPostFwdIdeal_DnPostFwdRefIdeal [hDnPostFwdIdeal : Cert.DnPostFwdIdeal.Facts] [hDnPostFwdRefIdeal : Cert.DnPostFwdRefIdeal.Facts] : Prop :=
  ∀ (m : (ℓ : Loc Cert.DnPostFwdIdeal.nD Cert.DnPostFwdIdeal.τ Cert.DnPostFwdIdeal.sig) → Buf (Elt Ideal) ℓ) (g : Dev Cert.DnPostFwdIdeal.nD → PrngReg)
    (m' : (ℓ : Loc Cert.DnPostFwdRefIdeal.nD Cert.DnPostFwdRefIdeal.τ Cert.DnPostFwdRefIdeal.sig) → Buf (Elt Ideal) ℓ) (g' : Dev Cert.DnPostFwdRefIdeal.nD → PrngReg), Pre_DnPostFwdIdeal m →
    (∀ c : Dev Cert.DnPostFwdIdeal.nD,
      m' ((c.tc : Thread Cert.DnPostFwdRefIdeal.nD Cert.DnPostFwdRefIdeal.τ).loc Cert.DnPostFwdRefIdeal.main_arg0) = m ((c.tc : Thread Cert.DnPostFwdIdeal.nD Cert.DnPostFwdIdeal.τ).loc Cert.DnPostFwdIdeal.main_arg0)
      ∧ m' ((c.tc : Thread Cert.DnPostFwdRefIdeal.nD Cert.DnPostFwdRefIdeal.τ).loc Cert.DnPostFwdRefIdeal.main_arg1) = m ((c.tc : Thread Cert.DnPostFwdIdeal.nD Cert.DnPostFwdIdeal.τ).loc Cert.DnPostFwdIdeal.main_arg1)
      ∧ m' ((c.tc : Thread Cert.DnPostFwdRefIdeal.nD Cert.DnPostFwdRefIdeal.τ).loc Cert.DnPostFwdRefIdeal.main_arg2) = m ((c.tc : Thread Cert.DnPostFwdIdeal.nD Cert.DnPostFwdIdeal.τ).loc Cert.DnPostFwdIdeal.main_arg2)) →
    ∃ (v0 : (c : Dev Cert.DnPostFwdIdeal.nD) → Buf (Elt Ideal) ((c.tc : Thread Cert.DnPostFwdIdeal.nD Cert.DnPostFwdIdeal.τ).loc Cert.DnPostFwdIdeal.main_v0)),
      θ_run (Cert.DnPostFwdIdeal.defs (F := Ideal)) (onTc (τ := Cert.DnPostFwdIdeal.τ) (Cert.DnPostFwdIdeal.main (F := Ideal))) ⟨m, fun _ => 0, g⟩ (fun r => ∀ c : Dev Cert.DnPostFwdIdeal.nD,
          r.2.mem ((c.tc : Thread Cert.DnPostFwdIdeal.nD Cert.DnPostFwdIdeal.τ).loc Cert.DnPostFwdIdeal.main_v0) = v0 c
          ∧ r.2.mem ((c.tc : Thread Cert.DnPostFwdIdeal.nD Cert.DnPostFwdIdeal.τ).loc Cert.DnPostFwdIdeal.main_arg0) = m ((c.tc : Thread Cert.DnPostFwdIdeal.nD Cert.DnPostFwdIdeal.τ).loc Cert.DnPostFwdIdeal.main_arg0)
          ∧ r.2.mem ((c.tc : Thread Cert.DnPostFwdIdeal.nD Cert.DnPostFwdIdeal.τ).loc Cert.DnPostFwdIdeal.main_arg1) = m ((c.tc : Thread Cert.DnPostFwdIdeal.nD Cert.DnPostFwdIdeal.τ).loc Cert.DnPostFwdIdeal.main_arg1)
          ∧ r.2.mem ((c.tc : Thread Cert.DnPostFwdIdeal.nD Cert.DnPostFwdIdeal.τ).loc Cert.DnPostFwdIdeal.main_arg2) = m ((c.tc : Thread Cert.DnPostFwdIdeal.nD Cert.DnPostFwdIdeal.τ).loc Cert.DnPostFwdIdeal.main_arg2))
      ∧ θ_run (Cert.DnPostFwdRefIdeal.defs (F := Ideal)) (onTc (τ := Cert.DnPostFwdRefIdeal.τ) (Cert.DnPostFwdRefIdeal.main (F := Ideal))) ⟨m', fun _ => 0, g'⟩ (fun r => ∀ c : Dev Cert.DnPostFwdRefIdeal.nD,
          r.2.mem ((c.tc : Thread Cert.DnPostFwdRefIdeal.nD Cert.DnPostFwdRefIdeal.τ).loc Cert.DnPostFwdRefIdeal.main_v19) = v0 c
          ∧ r.2.mem ((c.tc : Thread Cert.DnPostFwdRefIdeal.nD Cert.DnPostFwdRefIdeal.τ).loc Cert.DnPostFwdRefIdeal.main_arg0) = m' ((c.tc : Thread Cert.DnPostFwdRefIdeal.nD Cert.DnPostFwdRefIdeal.τ).loc Cert.DnPostFwdRefIdeal.main_arg0)
          ∧ r.2.mem ((c.tc : Thread Cert.DnPostFwdRefIdeal.nD Cert.DnPostFwdRefIdeal.τ).loc Cert.DnPostFwdRefIdeal.main_arg1) = m' ((c.tc : Thread Cert.DnPostFwdRefIdeal.nD Cert.DnPostFwdRefIdeal.τ).loc Cert.DnPostFwdRefIdeal.main_arg1)
          ∧ r.2.mem ((c.tc : Thread Cert.DnPostFwdRefIdeal.nD Cert.DnPostFwdRefIdeal.τ).loc Cert.DnPostFwdRefIdeal.main_arg2) = m' ((c.tc : Thread Cert.DnPostFwdRefIdeal.nD Cert.DnPostFwdRefIdeal.τ).loc Cert.DnPostFwdRefIdeal.main_arg2))

def Claim : Prop :=
  ∃ (hMergeGrad : Cert.MergeGrad.Facts) (hMergeGradIdeal : Cert.MergeGradIdeal.Facts) (hMergeGradRefIdeal : Cert.MergeGradRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hUpGateDx : Cert.UpGateDx.Facts) (hUpGateDxIdeal : Cert.UpGateDxIdeal.Facts) (hUpGateDxRefIdeal : Cert.UpGateDxRefIdeal.Facts) (hUpValDx : Cert.UpValDx.Facts) (hUpValDxIdeal : Cert.UpValDxIdeal.Facts) (hUpValDxRefIdeal : Cert.UpValDxRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hBranchDx : Cert.BranchDx.Facts) (hBranchDxIdeal : Cert.BranchDxIdeal.Facts) (hBranchDxRefIdeal : Cert.BranchDxRefIdeal.Facts) (hBranchDw : Cert.BranchDw.Facts) (hBranchDwIdeal : Cert.BranchDwIdeal.Facts) (hBranchDwRefIdeal : Cert.BranchDwRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hInFwd : Cert.InFwd.Facts) (hInFwdIdeal : Cert.InFwdIdeal.Facts) (hInFwdRefIdeal : Cert.InFwdRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hOutFwd : Cert.OutFwd.Facts) (hOutFwdIdeal : Cert.OutFwdIdeal.Facts) (hOutFwdRefIdeal : Cert.OutFwdRefIdeal.Facts) (hMergeFwd : Cert.MergeFwd.Facts) (hMergeFwdIdeal : Cert.MergeFwdIdeal.Facts) (hMergeFwdRefIdeal : Cert.MergeFwdRefIdeal.Facts) (hScanGrad : Cert.ScanGrad.Facts) (hScanGradIdeal : Cert.ScanGradIdeal.Facts) (hScanGradRefIdeal : Cert.ScanGradRefIdeal.Facts) (hNormGrad : Cert.NormGrad.Facts) (hNormGradIdeal : Cert.NormGradIdeal.Facts) (hNormGradRefIdeal : Cert.NormGradRefIdeal.Facts) (hLruPostGrad : Cert.LruPostGrad.Facts) (hLruPostGradIdeal : Cert.LruPostGradIdeal.Facts) (hLruPostGradRefIdeal : Cert.LruPostGradRefIdeal.Facts) (hNormFwd : Cert.NormFwd.Facts) (hNormFwdIdeal : Cert.NormFwdIdeal.Facts) (hNormFwdRefIdeal : Cert.NormFwdRefIdeal.Facts) (hLruPostFwd : Cert.LruPostFwd.Facts) (hLruPostFwdIdeal : Cert.LruPostFwdIdeal.Facts) (hLruPostFwdRefIdeal : Cert.LruPostFwdRefIdeal.Facts) (hRetPostFwd : Cert.RetPostFwd.Facts) (hRetPostFwdIdeal : Cert.RetPostFwdIdeal.Facts) (hRetPostFwdRefIdeal : Cert.RetPostFwdRefIdeal.Facts) (hDnPostFwd : Cert.DnPostFwd.Facts) (hDnPostFwdIdeal : Cert.DnPostFwdIdeal.Facts) (hDnPostFwdRefIdeal : Cert.DnPostFwdRefIdeal.Facts),
    quiescent_MergeGrad (hMergeGrad := hMergeGrad)
    ∧ quiescent_MergeGradIdeal (hMergeGradIdeal := hMergeGradIdeal)
    ∧ quiescent_MergeGradRefIdeal (hMergeGradRefIdeal := hMergeGradRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpGateDx (hUpGateDx := hUpGateDx)
    ∧ quiescent_UpGateDxIdeal (hUpGateDxIdeal := hUpGateDxIdeal)
    ∧ quiescent_UpGateDxRefIdeal (hUpGateDxRefIdeal := hUpGateDxRefIdeal)
    ∧ quiescent_UpValDx (hUpValDx := hUpValDx)
    ∧ quiescent_UpValDxIdeal (hUpValDxIdeal := hUpValDxIdeal)
    ∧ quiescent_UpValDxRefIdeal (hUpValDxRefIdeal := hUpValDxRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_ScanGrad (hScanGrad := hScanGrad)
    ∧ quiescent_ScanGradIdeal (hScanGradIdeal := hScanGradIdeal)
    ∧ quiescent_ScanGradRefIdeal (hScanGradRefIdeal := hScanGradRefIdeal)
    ∧ quiescent_NormGrad (hNormGrad := hNormGrad)
    ∧ quiescent_NormGradIdeal (hNormGradIdeal := hNormGradIdeal)
    ∧ quiescent_NormGradRefIdeal (hNormGradRefIdeal := hNormGradRefIdeal)
    ∧ quiescent_LruPostGrad (hLruPostGrad := hLruPostGrad)
    ∧ quiescent_LruPostGradIdeal (hLruPostGradIdeal := hLruPostGradIdeal)
    ∧ quiescent_LruPostGradRefIdeal (hLruPostGradRefIdeal := hLruPostGradRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_LruPostFwd (hLruPostFwd := hLruPostFwd)
    ∧ quiescent_LruPostFwdIdeal (hLruPostFwdIdeal := hLruPostFwdIdeal)
    ∧ quiescent_LruPostFwdRefIdeal (hLruPostFwdRefIdeal := hLruPostFwdRefIdeal)
    ∧ quiescent_RetPostFwd (hRetPostFwd := hRetPostFwd)
    ∧ quiescent_RetPostFwdIdeal (hRetPostFwdIdeal := hRetPostFwdIdeal)
    ∧ quiescent_RetPostFwdRefIdeal (hRetPostFwdRefIdeal := hRetPostFwdRefIdeal)
    ∧ quiescent_DnPostFwd (hDnPostFwd := hDnPostFwd)
    ∧ quiescent_DnPostFwdIdeal (hDnPostFwdIdeal := hDnPostFwdIdeal)
    ∧ quiescent_DnPostFwdRefIdeal (hDnPostFwdRefIdeal := hDnPostFwdRefIdeal)
    ∧ preserves_MergeGrad_MergeGradIdeal
    ∧ algebraic_MergeGradIdeal_MergeGradRefIdeal (hMergeGradIdeal := hMergeGradIdeal) (hMergeGradRefIdeal := hMergeGradRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_UpGateDx_UpGateDxIdeal
    ∧ algebraic_UpGateDxIdeal_UpGateDxRefIdeal (hUpGateDxIdeal := hUpGateDxIdeal) (hUpGateDxRefIdeal := hUpGateDxRefIdeal)
    ∧ preserves_UpValDx_UpValDxIdeal
    ∧ algebraic_UpValDxIdeal_UpValDxRefIdeal (hUpValDxIdeal := hUpValDxIdeal) (hUpValDxRefIdeal := hUpValDxRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_BranchDx_BranchDxIdeal
    ∧ algebraic_BranchDxIdeal_BranchDxRefIdeal (hBranchDxIdeal := hBranchDxIdeal) (hBranchDxRefIdeal := hBranchDxRefIdeal)
    ∧ preserves_BranchDw_BranchDwIdeal
    ∧ algebraic_BranchDwIdeal_BranchDwRefIdeal (hBranchDwIdeal := hBranchDwIdeal) (hBranchDwRefIdeal := hBranchDwRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_InFwd_InFwdIdeal
    ∧ algebraic_InFwdIdeal_InFwdRefIdeal (hInFwdIdeal := hInFwdIdeal) (hInFwdRefIdeal := hInFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_ScanGrad_ScanGradIdeal
    ∧ algebraic_ScanGradIdeal_ScanGradRefIdeal (hScanGradIdeal := hScanGradIdeal) (hScanGradRefIdeal := hScanGradRefIdeal)
    ∧ preserves_NormGrad_NormGradIdeal
    ∧ algebraic_NormGradIdeal_NormGradRefIdeal (hNormGradIdeal := hNormGradIdeal) (hNormGradRefIdeal := hNormGradRefIdeal)
    ∧ preserves_LruPostGrad_LruPostGradIdeal
    ∧ algebraic_LruPostGradIdeal_LruPostGradRefIdeal (hLruPostGradIdeal := hLruPostGradIdeal) (hLruPostGradRefIdeal := hLruPostGradRefIdeal)
    ∧ preserves_NormFwd_NormFwdIdeal
    ∧ algebraic_NormFwdIdeal_NormFwdRefIdeal (hNormFwdIdeal := hNormFwdIdeal) (hNormFwdRefIdeal := hNormFwdRefIdeal)
    ∧ preserves_LruPostFwd_LruPostFwdIdeal
    ∧ algebraic_LruPostFwdIdeal_LruPostFwdRefIdeal (hLruPostFwdIdeal := hLruPostFwdIdeal) (hLruPostFwdRefIdeal := hLruPostFwdRefIdeal)
    ∧ preserves_RetPostFwd_RetPostFwdIdeal
    ∧ algebraic_RetPostFwdIdeal_RetPostFwdRefIdeal (hRetPostFwdIdeal := hRetPostFwdIdeal) (hRetPostFwdRefIdeal := hRetPostFwdRefIdeal)
    ∧ preserves_DnPostFwd_DnPostFwdIdeal
    ∧ algebraic_DnPostFwdIdeal_DnPostFwdRefIdeal (hDnPostFwdIdeal := hDnPostFwdIdeal) (hDnPostFwdRefIdeal := hDnPostFwdRefIdeal)
-- ==== MergeGrad.lean ====
abbrev S4096x512 : Shape := ⟨2, ![4096, 512]⟩
abbrev S3x512x1024 : Shape := ⟨3, ![3, 512, 1024]⟩
abbrev S4096x8192 : Shape := ⟨2, ![4096, 8192]⟩
abbrev S4096x1024 : Shape := ⟨2, ![4096, 1024]⟩
abbrev S512x512 : Shape := ⟨2, ![512, 512]⟩
abbrev S512x1024 : Shape := ⟨2, ![512, 1024]⟩
abbrev S512x3072 : Shape := ⟨2, ![512, 3072]⟩
abbrev S1x512x1024 : Shape := ⟨3, ![1, 512, 1024]⟩

abbrev nBuf : Space → Nat
  | .hbm => 11
  | .vmem => 23
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .bf16⟩
  | .hbm, ⟨4, _⟩ => ⟨S4096x8192, .f32⟩
  | .hbm, ⟨5, _⟩ => ⟨S4096x1024, .f32⟩
  | .hbm, ⟨6, _⟩ => ⟨S4096x8192, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x8192, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S3x512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x3072, .bf16⟩
  | .local _ .vmem, ⟨22, _⟩ => ⟨S512x3072, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeGradRefIdeal.lean ====
abbrev S4096x512 : Shape := ⟨2, ![4096, 512]⟩
abbrev S3x512x1024 : Shape := ⟨3, ![3, 512, 1024]⟩
abbrev S4096x8192 : Shape := ⟨2, ![4096, 8192]⟩
abbrev S4096x1024 : Shape := ⟨2, ![4096, 1024]⟩
abbrev S1x512x1024 : Shape := ⟨3, ![1, 512, 1024]⟩
abbrev S512x1024 : Shape := ⟨2, ![512, 1024]⟩
abbrev S_ : Shape := ⟨0, ![]⟩
abbrev S4096x5120 : Shape := ⟨2, ![4096, 5120]⟩

abbrev nBuf : Space → Nat
  | .hbm => 82
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .bf16⟩
  | .hbm, ⟨4, _⟩ => ⟨S4096x8192, .f32⟩
  | .hbm, ⟨5, _⟩ => ⟨S4096x1024, .f32⟩
  | .hbm, ⟨6, _⟩ => ⟨S4096x8192, .bf16⟩
  | .hbm, ⟨7, _⟩ => ⟨S1x512x1024, .bf16⟩
  | .hbm, ⟨8, _⟩ => ⟨S512x1024, .bf16⟩
  | .hbm, ⟨9, _⟩ => ⟨S4096x1024, .f32⟩
  | .hbm, ⟨10, _⟩ => ⟨S1x512x1024, .bf16⟩
  | .hbm, ⟨11, _⟩ => ⟨S512x1024, .bf16⟩
  | .hbm, ⟨12, _⟩ => ⟨S4096x1024, .f32⟩
  | .hbm, ⟨13, _⟩ => ⟨S1x512x1024, .bf16⟩
  | .hbm, ⟨14, _⟩ => ⟨S512x1024, .bf16⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S4096x1024, .bf16⟩
  | .hbm, ⟨76, _⟩ => ⟨S4096x1024, .bf16⟩
  | .hbm, ⟨77, _⟩ => ⟨S4096x5120, .bf16⟩
  | .hbm, ⟨78, _⟩ => ⟨S4096x8192, .bf16⟩
  | .hbm, ⟨79, _⟩ => ⟨S4096x1024, .bf16⟩
  | .hbm, ⟨80, _⟩ => ⟨S4096x1024, .bf16⟩
  | .hbm, ⟨81, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== DownDx.lean ====
abbrev S4096x1024 : Shape := ⟨2, ![4096, 1024]⟩
abbrev S2816x1024 : Shape := ⟨2, ![2816, 1024]⟩
abbrev S8x128 : Shape := ⟨2, ![8, 128]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S8x128, .f32⟩
  | .hbm, ⟨3, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S8x128, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S4096x1024 : Shape := ⟨2, ![4096, 1024]⟩
abbrev S2816x1024 : Shape := ⟨2, ![2816, 1024]⟩
abbrev S8x128 : Shape := ⟨2, ![8, 128]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S8x128, .f32⟩
  | .hbm, ⟨3, _⟩ => ⟨S_, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDw.lean ====
abbrev S4096x1024 : Shape := ⟨2, ![4096, 1024]⟩
abbrev S4096x2816 : Shape := ⟨2, ![4096, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpGateDx.lean ====
abbrev S4096x2816 : Shape := ⟨2, ![4096, 2816]⟩
abbrev S1024x5632 : Shape := ⟨2, ![1024, 5632]⟩
abbrev S8x128 : Shape := ⟨2, ![8, 128]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S8x128, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S8x128, .f32⟩
  | .local _ .vmem, ⟨4, _⟩ => ⟨S1024x1024, .f32⟩
  | .local _ .vmem, ⟨5, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpGateDxRefIdeal.lean ====
abbrev S4096x2816 : Shape := ⟨2, ![4096, 2816]⟩
abbrev S1024x5632 : Shape := ⟨2, ![1024, 5632]⟩
abbrev S8x128 : Shape := ⟨2, ![8, 128]⟩
abbrev S_ : Shape := ⟨0, ![]⟩
abbrev S4096x1024 : Shape := ⟨2, ![4096, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S8x128, .f32⟩
  | .hbm, ⟨3, _⟩ => ⟨S_, .f32⟩
  | .hbm, ⟨4, _⟩ => ⟨S4096x1024, .f32⟩
  | .hbm, ⟨5, _⟩ => ⟨S1024x2816, .bf16⟩
  | .hbm, ⟨6, _⟩ => ⟨S1024x2816, .f32⟩
  | .hbm, ⟨7, _⟩ => ⟨S4096x2816, .f32⟩
  | .hbm, ⟨8, _⟩ => ⟨S4096x2816, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== UpValDx.lean ====
abbrev S4096x2816 : Shape := ⟨2, ![4096, 2816]⟩
abbrev S1024x5632 : Shape := ⟨2, ![1024, 5632]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpValDxRefIdeal.lean ====
abbrev S4096x2816 : Shape := ⟨2, ![4096, 2816]⟩
abbrev S1024x5632 : Shape := ⟨2, ![1024, 5632]⟩
abbrev S4096x1024 : Shape := ⟨2, ![4096, 1024]⟩
abbrev S_ : Shape := ⟨0, ![]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x2816, .bf16⟩
  | .hbm, ⟨6, _⟩ => ⟨S1024x2816, .f32⟩
  | .hbm, ⟨7, _⟩ => ⟨S4096x2816, .f32⟩
  | .hbm, ⟨8, _⟩ => ⟨S4096x2816, .f32⟩
  | .hbm, ⟨9, _⟩ => ⟨S4096x1024, .f32⟩
  | .hbm, ⟨10, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchDx.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchDw.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDw.lean ====
abbrev S4096x1024 : Shape := ⟨2, ![4096, 1024]⟩
abbrev S4096x8192 : Shape := ⟨2, ![4096, 8192]⟩
abbrev S8x128 : Shape := ⟨2, ![8, 128]⟩
abbrev S1024x8192 : Shape := ⟨2, ![1024, 8192]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S8x128, .f32⟩
  | .hbm, ⟨3, _⟩ => ⟨S1024x8192, .f32⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S8x128, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDwRefIdeal.lean ====
abbrev S4096x1024 : Shape := ⟨2, ![4096, 1024]⟩
abbrev S4096x8192 : Shape := ⟨2, ![4096, 8192]⟩
abbrev S8x128 : Shape := ⟨2, ![8, 128]⟩
abbrev S_ : Shape := ⟨0, ![]⟩
abbrev S1024x8192 : Shape := ⟨2, ![1024, 8192]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S8x128, .f32⟩
  | .hbm, ⟨3, _⟩ => ⟨S_, .f32⟩
  | .hbm, ⟨4, _⟩ => ⟨S1024x8192, .f32⟩
  | .hbm, ⟨5, _⟩ => ⟨S4096x1024, .f32⟩
  | .hbm, ⟨6, _⟩ => ⟨S4096x8192, .f32⟩
  | .hbm, ⟨7, _⟩ => ⟨S4096x8192, .f32⟩
  | .hbm, ⟨8, _⟩ => ⟨S8192x1024, .f32⟩
  | .hbm, ⟨9, _⟩ => ⟨S1024x8192, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InDx.lean ====
abbrev S4096x8192 : Shape := ⟨2, ![4096, 8192]⟩
abbrev S1024x8192 : Shape := ⟨2, ![1024, 8192]⟩
abbrev S8x128 : Shape := ⟨2, ![8, 128]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x8192, .bf16⟩
  | .hbm, ⟨1, _⟩ => ⟨S1024x8192, .bf16⟩
  | .hbm, ⟨2, _⟩ => ⟨S8x128, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDxRefIdeal.lean ====
abbrev S4096x8192 : Shape := ⟨2, ![4096, 8192]⟩
abbrev S1024x8192 : Shape := ⟨2, ![1024, 8192]⟩
abbrev S8x128 : Shape := ⟨2, ![8, 128]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S1024x8192, .bf16⟩
  | .hbm, ⟨2, _⟩ => ⟨S8x128, .f32⟩
  | .hbm, ⟨3, _⟩ => ⟨S_, .f32⟩
  | .hbm, ⟨4, _⟩ => ⟨S4096x1024, .f32⟩
  | .hbm, ⟨5, _⟩ => ⟨S1024x8192, .f32⟩
  | .hbm, ⟨6, _⟩ => ⟨S4096x8192, .f32⟩
  | .hbm, ⟨7, _⟩ => ⟨S4096x8192, .f32⟩
  | .hbm, ⟨8, _⟩ => ⟨S4096x1024, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== InFwd.lean ====
abbrev S4096x1024 : Shape := ⟨2, ![4096, 1024]⟩
abbrev S1024x8192 : Shape := ⟨2, ![1024, 8192]⟩
abbrev S4096x8192 : Shape := ⟨2, ![4096, 8192]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S4096x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S4096x1024 : Shape := ⟨2, ![4096, 1024]⟩
abbrev S1024x8192 : Shape := ⟨2, ![1024, 8192]⟩
abbrev S4096x8192 : Shape := ⟨2, ![4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S4096x1024, .f32⟩
  | .hbm, ⟨3, _⟩ => ⟨S1024x8192, .f32⟩
  | .hbm, ⟨4, _⟩ => ⟨S4096x8192, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpFwd.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownFwd.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwdRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutFwd.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFwdRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== MergeFwd.lean ====
abbrev S4096x512 : Shape := ⟨2, ![4096, 512]⟩
abbrev S3x512x1024 : Shape := ⟨3, ![3, 512, 1024]⟩
abbrev S4096x8192 : Shape := ⟨2, ![4096, 8192]⟩
abbrev S4096x1024 : Shape := ⟨2, ![4096, 1024]⟩
abbrev S512x512 : Shape := ⟨2, ![512, 512]⟩
abbrev S512x1024 : Shape := ⟨2, ![512, 1024]⟩
abbrev S1x512x1024 : Shape := ⟨3, ![1, 512, 1024]⟩

abbrev nBuf : Space → Nat
  | .hbm => 6
  | .vmem => 15
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .bf16⟩
  | .hbm, ⟨4, _⟩ => ⟨S4096x8192, .f32⟩
  | .hbm, ⟨5, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S3x512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeFwdRefIdeal.lean ====
abbrev S4096x512 : Shape := ⟨2, ![4096, 512]⟩
abbrev S3x512x1024 : Shape := ⟨3, ![3, 512, 1024]⟩
abbrev S4096x8192 : Shape := ⟨2, ![4096, 8192]⟩
abbrev S4096x1024 : Shape := ⟨2, ![4096, 1024]⟩
abbrev S_ : Shape := ⟨0, ![]⟩
abbrev S1x512x1024 : Shape := ⟨3, ![1, 512, 1024]⟩
abbrev S512x1024 : Shape := ⟨2, ![512, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .bf16⟩
  | .hbm, ⟨4, _⟩ => ⟨S4096x8192, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x512, .f32⟩
  | .hbm, ⟨15, _⟩ => ⟨S1x512x1024, .bf16⟩
  | .hbm, ⟨16, _⟩ => ⟨S512x1024, .bf16⟩
  | .hbm, ⟨17, _⟩ => ⟨S512x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x512, .f32⟩
  | .hbm, ⟨33, _⟩ => ⟨S1x512x1024, .bf16⟩
  | .hbm, ⟨34, _⟩ => ⟨S512x1024, .bf16⟩
  | .hbm, ⟨35, _⟩ => ⟨S512x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x512, .f32⟩
  | .hbm, ⟨49, _⟩ => ⟨S1x512x1024, .bf16⟩
  | .hbm, ⟨50, _⟩ => ⟨S512x1024, .bf16⟩
  | .hbm, ⟨51, _⟩ => ⟨S512x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== ScanGrad.lean ====
abbrev S2x2048x512 : Shape := ⟨3, ![2, 2048, 512]⟩
abbrev S2x2048x128 : Shape := ⟨3, ![2, 2048, 128]⟩
abbrev S2x32x4x128x128 : Shape := ⟨5, ![2, 32, 4, 128, 128]⟩
abbrev S2x512x512 : Shape := ⟨3, ![2, 512, 512]⟩
abbrev S2x512x128 : Shape := ⟨3, ![2, 512, 128]⟩
abbrev S2x8x4x128x128 : Shape := ⟨5, ![2, 8, 4, 128, 128]⟩
abbrev S8x128x128 : Shape := ⟨3, ![8, 128, 128]⟩
abbrev S1x128x128 : Shape := ⟨3, ![1, 128, 128]⟩
abbrev S128x128 : Shape := ⟨2, ![128, 128]⟩
abbrev S1x1x1x128x128 : Shape := ⟨5, ![1, 1, 1, 128, 128]⟩
abbrev S2x64x512 : Shape := ⟨3, ![2, 64, 512]⟩
abbrev S2x64x128 : Shape := ⟨3, ![2, 64, 128]⟩
abbrev S1x64x128 : Shape := ⟨3, ![1, 64, 128]⟩
abbrev S64x128 : Shape := ⟨2, ![64, 128]⟩
abbrev S1x64x64 : Shape := ⟨3, ![1, 64, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x64x512 : Shape := ⟨3, ![1, 64, 512]⟩
abbrev S64x512 : Shape := ⟨2, ![64, 512]⟩
abbrev S1x1x1 : Shape := ⟨3, ![1, 1, 1]⟩
abbrev S2x64x384 : Shape := ⟨3, ![2, 64, 384]⟩
abbrev S2x64x256 : Shape := ⟨3, ![2, 64, 256]⟩
abbrev S2x64x64 : Shape := ⟨3, ![2, 64, 64]⟩
abbrev S2x64x448 : Shape := ⟨3, ![2, 64, 448]⟩
abbrev S2x64x320 : Shape := ⟨3, ![2, 64, 320]⟩
abbrev S2x64x192 : Shape := ⟨3, ![2, 64, 192]⟩

abbrev nBuf : Space → Nat
  | .hbm => 14
  | .vmem => 29
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .bf16⟩
  | .hbm, ⟨2, _⟩ => ⟨S2x2048x512, .bf16⟩
  | .hbm, ⟨3, _⟩ => ⟨S2x2048x512, .bf16⟩
  | .hbm, ⟨4, _⟩ => ⟨S2x2048x512, .bf16⟩
  | .hbm, ⟨5, _⟩ => ⟨S2x2048x128, .f32⟩
  | .hbm, ⟨6, _⟩ => ⟨S2x32x4x128x128, .f32⟩
  | .hbm, ⟨7, _⟩ => ⟨S2x2048x512, .f32⟩
  | .hbm, ⟨8, _⟩ => ⟨S2x2048x512, .f32⟩
  | .hbm, ⟨9, _⟩ => ⟨S2x2048x512, .f32⟩
  | .hbm, ⟨10, _⟩ => ⟨S2x2048x512, .f32⟩
  | .hbm, ⟨11, _⟩ => ⟨S2x2048x512, .f32⟩
  | .hbm, ⟨12, _⟩ => ⟨S2x2048x512, .f32⟩
  | .hbm, ⟨13, _⟩ => ⟨S2x2048x128, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .bf16⟩
  | .local _ .vmem, ⟨3, _⟩ => ⟨S2x512x512, .bf16⟩
  | .local _ .vmem, ⟨4, _⟩ => ⟨S2x512x512, .bf16⟩
  | .local _ .vmem, ⟨5, _⟩ => ⟨S2x512x512, .bf16⟩
  | .local _ .vmem, ⟨6, _⟩ => ⟨S2x512x512, .bf16⟩
  | .local _ .vmem, ⟨7, _⟩ => ⟨S2x512x512, .bf16⟩
  | .local _ .vmem, ⟨8, _⟩ => ⟨S2x512x512, .bf16⟩
  | .local _ .vmem, ⟨9, _⟩ => ⟨S2x512x512, .bf16⟩
  | .local _ .vmem, ⟨10, _⟩ => ⟨S2x512x128, .f32⟩
  | .local _ .vmem, ⟨11, _⟩ => ⟨S2x512x128, .f32⟩
  | .local _ .vmem, ⟨12, _⟩ => ⟨S2x8x4x128x128, .f32⟩
  | .local _ .vmem, ⟨13, _⟩ => ⟨S2x8x4x128x128, .f32⟩
  | .local _ .vmem, ⟨14, _⟩ => ⟨S2x512x512, .f32⟩
  | .local _ .vmem, ⟨15, _⟩ => ⟨S2x512x512, .f32⟩
  | .local _ .vmem, ⟨16, _⟩ => ⟨S2x512x512, .f32⟩
  | .local _ .vmem, ⟨17, _⟩ => ⟨S2x512x512, .f32⟩
  | .local _ .vmem, ⟨18, _⟩ => ⟨S2x512x512, .f32⟩
  | .local _ .vmem, ⟨19, _⟩ => ⟨S2x512x512, .f32⟩
  | .local _ .vmem, ⟨20, _⟩ => ⟨S2x512x512, .f32⟩
  | .local _ .vmem, ⟨21, _⟩ => ⟨S2x512x512, .f32⟩
  | .local _ .vmem, ⟨22, _⟩ => ⟨S2x512x512, .f32⟩
  | .local _ .vmem, ⟨23, _⟩ => ⟨S2x512x512, .f32⟩
  | .local _ .vmem, ⟨24, _⟩ => ⟨S2x512x512, .f32⟩
  | .local _ .vmem, ⟨25, _⟩ => ⟨S2x512x512, .f32⟩
  | .local _ .vmem, ⟨26, _⟩ => ⟨S2x512x128, .f32⟩
  | .local _ .vmem, ⟨27, _⟩ => ⟨S2x512x128, .f32⟩
  | .local _ .vmem, ⟨28, _⟩ => ⟨S8x128x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 5 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, c0_i32_1.toNat, c0_i32_2.toNat]

def cc0_transform_7 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ScanGradRefIdeal.lean ====
abbrev S2x2048x512 : Shape := ⟨3, ![2, 2048, 512]⟩
abbrev S2x2048x128 : Shape := ⟨3, ![2, 2048, 128]⟩
abbrev S2x32x4x128x128 : Shape := ⟨5, ![2, 32, 4, 128, 128]⟩
abbrev S2x32x64x128 : Shape := ⟨4, ![2, 32, 64, 128]⟩
abbrev S2x32x1x4 : Shape := ⟨4, ![2, 32, 1, 4]⟩
abbrev S32x2x4x1 : Shape := ⟨4, ![32, 2, 4, 1]⟩
abbrev S32x2x4x1x1 : Shape := ⟨5, ![32, 2, 4, 1, 1]⟩
abbrev S2x32x64x4x128 : Shape := ⟨5, ![2, 32, 64, 4, 128]⟩
abbrev S32x2x4x64x128 : Shape := ⟨5, ![32, 2, 4, 64, 128]⟩
abbrev S32x2x4x64x64 : Shape := ⟨5, ![32, 2, 4, 64, 64]⟩
abbrev S_ : Shape := ⟨0, ![]⟩
abbrev S2x4x128x128 : Shape := ⟨4, ![2, 4, 128, 128]⟩
abbrev S32x2x4x128x128 : Shape := ⟨5, ![32, 2, 4, 128, 128]⟩
abbrev S1x2x4x128x128 : Shape := ⟨5, ![1, 2, 4, 128, 128]⟩
abbrev S1x2x4x64x128 : Shape := ⟨5, ![1, 2, 4, 64, 128]⟩
abbrev S2x4x64x128 : Shape := ⟨4, ![2, 4, 64, 128]⟩
abbrev S1x2x4x64x64 : Shape := ⟨5, ![1, 2, 4, 64, 64]⟩
abbrev S2x4x64x64 : Shape := ⟨4, ![2, 4, 64, 64]⟩
abbrev S1x2x4x1x1 : Shape := ⟨5, ![1, 2, 4, 1, 1]⟩
abbrev S2x4x1x1 : Shape := ⟨4, ![2, 4, 1, 1]⟩
abbrev S2x4x128x64 : Shape := ⟨4, ![2, 4, 128, 64]⟩
abbrev S2x4 : Shape := ⟨2, ![2, 4]⟩
abbrev S32x2x4 : Shape := ⟨3, ![32, 2, 4]⟩

abbrev nBuf : Space → Nat
  | .hbm => 206
  | .vmem => 0
  | .smem => 0
  | _ => 0

abbrev hbmTy0_0 (i : Nat) : BufTy := match i % 128 with
  | 0 => ⟨S2x2048x512, .f32⟩
  | 1 => ⟨S2x2048x512, .bf16⟩
  | 2 => ⟨S2x2048x512, .bf16⟩
  | 3 => ⟨S2x2048x512, .bf16⟩
  | 4 => ⟨S2x2048x512, .bf16⟩
  | 5 => ⟨S2x2048x128, .f32⟩
  | 6 => ⟨S2x32x4x128x128, .f32⟩
  | 7 => ⟨S2x2048x512, .f32⟩
  | 8 => ⟨S2x2048x512, .f32⟩
  | 9 => ⟨S2x2048x512, .f32⟩
  | 10 => ⟨S2x2048x512, .f32⟩
  | 11 => ⟨S2x2048x512, .f32⟩
  | 12 => ⟨S2x32x64x128, .f32⟩
  | 13 => ⟨S2x32x1x4, .f32⟩
  | 14 => ⟨S32x2x4x1, .f32⟩
  | 15 => ⟨S32x2x4x1x1, .f32⟩
  | 16 => ⟨S2x32x64x4x128, .f32⟩
  | 17 => ⟨S32x2x4x64x128, .f32⟩
  | 18 => ⟨S2x32x64x4x128, .f32⟩
  | 19 => ⟨S32x2x4x64x128, .f32⟩
  | 20 => ⟨S2x32x64x4x128, .f32⟩
  | 21 => ⟨S32x2x4x64x128, .f32⟩
  | 22 => ⟨S32x2x4x64x64, .f32⟩
  | 23 => ⟨S2x32x64x4x128, .f32⟩
  | 24 => ⟨S32x2x4x64x128, .f32⟩
  | 25 => ⟨S2x32x64x4x128, .f32⟩
  | 26 => ⟨S32x2x4x64x128, .f32⟩
  | 27 => ⟨S_, .f32⟩
  | 28 => ⟨S2x4x128x128, .f32⟩
  | 29 => ⟨S32x2x4x128x128, .f32⟩
  | 30 => ⟨S2x32x64x4x128, .f32⟩
  | 31 => ⟨S32x2x4x64x128, .f32⟩
  | 32 => ⟨S_, .f32⟩
  | 33 => ⟨S32x2x4x64x128, .f32⟩
  | 34 => ⟨S_, .f32⟩
  | 35 => ⟨S32x2x4x64x128, .f32⟩
  | 36 => ⟨S_, .f32⟩
  | 37 => ⟨S32x2x4x64x64, .f32⟩
  | 38 => ⟨S_, .f32⟩
  | 39 => ⟨S32x2x4x64x128, .f32⟩
  | 40 => ⟨S_, .f32⟩
  | 41 => ⟨S32x2x4x64x128, .f32⟩
  | 42 => ⟨S_, .f32⟩
  | 43 => ⟨S32x2x4x1x1, .f32⟩
  | 44 => ⟨S_, .i32⟩
  | 45 => ⟨S32x2x4x128x128, .f32⟩
  | 46 => ⟨S32x2x4x64x128, .f32⟩
  | 47 => ⟨S32x2x4x64x128, .f32⟩
  | 48 => ⟨S32x2x4x64x64, .f32⟩
  | 49 => ⟨S32x2x4x64x128, .f32⟩
  | 50 => ⟨S32x2x4x64x128, .f32⟩
  | 51 => ⟨S32x2x4x1x1, .f32⟩
  | 52 => ⟨S32x2x4x64x128, .f32⟩
  | 53 => ⟨S_, .i32⟩
  | 54 => ⟨S2x4x128x128, .f32⟩
  | 55 => ⟨S32x2x4x64x128, .f32⟩
  | 56 => ⟨S32x2x4x64x128, .f32⟩
  | 57 => ⟨S32x2x4x64x64, .f32⟩
  | 58 => ⟨S32x2x4x64x128, .f32⟩
  | 59 => ⟨S32x2x4x64x128, .f32⟩
  | 60 => ⟨S32x2x4x1x1, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S1x2x4x128x128, .f32⟩
  | 72 => ⟨S2x4x128x128, .f32⟩
  | 73 => ⟨S_, .i32⟩
  | 74 => ⟨S_, .i32⟩
  | 75 => ⟨S_, .i32⟩
  | 76 => ⟨S_, .i32⟩
  | 77 => ⟨S1x2x4x64x128, .f32⟩
  | 78 => ⟨S2x4x64x128, .f32⟩
  | 79 => ⟨S_, .i32⟩
  | 80 => ⟨S_, .i32⟩
  | 81 => ⟨S_, .i32⟩
  | 82 => ⟨S_, .i32⟩
  | 83 => ⟨S1x2x4x64x128, .f32⟩
  | 84 => ⟨S2x4x64x128, .f32⟩
  | 85 => ⟨S_, .i32⟩
  | 86 => ⟨S_, .i32⟩
  | 87 => ⟨S_, .i32⟩
  | 88 => ⟨S_, .i32⟩
  | 89 => ⟨S1x2x4x64x64, .f32⟩
  | 90 => ⟨S2x4x64x64, .f32⟩
  | 91 => ⟨S_, .i32⟩
  | 92 => ⟨S_, .i32⟩
  | 93 => ⟨S_, .i32⟩
  | 94 => ⟨S_, .i32⟩
  | 95 => ⟨S1x2x4x64x128, .f32⟩
  | 96 => ⟨S2x4x64x128, .f32⟩
  | 97 => ⟨S_, .i32⟩
  | 98 => ⟨S_, .i32⟩
  | 99 => ⟨S_, .i32⟩
  | 100 => ⟨S_, .i32⟩
  | 101 => ⟨S1x2x4x64x128, .f32⟩
  | 102 => ⟨S2x4x64x128, .f32⟩
  | 103 => ⟨S_, .i32⟩
  | 104 => ⟨S_, .i32⟩
  | 105 => ⟨S_, .i32⟩
  | 106 => ⟨S_, .i32⟩
  | 107 => ⟨S1x2x4x1x1, .f32⟩
  | 108 => ⟨S2x4x1x1, .f32⟩
  | 109 => ⟨S_, .i32⟩
  | 110 => ⟨S_, .i32⟩
  | 111 => ⟨S_, .i32⟩
  | 112 => ⟨S_, .i32⟩
  | 113 => ⟨S1x2x4x64x128, .f32⟩
  | 114 => ⟨S2x4x64x128, .f32⟩
  | 115 => ⟨S2x4x64x128, .f32⟩
  | 116 => ⟨S2x4x64x128, .f32⟩
  | 117 => ⟨S2x4x64x128, .f32⟩
  | 118 => ⟨S2x4x64x128, .f32⟩
  | 119 => ⟨S2x4x64x128, .f32⟩
  | 120 => ⟨S2x4x1x1, .f32⟩
  | 121 => ⟨S2x4x128x128, .f32⟩
  | 122 => ⟨S2x4x128x128, .f32⟩
  | 123 => ⟨S2x4x128x128, .f32⟩
  | 124 => ⟨S2x4x128x128, .f32⟩
  | 125 => ⟨S2x4x128x64, .f32⟩
  | 126 => ⟨S2x4x64x128, .f32⟩
  | 127 => ⟨S2x4x128x64, .f32⟩
  | _ => ⟨S2x2048x512, .f32⟩

abbrev hbmTy0_1 (i : Nat) : BufTy := match i % 128 with
  | 0 => ⟨S2x4x64x128, .f32⟩
  | 1 => ⟨S2x4x128x128, .f32⟩
  | 2 => ⟨S_, .f32⟩
  | 3 => ⟨S2x4, .f32⟩
  | 4 => ⟨S2x4x1x1, .f32⟩
  | 5 => ⟨S2x4x128x128, .f32⟩
  | 6 => ⟨S2x4x128x128, .f32⟩
  | 7 => ⟨S2x4x1x1, .f32⟩
  | 8 => ⟨S2x4x128x64, .f32⟩
  | 9 => ⟨S2x4x64x128, .f32⟩
  | 10 => ⟨S2x4x64x128, .f32⟩
  | 11 => ⟨S2x4x64x64, .f32⟩
  | 12 => ⟨S2x4x128x128, .f32⟩
  | 13 => ⟨S2x4x128x128, .f32⟩
  | 14 => ⟨S2x4x128x128, .f32⟩
  | 15 => ⟨S2x4x64x128, .f32⟩
  | 16 => ⟨S2x4x64x128, .f32⟩
  | 17 => ⟨S2x4x128x128, .f32⟩
  | 18 => ⟨S2x4x128x128, .f32⟩
  | 19 => ⟨S2x4x128x128, .f32⟩
  | 20 => ⟨S2x4x64x128, .f32⟩
  | 21 => ⟨S1x2x4x64x128, .f32⟩
  | 22 => ⟨S_, .i32⟩
  | 23 => ⟨S_, .i32⟩
  | 24 => ⟨S_, .i32⟩
  | 25 => ⟨S_, .i32⟩
  | 26 => ⟨S32x2x4x64x128, .f32⟩
  | 27 => ⟨S1x2x4x64x128, .f32⟩
  | 28 => ⟨S_, .i32⟩
  | 29 => ⟨S_, .i32⟩
  | 30 => ⟨S_, .i32⟩
  | 31 => ⟨S_, .i32⟩
  | 32 => ⟨S32x2x4x64x128, .f32⟩
  | 33 => ⟨S1x2x4x64x64, .f32⟩
  | 34 => ⟨S_, .i32⟩
  | 35 => ⟨S_, .i32⟩
  | 36 => ⟨S_, .i32⟩
  | 37 => ⟨S_, .i32⟩
  | 38 => ⟨S32x2x4x64x64, .f32⟩
  | 39 => ⟨S1x2x4x64x128, .f32⟩
  | 40 => ⟨S_, .i32⟩
  | 41 => ⟨S_, .i32⟩
  | 42 => ⟨S_, .i32⟩
  | 43 => ⟨S_, .i32⟩
  | 44 => ⟨S32x2x4x64x128, .f32⟩
  | 45 => ⟨S1x2x4x64x128, .f32⟩
  | 46 => ⟨S_, .i32⟩
  | 47 => ⟨S_, .i32⟩
  | 48 => ⟨S_, .i32⟩
  | 49 => ⟨S_, .i32⟩
  | 50 => ⟨S32x2x4x64x128, .f32⟩
  | 51 => ⟨S1x2x4x1x1, .f32⟩
  | 52 => ⟨S_, .i32⟩
  | 53 => ⟨S_, .i32⟩
  | 54 => ⟨S_, .i32⟩
  | 55 => ⟨S_, .i32⟩
  | 56 => ⟨S32x2x4x1x1, .f32⟩
  | 57 => ⟨S_, .i32⟩
  | 58 => ⟨S_, .i32⟩
  | 59 => ⟨S2x32x64x4x128, .f32⟩
  | 60 => ⟨S2x2048x512, .f32⟩
  | 61 => ⟨S2x32x64x4x128, .f32⟩
  | 62 => ⟨S2x2048x512, .f32⟩
  | 63 => ⟨S_, .f32⟩
  | 64 => ⟨S32x2x4x64x128, .f32⟩
  | 65 => ⟨S2x32x64x4x128, .f32⟩
  | 66 => ⟨S2x2048x512, .f32⟩
  | 67 => ⟨S2x32x64x4x128, .f32⟩
  | 68 => ⟨S2x2048x512, .f32⟩
  | 69 => ⟨S2x32x64x4x128, .f32⟩
  | 70 => ⟨S2x2048x512, .f32⟩
  | 71 => ⟨S_, .f32⟩
  | 72 => ⟨S32x2x4, .f32⟩
  | 73 => ⟨S32x2x4x1, .f32⟩
  | 74 => ⟨S2x32x1x4, .f32⟩
  | 75 => ⟨S_, .f32⟩
  | 76 => ⟨S2x32x64x128, .f32⟩
  | 77 => ⟨S2x2048x128, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_c : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v29_3 : Ref sig .tc := ⟨.hbm, 48, rfl⟩
abbrev main_v29_4 : Ref sig .tc := ⟨.hbm, 49, rfl⟩
abbrev main_v29_5 : Ref sig .tc := ⟨.hbm, 50, rfl⟩
abbrev main_v29_6 : Ref sig .tc := ⟨.hbm, 51, rfl⟩
abbrev main_v29_7 : Ref sig .tc := ⟨.hbm, 52, rfl⟩
abbrev main_v29_8 : Ref sig .tc := ⟨.hbm, 53, rfl⟩
abbrev main_v29_9 : Ref sig .tc := ⟨.hbm, 54, rfl⟩
abbrev main_v29_10 : Ref sig .tc := ⟨.hbm, 55, rfl⟩
abbrev main_v29_11 : Ref sig .tc := ⟨.hbm, 56, rfl⟩
abbrev main_v29_12 : Ref sig .tc := ⟨.hbm, 57, rfl⟩
abbrev main_v29_13 : Ref sig .tc := ⟨.hbm, 58, rfl⟩
abbrev main_v29_14 : Ref sig .tc := ⟨.hbm, 59, rfl⟩
abbrev main_v29_15 : Ref sig .tc := ⟨.hbm, 60, rfl⟩
abbrev main_while0c_c_24 : Ref sig .tc := ⟨.hbm, 61, rfl⟩
abbrev main_while0c_v46 : Ref sig .tc := ⟨.hbm, 62, rfl⟩
abbrev main_while0b_c_24 : Ref sig .tc := ⟨.hbm, 63, rfl⟩
abbrev main_while0b_v46 : Ref sig .tc := ⟨.hbm, 64, rfl⟩
abbrev main_while0b_c_25 : Ref sig .tc := ⟨.hbm, 65, rfl⟩
abbrev main_while0b_v47 : Ref sig .tc := ⟨.hbm, 66, rfl⟩
abbrev main_while0b_call0_c : Ref sig .tc := ⟨.hbm, 67, rfl⟩
abbrev main_while0b_call0_c_0 : Ref sig .tc := ⟨.hbm, 68, rfl⟩
abbrev main_while0b_call0_c_1 : Ref sig .tc := ⟨.hbm, 69, rfl⟩
abbrev main_while0b_call0_c_2 : Ref sig .tc := ⟨.hbm, 70, rfl⟩
abbrev main_while0b_call0_v0 : Ref sig .tc := ⟨.hbm, 71, rfl⟩
abbrev main_while0b_v48 : Ref sig .tc := ⟨.hbm, 72, rfl⟩
abbrev main_while0b_call1_c : Ref sig .tc := ⟨.hbm, 73, rfl⟩
abbrev main_while0b_call1_c_0 : Ref sig .tc := ⟨.hbm, 74, rfl⟩
abbrev main_while0b_call1_c_1 : Ref sig .tc := ⟨.hbm, 75, rfl⟩
abbrev main_while0b_call1_c_2 : Ref sig .tc := ⟨.hbm, 76, rfl⟩
abbrev main_while0b_call1_v0 : Ref sig .tc := ⟨.hbm, 77, rfl⟩
abbrev main_while0b_v49 : Ref sig .tc := ⟨.hbm, 78, rfl⟩
abbrev main_while0b_call2_c : Ref sig .tc := ⟨.hbm, 79, rfl⟩
abbrev main_while0b_call2_c_0 : Ref sig .tc := ⟨.hbm, 80, rfl⟩
abbrev main_while0b_call2_c_1 : Ref sig .tc := ⟨.hbm, 81, rfl⟩
abbrev main_while0b_call2_c_2 : Ref sig .tc := ⟨.hbm, 82, rfl⟩
abbrev main_while0b_call2_v0 : Ref sig .tc := ⟨.hbm, 83, rfl⟩
abbrev main_while0b_v50 : Ref sig .tc := ⟨.hbm, 84, rfl⟩
abbrev main_while0b_call3_c : Ref sig .tc := ⟨.hbm, 85, rfl⟩
abbrev main_while0b_call3_c_0 : Ref sig .tc := ⟨.hbm, 86, rfl⟩
abbrev main_while0b_call3_c_1 : Ref sig .tc := ⟨.hbm, 87, rfl⟩
abbrev main_while0b_call3_c_2 : Ref sig .tc := ⟨.hbm, 88, rfl⟩
abbrev main_while0b_call3_v0 : Ref sig .tc := ⟨.hbm, 89, rfl⟩
abbrev main_while0b_v51 : Ref sig .tc := ⟨.hbm, 90, rfl⟩
abbrev main_while0b_call4_c : Ref sig .tc := ⟨.hbm, 91, rfl⟩
abbrev main_while0b_call4_c_0 : Ref sig .tc := ⟨.hbm, 92, rfl⟩
abbrev main_while0b_call4_c_1 : Ref sig .tc := ⟨.hbm, 93, rfl⟩
abbrev main_while0b_call4_c_2 : Ref sig .tc := ⟨.hbm, 94, rfl⟩
abbrev main_while0b_call4_v0 : Ref sig .tc := ⟨.hbm, 95, rfl⟩
abbrev main_while0b_v52 : Ref sig .tc := ⟨.hbm, 96, rfl⟩
abbrev main_while0b_call5_c : Ref sig .tc := ⟨.hbm, 97, rfl⟩
abbrev main_while0b_call5_c_0 : Ref sig .tc := ⟨.hbm, 98, rfl⟩
abbrev main_while0b_call5_c_1 : Ref sig .tc := ⟨.hbm, 99, rfl⟩
abbrev main_while0b_call5_c_2 : Ref sig .tc := ⟨.hbm, 100, rfl⟩
abbrev main_while0b_call5_v0 : Ref sig .tc := ⟨.hbm, 101, rfl⟩
abbrev main_while0b_v53 : Ref sig .tc := ⟨.hbm, 102, rfl⟩
abbrev main_while0b_call6_c : Ref sig .tc := ⟨.hbm, 103, rfl⟩
abbrev main_while0b_call6_c_0 : Ref sig .tc := ⟨.hbm, 104, rfl⟩
abbrev main_while0b_call6_c_1 : Ref sig .tc := ⟨.hbm, 105, rfl⟩
abbrev main_while0b_call6_c_2 : Ref sig .tc := ⟨.hbm, 106, rfl⟩
abbrev main_while0b_call6_v0 : Ref sig .tc := ⟨.hbm, 107, rfl⟩
abbrev main_while0b_v54 : Ref sig .tc := ⟨.hbm, 108, rfl⟩
abbrev main_while0b_call7_c : Ref sig .tc := ⟨.hbm, 109, rfl⟩
abbrev main_while0b_call7_c_0 : Ref sig .tc := ⟨.hbm, 110, rfl⟩
abbrev main_while0b_call7_c_1 : Ref sig .tc := ⟨.hbm, 111, rfl⟩
abbrev main_while0b_call7_c_2 : Ref sig .tc := ⟨.hbm, 112, rfl⟩
abbrev main_while0b_call7_v0 : Ref sig .tc := ⟨.hbm, 113, rfl⟩
abbrev main_while0b_v55 : Ref sig .tc := ⟨.hbm, 114, rfl⟩
abbrev main_while0b_v56 : Ref sig .tc := ⟨.hbm, 115, rfl⟩
abbrev main_while0b_v57 : Ref sig .tc := ⟨.hbm, 116, rfl⟩
abbrev main_while0b_v58 : Ref sig .tc := ⟨.hbm, 117, rfl⟩
abbrev main_while0b_v59 : Ref sig .tc := ⟨.hbm, 118, rfl⟩
abbrev main_while0b_v60 : Ref sig .tc := ⟨.hbm, 119, rfl⟩
abbrev main_while0b_v61 : Ref sig .tc := ⟨.hbm, 120, rfl⟩
abbrev main_while0b_v62 : Ref sig .tc := ⟨.hbm, 121, rfl⟩
abbrev main_while0b_v63 : Ref sig .tc := ⟨.hbm, 122, rfl⟩
abbrev main_while0b_v64 : Ref sig .tc := ⟨.hbm, 123, rfl⟩
abbrev main_while0b_v65 : Ref sig .tc := ⟨.hbm, 124, rfl⟩
abbrev main_while0b_v66 : Ref sig .tc := ⟨.hbm, 125, rfl⟩
abbrev main_while0b_v67 : Ref sig .tc := ⟨.hbm, 126, rfl⟩
abbrev main_while0b_v68 : Ref sig .tc := ⟨.hbm, 127, rfl⟩
abbrev main_while0b_v69 : Ref sig .tc := ⟨.hbm, 128, rfl⟩
abbrev main_while0b_v70 : Ref sig .tc := ⟨.hbm, 129, rfl⟩
abbrev main_while0b_cst_26 : Ref sig .tc := ⟨.hbm, 130, rfl⟩
abbrev main_while0b_v71 : Ref sig .tc := ⟨.hbm, 131, rfl⟩
abbrev main_while0b_v72 : Ref sig .tc := ⟨.hbm, 132, rfl⟩
abbrev main_while0b_v73 : Ref sig .tc := ⟨.hbm, 133, rfl⟩
abbrev main_while0b_v74 : Ref sig .tc := ⟨.hbm, 134, rfl⟩
abbrev main_while0b_v75 : Ref sig .tc := ⟨.hbm, 135, rfl⟩
abbrev main_while0b_v76 : Ref sig .tc := ⟨.hbm, 136, rfl⟩
abbrev main_while0b_v77 : Ref sig .tc := ⟨.hbm, 137, rfl⟩
abbrev main_while0b_v78 : Ref sig .tc := ⟨.hbm, 138, rfl⟩
abbrev main_while0b_v79 : Ref sig .tc := ⟨.hbm, 139, rfl⟩
abbrev main_while0b_v80 : Ref sig .tc := ⟨.hbm, 140, rfl⟩
abbrev main_while0b_v81 : Ref sig .tc := ⟨.hbm, 141, rfl⟩
abbrev main_while0b_v82 : Ref sig .tc := ⟨.hbm, 142, rfl⟩
abbrev main_while0b_v83 : Ref sig .tc := ⟨.hbm, 143, rfl⟩
abbrev main_while0b_v84 : Ref sig .tc := ⟨.hbm, 144, rfl⟩
abbrev main_while0b_v85 : Ref sig .tc := ⟨.hbm, 145, rfl⟩
abbrev main_while0b_v86 : Ref sig .tc := ⟨.hbm, 146, rfl⟩
abbrev main_while0b_v87 : Ref sig .tc := ⟨.hbm, 147, rfl⟩
abbrev main_while0b_v88 : Ref sig .tc := ⟨.hbm, 148, rfl⟩
abbrev main_while0b_call8_v0 : Ref sig .tc := ⟨.hbm, 149, rfl⟩
abbrev main_while0b_call8_c : Ref sig .tc := ⟨.hbm, 150, rfl⟩
abbrev main_while0b_call8_c_0 : Ref sig .tc := ⟨.hbm, 151, rfl⟩
abbrev main_while0b_call8_c_1 : Ref sig .tc := ⟨.hbm, 152, rfl⟩
abbrev main_while0b_call8_c_2 : Ref sig .tc := ⟨.hbm, 153, rfl⟩
abbrev main_while0b_v89 : Ref sig .tc := ⟨.hbm, 154, rfl⟩
abbrev main_while0b_call9_v0 : Ref sig .tc := ⟨.hbm, 155, rfl⟩
abbrev main_while0b_call9_c : Ref sig .tc := ⟨.hbm, 156, rfl⟩
abbrev main_while0b_call9_c_0 : Ref sig .tc := ⟨.hbm, 157, rfl⟩
abbrev main_while0b_call9_c_1 : Ref sig .tc := ⟨.hbm, 158, rfl⟩
abbrev main_while0b_call9_c_2 : Ref sig .tc := ⟨.hbm, 159, rfl⟩
abbrev main_while0b_v90 : Ref sig .tc := ⟨.hbm, 160, rfl⟩
abbrev main_while0b_call10_v0 : Ref sig .tc := ⟨.hbm, 161, rfl⟩
abbrev main_while0b_call10_c : Ref sig .tc := ⟨.hbm, 162, rfl⟩
abbrev main_while0b_call10_c_0 : Ref sig .tc := ⟨.hbm, 163, rfl⟩
abbrev main_while0b_call10_c_1 : Ref sig .tc := ⟨.hbm, 164, rfl⟩
abbrev main_while0b_call10_c_2 : Ref sig .tc := ⟨.hbm, 165, rfl⟩
abbrev main_while0b_v91 : Ref sig .tc := ⟨.hbm, 166, rfl⟩
abbrev main_while0b_call11_v0 : Ref sig .tc := ⟨.hbm, 167, rfl⟩
abbrev main_while0b_call11_c : Ref sig .tc := ⟨.hbm, 168, rfl⟩
abbrev main_while0b_call11_c_0 : Ref sig .tc := ⟨.hbm, 169, rfl⟩
abbrev main_while0b_call11_c_1 : Ref sig .tc := ⟨.hbm, 170, rfl⟩
abbrev main_while0b_call11_c_2 : Ref sig .tc := ⟨.hbm, 171, rfl⟩
abbrev main_while0b_v92 : Ref sig .tc := ⟨.hbm, 172, rfl⟩
abbrev main_while0b_call12_v0 : Ref sig .tc := ⟨.hbm, 173, rfl⟩
abbrev main_while0b_call12_c : Ref sig .tc := ⟨.hbm, 174, rfl⟩
abbrev main_while0b_call12_c_0 : Ref sig .tc := ⟨.hbm, 175, rfl⟩
abbrev main_while0b_call12_c_1 : Ref sig .tc := ⟨.hbm, 176, rfl⟩
abbrev main_while0b_call12_c_2 : Ref sig .tc := ⟨.hbm, 177, rfl⟩
abbrev main_while0b_v93 : Ref sig .tc := ⟨.hbm, 178, rfl⟩
abbrev main_while0b_call13_v0 : Ref sig .tc := ⟨.hbm, 179, rfl⟩
abbrev main_while0b_call13_c : Ref sig .tc := ⟨.hbm, 180, rfl⟩
abbrev main_while0b_call13_c_0 : Ref sig .tc := ⟨.hbm, 181, rfl⟩
abbrev main_while0b_call13_c_1 : Ref sig .tc := ⟨.hbm, 182, rfl⟩
abbrev main_while0b_call13_c_2 : Ref sig .tc := ⟨.hbm, 183, rfl⟩
abbrev main_while0b_v94 : Ref sig .tc := ⟨.hbm, 184, rfl⟩
abbrev main_while0b_c_27 : Ref sig .tc := ⟨.hbm, 185, rfl⟩
abbrev main_while0b_v95 : Ref sig .tc := ⟨.hbm, 186, rfl⟩
abbrev main_v30 : Ref sig .tc := ⟨.hbm, 187, rfl⟩
abbrev main_v31 : Ref sig .tc := ⟨.hbm, 188, rfl⟩
abbrev main_v32 : Ref sig .tc := ⟨.hbm, 189, rfl⟩
abbrev main_v33 : Ref sig .tc := ⟨.hbm, 190, rfl⟩
abbrev main_cst_6 : Ref sig .tc := ⟨.hbm, 191, rfl⟩
abbrev main_v34 : Ref sig .tc := ⟨.hbm, 192, rfl⟩
abbrev main_v35 : Ref sig .tc := ⟨.hbm, 193, rfl⟩
abbrev main_v36 : Ref sig .tc := ⟨.hbm, 194, rfl⟩
abbrev main_v37 : Ref sig .tc := ⟨.hbm, 195, rfl⟩
abbrev main_v38 : Ref sig .tc := ⟨.hbm, 196, rfl⟩
abbrev main_v39 : Ref sig .tc := ⟨.hbm, 197, rfl⟩
abbrev main_v40 : Ref sig .tc := ⟨.hbm, 198, rfl⟩
abbrev main_cst_7 : Ref sig .tc := ⟨.hbm, 199, rfl⟩
abbrev main_v41 : Ref sig .tc := ⟨.hbm, 200, rfl⟩
abbrev main_v42 : Ref sig .tc := ⟨.hbm, 201, rfl⟩
abbrev main_v43 : Ref sig .tc := ⟨.hbm, 202, rfl⟩
abbrev main_cst_8 : Ref sig .tc := ⟨.hbm, 203, rfl⟩
abbrev main_v44 : Ref sig .tc := ⟨.hbm, 204, rfl⟩
abbrev main_v45 : Ref sig .tc := ⟨.hbm, 205, rfl⟩

abbrev nD : Nat := 1
abbrev τ : Topo := Topo.v7x

variable {F : FTy → Type} [FloatOps F]

abbrev main_while0_count : Scf.Loop 32 := ⟨0#32, 32#32, 1#32⟩
-- ==== NormGrad.lean ====
abbrev S4096x1024 : Shape := ⟨2, ![4096, 1024]⟩
abbrev S1x1024 : Shape := ⟨2, ![1, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== NormGradRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | .hbm, ⟨48, _⟩ => ⟨S1x1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== LruPostGrad.lean ====
abbrev S4096x512 : Shape := ⟨2, ![4096, 512]⟩
abbrev S4096x8192 : Shape := ⟨2, ![4096, 8192]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S4096x512, .f32⟩
  | .hbm, ⟨3, _⟩ => ⟨S4096x8192, .bf16⟩
  | .hbm, ⟨4, _⟩ => ⟨S4096x512, .f32⟩
  | .hbm, ⟨5, _⟩ => ⟨S4096x8192, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg1.toNat, c13_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== LruPostGradRefIdeal.lean ====
abbrev S4096x512 : Shape := ⟨2, ![4096, 512]⟩
abbrev S4096x8192 : Shape := ⟨2, ![4096, 8192]⟩
abbrev S_ : Shape := ⟨0, ![]⟩
abbrev S4096x6656 : Shape := ⟨2, ![4096, 6656]⟩
abbrev S4096x1024 : Shape := ⟨2, ![4096, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S4096x512, .f32⟩
  | .hbm, ⟨3, _⟩ => ⟨S4096x8192, .bf16⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x6656, .bf16⟩
  | .hbm, ⟨52, _⟩ => ⟨S4096x512, .bf16⟩
  | .hbm, ⟨53, _⟩ => ⟨S4096x1024, .bf16⟩
  | .hbm, ⟨54, _⟩ => ⟨S4096x8192, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== NormFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NormFwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== LruPostFwd.lean ====
abbrev S4096x512 : Shape := ⟨2, ![4096, 512]⟩
abbrev S4096x8192 : Shape := ⟨2, ![4096, 8192]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LruPostFwdRefIdeal.lean ====
abbrev S4096x512 : Shape := ⟨2, ![4096, 512]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== RetPostFwd.lean ====
abbrev S4096x512 : Shape := ⟨2, ![4096, 512]⟩
abbrev S4096x8192 : Shape := ⟨2, ![4096, 8192]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RetPostFwdRefIdeal.lean ====
abbrev S4096x512 : Shape := ⟨2, ![4096, 512]⟩
abbrev S4096x8192 : Shape := ⟨2, ![4096, 8192]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S4096x512, .f32⟩
  | .hbm, ⟨3, _⟩ => ⟨S4096x4x128, .f32⟩
  | .hbm, ⟨4, _⟩ => ⟨S4096x4x128, .f32⟩
  | .hbm, ⟨5, _⟩ => ⟨S_, .f32⟩
  | .hbm, ⟨6, _⟩ => ⟨S4096x4, .f32⟩
  | .hbm, ⟨7, _⟩ => ⟨S4096x4x1, .f32⟩
  | .hbm, ⟨8, _⟩ => ⟨S_, .f32⟩
  | .hbm, ⟨9, _⟩ => ⟨S4096x4x1, .f32⟩
  | .hbm, ⟨10, _⟩ => ⟨S4096x4x1, .f32⟩
  | .hbm, ⟨11, _⟩ => ⟨S4096x4x128, .f32⟩
  | .hbm, ⟨12, _⟩ => ⟨S4096x4x128, .f32⟩
  | .hbm, ⟨13, _⟩ => ⟨S4096x4x128, .f32⟩
  | .hbm, ⟨14, _⟩ => ⟨S_, .f32⟩
  | .hbm, ⟨15, _⟩ => ⟨S4096x4, .f32⟩
  | .hbm, ⟨16, _⟩ => ⟨S4096x4x1, .f32⟩
  | .hbm, ⟨17, _⟩ => ⟨S_, .f32⟩
  | .hbm, ⟨18, _⟩ => ⟨S4096x4x1, .f32⟩
  | .hbm, ⟨19, _⟩ => ⟨S4096x4x1, .f32⟩
  | .hbm, ⟨20, _⟩ => ⟨S4096x4x128, .f32⟩
  | .hbm, ⟨21, _⟩ => ⟨S4096x4x128, .f32⟩
  | .hbm, ⟨22, _⟩ => ⟨S_, .f32⟩
  | .hbm, ⟨23, _⟩ => ⟨S4096x4x1, .f32⟩
  | .hbm, ⟨24, _⟩ => ⟨S4096x4x1, .f32⟩
  | .hbm, ⟨25, _⟩ => ⟨S4096x4x1, .f32⟩
  | .hbm, ⟨26, _⟩ => ⟨S4096x4x128, .f32⟩
  | .hbm, ⟨27, _⟩ => ⟨S4096x4x128, .f32⟩
  | .hbm, ⟨28, _⟩ => ⟨S4096x4x128, .f32⟩
  | .hbm, ⟨29, _⟩ => ⟨S4096x4x128, .f32⟩
  | .hbm, ⟨30, _⟩ => ⟨S_, .f32⟩
  | .hbm, ⟨31, _⟩ => ⟨S4096x4x128, .f32⟩
  | .hbm, ⟨32, _⟩ => ⟨S4096x4x128, .f32⟩
  | .hbm, ⟨33, _⟩ => ⟨S_, .f32⟩
  | .hbm, ⟨34, _⟩ => ⟨S4096x4x128, .f32⟩
  | .hbm, ⟨35, _⟩ => ⟨S4096x4x128, .f32⟩
  | .hbm, ⟨36, _⟩ => ⟨S4096x4x128, .f32⟩
  | .hbm, ⟨37, _⟩ => ⟨S4096x4x128, .f32⟩
  | .hbm, ⟨38, _⟩ => ⟨S4096x512, .f32⟩
  | .hbm, ⟨39, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== DnPostFwd.lean ====
abbrev S4096x512 : Shape := ⟨2, ![4096, 512]⟩
abbrev S4096x8192 : Shape := ⟨2, ![4096, 8192]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S1x128, .f32⟩
  | .hbm, ⟨3, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DnPostFwdRefIdeal.lean ====
abbrev S4096x512 : Shape := ⟨2, ![4096, 512]⟩
abbrev S4096x8192 : Shape := ⟨2, ![4096, 8192]⟩
abbrev S1x128 : Shape := ⟨2, ![1, 128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S1x128, .f32⟩
  | .hbm, ⟨3, _⟩ => ⟨S4096x512, .f32⟩
  | .hbm, ⟨4, _⟩ => ⟨S4096x4x128, .f32⟩
  | .hbm, ⟨5, _⟩ => ⟨S4096x4x128, .f32⟩
  | .hbm, ⟨6, _⟩ => ⟨S4096x4x128, .f32⟩
  | .hbm, ⟨7, _⟩ => ⟨S_, .f32⟩
  | .hbm, ⟨8, _⟩ => ⟨S4096x4, .f32⟩
  | .hbm, ⟨9, _⟩ => ⟨S4096x4x1, .f32⟩
  | .hbm, ⟨10, _⟩ => ⟨S_, .f32⟩
  | .hbm, ⟨11, _⟩ => ⟨S4096x4x1, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S4096x4x1, .f32⟩
  | .hbm, ⟨17, _⟩ => ⟨S4096x4x128, .f32⟩
  | .hbm, ⟨18, _⟩ => ⟨S4096x4x128, .f32⟩
  | .hbm, ⟨19, _⟩ => ⟨S1x1x128, .f32⟩
  | .hbm, ⟨20, _⟩ => ⟨S4096x4x128, .f32⟩
  | .hbm, ⟨21, _⟩ => ⟨S4096x4x128, .f32⟩
  | .hbm, ⟨22, _⟩ => ⟨S4096x4x128, .f32⟩
  | .hbm, ⟨23, _⟩ => ⟨S4096x4x128, .f32⟩
  | .hbm, ⟨24, _⟩ => ⟨S_, .f32⟩
  | .hbm, ⟨25, _⟩ => ⟨S4096x4x128, .f32⟩
  | .hbm, ⟨26, _⟩ => ⟨S4096x4x128, .f32⟩
  | .hbm, ⟨27, _⟩ => ⟨S_, .f32⟩
  | .hbm, ⟨28, _⟩ => ⟨S4096x4x128, .f32⟩
  | .hbm, ⟨29, _⟩ => ⟨S4096x4x128, .f32⟩
  | .hbm, ⟨30, _⟩ => ⟨S4096x4x128, .f32⟩
  | .hbm, ⟨31, _⟩ => ⟨S4096x4x128, .f32⟩
  | .hbm, ⟨32, _⟩ => ⟨S4096x512, .f32⟩
  | .hbm, ⟨33, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Proof.Merge.lean ====
/- The gated merge's gradient: what each grid point of the kernel stores is its block of the reference's result. -/
module

public import proofs.«01_k».proof.Proof.Gen.MergeGradIdeal.Value
public import proofs.«01_k».proof.Proof.Gen.MergeGradRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Merge

open Cert.MergeGradIdeal Cert.MergeGradIdeal.Gen Cert.MergeGradIdeal.Value
open Cert.MergeGradRefIdeal.Read

variable (m : (ℓ : Loc nD τ sig) → Buf (Elt Ideal) ℓ)

/-- Every window's block index at a grid point: row block `t`, the gate windows at column block 0, 1, 2. -/
theorem idx : ∀ t : Fin cfg0.N, win0_0.index t = ![t.val, 0] ∧ win0_1.index t = ![t.val, 0] ∧ win0_2.index t = ![t.val, 0]
    ∧ win0_3.index t = ![0, 0, 0] ∧ win0_4.index t = ![t.val, 0] ∧ win0_5.index t = ![t.val, 1] ∧ win0_6.index t = ![t.val, 2]
    ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

/-- The gradient of branch 0: the cotangent times the gate. -/
theorem final8 (c : Dev nD) : (dats m 0 c).arrAt 8 (cfgs 0).N
    = val_main_v62 (m ((c : Thread nD τ).loc main_arg4)) (m ((c : Thread nD τ).loc main_arg5)) := by
  refine (dats m 0 c).arrAt_eq_of_covers 8 _ (by decide +kernel) fun t hf y => ?_
  blk_simp
  rw [after0_8]
  simp only [outsAt0]
  frame_out
  pointwise [k0_pay4, k0_pay3, Ideal.logistic, val_main_v62, val_main_v54, val_main_v46, val_main_v17, val_main_v16, val_main_v15, val_main_v14, val_main_v13, val_main_v12, val_main_v9, val_main_cst, val_main_cst_0]
  blk_point [iblk, V, idx t]

/-- The gradient of branch 1: the cotangent times the gate. -/
theorem final9 (c : Dev nD) : (dats m 0 c).arrAt 9 (cfgs 0).N
    = val_main_v63 (m ((c : Thread nD τ).loc main_arg4)) (m ((c : Thread nD τ).loc main_arg5)) := by
  refine (dats m 0 c).arrAt_eq_of_covers 9 _ (by decide +kernel) fun t hf y => ?_
  blk_simp
  rw [after0_9]
  simp only [outsAt0]
  frame_out
  pointwise [k0_pay7, k0_pay6, Ideal.logistic, val_main_v63, val_main_v51, val_main_v46, val_main_v29, val_main_v28, val_main_v27, val_main_v26, val_main_v25, val_main_v24, val_main_v10, val_main_cst_3, val_main_cst_4]
  blk_point [iblk, V, idx t]

/-- The gradient of branch 2: the cotangent times the gate. -/
theorem final10 (c : Dev nD) : (dats m 0 c).arrAt 10 (cfgs 0).N
    = val_main_v64 (m ((c : Thread nD τ).loc main_arg4)) (m ((c : Thread nD τ).loc main_arg5)) := by
  refine (dats m 0 c).arrAt_eq_of_covers 10 _ (by decide +kernel) fun t hf y => ?_
  blk_simp
  rw [after0_10]
  simp only [outsAt0]
  frame_out
  pointwise [k0_pay1, k0_pay9, Ideal.logistic, val_main_v64, val_main_v48, val_main_v47, val_main_v40, val_main_v39, val_main_v38, val_main_v37, val_main_v36, val_main_v35, val_main_v11, val_main_cst_6, val_main_cst_7]
  blk_point [iblk, V, idx t]

end Cert.Proof.Merge

end
-- ==== Proof.MergeGates.lean ====
/- The gated merge's gradient in its gate logits: the one result written into an array that the kernel is handed. -/
module

public import proofs.«01_k».proof.Proof.Merge
public import proofs.«01_k».proof.Proof.Gen.MergeGradRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Merge

open Cert.MergeGradIdeal Cert.MergeGradIdeal.Gen Cert.MergeGradIdeal.Value
open Cert.MergeGradRefIdeal.Read

variable (m : (ℓ : Loc nD τ sig) → Buf (Elt Ideal) ℓ)

/-- The gate gradient as the reference composes it, of the arguments. -/
abbrev dGates (c : Dev nD) : (⟨S4096x8192, .bf16⟩ : BufTy).Contents (Elt Ideal) :=
  val_main_v61 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- Row `y 0` of row block `t`, column `y 1` of the gate columns, in the array of all columns. -/
abbrev place (t : Fin cfg0.N) (y : S512x3072.Idx) : S4096x8192.Idx :=
  ix2 (⟨t.val * 512 + (y 0).val, by
      have ht : t.val < 8 := t.isLt
      have h0 : (y 0).val < 512 := (y 0).isLt
      omega⟩ : Fin 4096)
    (⟨(y 1).val, by have h1 : (y 1).val < 3072 := (y 1).isLt; omega⟩ : Fin 8192)

/-- What grid point `t` stores of the gate gradient, one gate's columns after another. -/
theorem gates_point (c : Dev nD) (t : Fin cfg0.N) (y : S512x3072.Idx) :
    (outsAt0 m c t).2.2.2 y = dGates m c (place t y) := by
  have hy : (y 1).val < 3072 := (y 1).isLt
  simp only [outsAt0]
  frame_out
  pointwise [k0_pay2, k0_pay3, k0_pay5, k0_pay6, k0_pay8, k0_pay9, Ideal.logistic, dGates, val_main_v61]
  by_cases h0 : (y 1).val < 1024
  · rw [dif_pos h0, dif_pos h0]
    pointwise [val_main_v57, val_main_v56, val_main_v55, val_main_v54, val_main_v46, val_main_v20, val_main_v19, val_main_v18, val_main_v17, val_main_v16, val_main_v15, val_main_v14, val_main_v13, val_main_v12, val_main_v9, val_main_v2, val_main_v1, val_main_v0, val_main_cst, val_main_cst_0, val_main_cst_1]
    blk_point [iblk, V, idx t]
  · rw [dif_neg h0, dif_neg h0]
    by_cases h1 : (y 1).val - 1024 < 1024
    · rw [dif_pos h1, dif_pos h1]
      pointwise [val_main_v58, val_main_v53, val_main_v52, val_main_v46, val_main_v32, val_main_v31, val_main_v30, val_main_v29, val_main_v28, val_main_v27, val_main_v26, val_main_v25, val_main_v24, val_main_v10, val_main_v5, val_main_v4, val_main_v3, val_main_cst_3, val_main_cst_4, val_main_cst_5]
      blk_point [iblk, V, idx t]
    · rw [dif_neg h1, dif_neg h1, dif_pos (by omega)]
      pointwise [val_main_v59, val_main_v50, val_main_v49, val_main_v47, val_main_v43, val_main_v42, val_main_v41, val_main_v40, val_main_v39, val_main_v38, val_main_v37, val_main_v36, val_main_v35, val_main_v11, val_main_v8, val_main_v7, val_main_v6, val_main_cst_6, val_main_cst_7, val_main_cst_8]
      blk_point [iblk, V, idx t]

/-- The gradient of the gate logits, in columns 0 to 3071; the other columns are the argument's. -/
theorem final11 (c : Dev nD) : (dats m 0 c).arrAt 11 (cfgs 0).N = dGates m c := by
  have h := (dats m 0 c).arrAt_eq_of_coversWhere 11 (dGates m c) (fun β => β 1 = 0) (by decide +kernel)
    (P := fun j => (j 1).val < 3072) (fun t hf y => ?_) (fun j => by blk_simp [Pipeline.Window.cell_apply]; omega)
  · rw [h]; funext j
    split
    · rfl
    · rename_i hj
      rw [A_eq]
      show V m c main_v0_3 j = _
      have hj0 : ¬ (j 1).val < 1024 := by omega
      have hj1 : ¬ (j 1).val - 1024 < 1024 := by omega
      have hj2 : ¬ (j 1).val - 1024 - 1024 < 1024 := by omega
      entry_read
      pointwise [dGates, val_main_v61, val_main_v60]
      simp only [hj0, hj1, hj2, dif_neg, not_false_iff]
      blk_ext
  · rw [after0_11, cast_eq]
    refine (gates_point m c t ((cfg0.win 11).xinj (cfg0.grid.coords t) y)).trans (congrArg (dGates m c) ?_)
    blk_ext [idx t] <;> rfl

end Cert.Proof.Merge

end
-- ==== Proof.Down.lean ====
/- The last feed-forward product: its value added to the residual, and its gradient in each factor. -/
module

public import proofs.«01_k».proof.Proof.Gen.DownDxIdeal.Value
public import proofs.«01_k».proof.Proof.Gen.DownDxRefIdeal.Read
public import proofs.«01_k».proof.Proof.Gen.DownDwIdeal.Value
public import proofs.«01_k».proof.Proof.Gen.DownDwRefIdeal.Read
public import proofs.«01_k».proof.Proof.Gen.DownFwdIdeal.Value
public import proofs.«01_k».proof.Proof.Gen.DownFwdRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The gradient in the left factor. -/

namespace Cert.Proof.DownDx

open Cert.DownDxIdeal Cert.DownDxIdeal.Gen Cert.DownDxIdeal.Value
open Cert.DownDxRefIdeal.Read

variable (m : (ℓ : Loc nD τ sig) → Buf (Elt Ideal) ℓ)

/-- The block of every window at a grid point. -/
theorem idx : ∀ t : Fin cfg0.N, win0_0.index t = ![t.val / 2, 0] ∧ win0_1.index t = ![t.val % 2, 0] ∧ win0_3.index t = ![t.val / 2, t.val % 2] :=
  (by decide +kernel : ∀ t : Fin grid0.N, _)

/-- The array after the last grid point. -/
theorem final (c : Dev nD) : (dats m 0 c).arrAt 3 (cfgs 0).N
    = val_main_v4 (m ((c : Thread nD τ).loc main_arg0)) (m ((c : Thread nD τ).loc main_arg1)) := by
  refine (dats m 0 c).arrAt_eq_of_covers 3 _ (by decide +kernel) fun t hf y => ?_
  blk_simp
  rw [after0_3]
  frame_out
  pointwise [k0_pay1, val_main_v4, val_main_v3, val_main_v1]
  blk_point [iblk, V, idx t]

end Cert.Proof.DownDx

/-! The gradient in the weight: the sum over the rows, half of them at a time. -/

namespace Cert.Proof.DownDw

open Cert.DownDwIdeal Cert.DownDwIdeal.Gen Cert.DownDwIdeal.Value
open Cert.DownDwRefIdeal.Read

variable (m : (ℓ : Loc nD τ sig) → Buf (Elt Ideal) ℓ)

/-- The block of every window at a grid point. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem hzero (j) : k0_pay1 (F := Ideal) j = 0 := by pointwise [k0_pay1]

/-- One grid point adds a block's products to the running sum. -/
theorem hpay (acc : Vec Ideal S1408x1024 .f32) (x : Vec Ideal S2048x1408 .bf16) (d : Vec Ideal S2048x1024 .bf16) (j) :
    k0_pay2 acc x d j = acc j + ∑ k : Fin 2048, x (ix2 k (j 0)) * d (ix2 k (j 1)) := by
  pointwise [k0_pay2]

/-- Where a block is written back, it is what the running sum holds. -/
theorem out_eq (c : Dev nD) (t : Fin cfg0.N) (h : t.val % 2 = 1) :
    (outsAt0 m c t.val t.isLt).1 = (outsAt0 m c t.val t.isLt).2 := by
  rw [outsAt0_B m c t (by omega) h]
  frame_out

/-- The array after the last grid point. -/
theorem final (c : Dev nD) : (dats m 0 c).arrAt 2 (cfgs 0).N
    = val_main_v5 (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, read_unread_whole])
    t ((flush0_2 t).mp hf) _, zero_add]
  pointwise [val_main_v5, val_main_v4, val_main_v3, val_main_v1]
  refine Fin.sum_mul_add_congr fun s k hl => ?_
  show (_ : EReal) = _
  rw [mul_comm]
  blk_point [iblk, V, idx t, idx ⟨_, Pipeline.run_point_lt_of_flush t ((flush0_2 t).mp hf) s⟩]

end Cert.Proof.DownDw

/-! The product added to the residual. -/

namespace Cert.Proof.DownFwd

open Cert.DownFwdIdeal Cert.DownFwdIdeal.Gen Cert.DownFwdIdeal.Value
open Cert.DownFwdRefIdeal.Read

variable (m : (ℓ : Loc nD τ sig) → Buf (Elt Ideal) ℓ)

/-- The block of every window at a grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The array after the last grid point. -/
theorem final (c : Dev nD) : (dats m 0 c).arrAt 3 (cfgs 0).N
    = val_main_v3 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, val_main_v3, val_main_v2, val_main_v1, val_main_v0]
  show (_ : EReal) = _
  rw [add_comm]
  blk_point [iblk, V, idx t]

end Cert.Proof.DownFwd

end
-- ==== Proof.Up.lean ====
/- The first feed-forward product, gate and value halves: its value, and its gradient in each factor. -/
module

public import proofs.«01_k».proof.Proof.Gen.UpDwIdeal.Value
public import proofs.«01_k».proof.Proof.Gen.UpDwRefIdeal.Read
public import proofs.«01_k».proof.Proof.Gen.UpGateDxIdeal.Value
public import proofs.«01_k».proof.Proof.Gen.UpGateDxRefIdeal.Read
public import proofs.«01_k».proof.Proof.Gen.UpValDxIdeal.Value
public import proofs.«01_k».proof.Proof.Gen.UpValDxRefIdeal.Read
public import proofs.«01_k».proof.Proof.Gen.UpFwdIdeal.Value
public import proofs.«01_k».proof.Proof.Gen.UpFwdRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The gradient in one half of the weight. -/

namespace Cert.Proof.UpDw

open Cert.UpDwIdeal Cert.UpDwIdeal.Gen Cert.UpDwIdeal.Value
open Cert.UpDwRefIdeal.Read

variable (m : (ℓ : Loc nD τ sig) → Buf (Elt Ideal) ℓ)

/-- The block of every window at a grid point. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

theorem hzero (j) : k0_pay1 (F := Ideal) j = 0 := by pointwise [k0_pay1]

/-- One grid point adds a block's products to the running sum. -/
theorem hpay (acc : Vec Ideal S1024x1408 .f32) (x : Vec Ideal S2048x1024 .bf16) (d : Vec Ideal S2048x1408 .bf16) (j) :
    k0_pay2 acc x d j = acc j + ∑ k : Fin 2048, x (ix2 k (j 0)) * d (ix2 k (j 1)) := by
  pointwise [k0_pay2]

/-- Where a block is written back, it is what the running sum holds. -/
theorem out_eq (c : Dev nD) (t : Fin cfg0.N) (h : t.val % 2 = 1) :
    (outsAt0 m c t.val t.isLt).1 = (outsAt0 m c t.val t.isLt).2 := by
  rw [outsAt0_B m c t (by omega) h]
  frame_out

/-- The array after the last grid point. -/
theorem final (c : Dev nD) : (dats m 0 c).arrAt 2 (cfgs 0).N
    = val_main_v5 (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, read_unread_whole])
    t ((flush0_2 t).mp hf) _, zero_add]
  pointwise [val_main_v5, val_main_v4, val_main_v3, val_main_v1]
  refine Fin.sum_mul_add_congr fun s k hl => ?_
  show (_ : EReal) = _
  rw [mul_comm]
  blk_point [iblk, V, idx t, idx ⟨_, Pipeline.run_point_lt_of_flush t ((flush0_2 t).mp hf) s⟩]

end Cert.Proof.UpDw

/-! The gradient through the gate half. -/

namespace Cert.Proof.UpGateDx

open Cert.UpGateDxIdeal Cert.UpGateDxIdeal.Gen Cert.UpGateDxIdeal.Value
open Cert.UpGateDxRefIdeal.Read

variable (m : (ℓ : Loc nD τ sig) → Buf (Elt Ideal) ℓ)

/-- The block of every window at a grid point. -/
theorem idx : ∀ t : Fin cfg0.N, win0_0.index t = ![t.val, 0] ∧ win0_1.index t = ![0, 0] ∧ win0_3.index t = ![t.val, 0] :=
  (by decide +kernel : ∀ t : Fin grid0.N, _)

/-- The array after the last grid point. -/
theorem final (c : Dev nD) : (dats m 0 c).arrAt 3 (cfgs 0).N
    = val_main_v5 (m ((c : Thread nD τ).loc main_arg0)) (m ((c : Thread nD τ).loc main_arg1)) := by
  refine (dats m 0 c).arrAt_eq_of_covers 3 _ (by decide +kernel) fun t hf y => ?_
  blk_simp
  rw [after0_3]
  frame_out
  pointwise [k0_pay1, val_main_v5, val_main_v4, val_main_v2, val_main_v1]
  blk_point [iblk, V, idx t]

end Cert.Proof.UpGateDx

/-! The gradient through the value half, added to the one through the gate half. -/

namespace Cert.Proof.UpValDx

open Cert.UpValDxIdeal Cert.UpValDxIdeal.Gen Cert.UpValDxIdeal.Value
open Cert.UpValDxRefIdeal.Read

variable (m : (ℓ : Loc nD τ sig) → Buf (Elt Ideal) ℓ)

/-- The block of every window at a grid point. -/
theorem idx : ∀ t : Fin cfg0.N, win0_0.index t = ![t.val, 0] ∧ win0_1.index t = ![0, 1] ∧ win0_2.index t = ![t.val, 0] ∧ win0_3.index t = ![t.val, 0] :=
  (by decide +kernel : ∀ t : Fin grid0.N, _)

/-- The array after the last grid point. -/
theorem final (c : Dev nD) : (dats m 0 c).arrAt 3 (cfgs 0).N
    = val_main_v6 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, val_main_v6, val_main_v5, val_main_v4, val_main_v2, val_main_v1]
  show (_ : EReal) = _
  rw [add_comm]
  blk_point [iblk, V, idx t]

end Cert.Proof.UpValDx

/-! The product. -/

namespace Cert.Proof.UpFwd

open Cert.UpFwdIdeal Cert.UpFwdIdeal.Gen Cert.UpFwdIdeal.Value
open Cert.UpFwdRefIdeal.Read

variable (m : (ℓ : Loc nD τ sig) → Buf (Elt Ideal) ℓ)

/-- The block of every window at a grid point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The array after the last grid point. -/
theorem final (c : Dev nD) : (dats m 0 c).arrAt 2 (cfgs 0).N
    = val_main_v2 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v2, val_main_v1, val_main_v0]
  blk_point [iblk, V, idx t]

end Cert.Proof.UpFwd

end
-- ==== Proof.Mix.lean ====
/- The product that closes the mixing layer and those of its branches: values and gradients. -/
module

public import proofs.«01_k».proof.Proof.Gen.OutDxIdeal.Value
public import proofs.«01_k».proof.Proof.Gen.OutDxRefIdeal.Read
public import proofs.«01_k».proof.Proof.Gen.OutDwIdeal.Value
public import proofs.«01_k».proof.Proof.Gen.OutDwRefIdeal.Read
public import proofs.«01_k».proof.Proof.Gen.BranchDxIdeal.Value
public import proofs.«01_k».proof.Proof.Gen.BranchDxRefIdeal.Read
public import proofs.«01_k».proof.Proof.Gen.BranchDwIdeal.Value
public import proofs.«01_k».proof.Proof.Gen.BranchDwRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The gradient of the closing product in its left factor. -/

namespace Cert.Proof.OutDx

open Cert.OutDxIdeal Cert.OutDxIdeal.Gen Cert.OutDxIdeal.Value
open Cert.OutDxRefIdeal.Read

variable (m : (ℓ : Loc nD τ sig) → Buf (Elt Ideal) ℓ)

/-- The block of every window at a grid point. -/
theorem idx : ∀ t : Fin cfg0.N, win0_0.index t = ![t.val, 0] ∧ win0_1.index t = ![0, 0] ∧ win0_2.index t = ![t.val, 0] :=
  (by decide +kernel : ∀ t : Fin grid0.N, _)

/-- The array after the last grid point. -/
theorem final (c : Dev nD) : (dats m 0 c).arrAt 2 (cfgs 0).N
    = val_main_v4 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v4, val_main_v3, val_main_v1]
  blk_point [iblk, V, idx t]

end Cert.Proof.OutDx

/-! The gradient of the closing product in its weight. -/

namespace Cert.Proof.OutDw

open Cert.OutDwIdeal Cert.OutDwIdeal.Gen Cert.OutDwIdeal.Value
open Cert.OutDwRefIdeal.Read

variable (m : (ℓ : Loc nD τ sig) → Buf (Elt Ideal) ℓ)

/-- The block of every window at a grid point. -/
theorem idx : ∀ t : Fin cfg0.N, win0_0.index t = ![t.val % 2, 0] ∧ win0_1.index t = ![t.val % 2, 0] ∧ win0_2.index t = ![0, 0] :=
  (by decide +kernel : ∀ t : Fin grid0.N, _)

theorem hzero (j) : k0_pay1 (F := Ideal) j = 0 := by pointwise [k0_pay1]

/-- One grid point adds a block's products to the running sum. -/
theorem hpay (acc : Vec Ideal S1024x1024 .f32) (x : Vec Ideal S2048x1024 .bf16) (d : Vec Ideal S2048x1024 .bf16) (j) :
    k0_pay2 acc x d j = acc j + ∑ k : Fin 2048, x (ix2 k (j 0)) * d (ix2 k (j 1)) := by
  pointwise [k0_pay2]

/-- Where a block is written back, it is what the running sum holds. -/
theorem out_eq (c : Dev nD) (t : Fin cfg0.N) (h : t.val % 2 = 1) :
    (outsAt0 m c t.val t.isLt).1 = (outsAt0 m c t.val t.isLt).2 := by
  rw [outsAt0_B m c t (by omega) h]
  frame_out

/-- The array after the last grid point. -/
theorem final (c : Dev nD) : (dats m 0 c).arrAt 2 (cfgs 0).N
    = val_main_v5 (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, read_unread_whole])
    t ((flush0_2 t).mp hf) _, zero_add]
  pointwise [val_main_v5, val_main_v4, val_main_v3, val_main_v1]
  refine Fin.sum_mul_add_congr fun s k hl => ?_
  show (_ : EReal) = _
  rw [mul_comm]
  blk_point [iblk, V, idx t, idx ⟨_, Pipeline.run_point_lt_of_flush t ((flush0_2 t).mp hf) s⟩]

end Cert.Proof.OutDw

/-! The gradient of a branch's product in its left factor. -/

namespace Cert.Proof.BranchDx

open Cert.BranchDxIdeal Cert.BranchDxIdeal.Gen Cert.BranchDxIdeal.Value
open Cert.BranchDxRefIdeal.Read

variable (m : (ℓ : Loc nD τ sig) → Buf (Elt Ideal) ℓ)

/-- The block of every window at a grid point. -/
theorem idx : ∀ t : Fin cfg0.N, win0_0.index t = ![t.val, 0] ∧ win0_1.index t = ![0, 0] ∧ win0_2.index t = ![t.val, 0] :=
  (by decide +kernel : ∀ t : Fin grid0.N, _)

/-- The array after the last grid point. -/
theorem final (c : Dev nD) : (dats m 0 c).arrAt 2 (cfgs 0).N
    = val_main_v4 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v4, val_main_v3, val_main_v1]
  blk_point [iblk, V, idx t]

end Cert.Proof.BranchDx

/-! The gradient of a branch's product in its weight. -/

namespace Cert.Proof.BranchDw

open Cert.BranchDwIdeal Cert.BranchDwIdeal.Gen Cert.BranchDwIdeal.Value
open Cert.BranchDwRefIdeal.Read

variable (m : (ℓ : Loc nD τ sig) → Buf (Elt Ideal) ℓ)

/-- The block of every window at a grid point. -/
theorem idx : ∀ t : Fin cfg0.N, win0_0.index t = ![t.val % 2, 0] ∧ win0_1.index t = ![t.val % 2, 0] ∧ win0_2.index t = ![0, 0] :=
  (by decide +kernel : ∀ t : Fin grid0.N, _)

theorem hzero (j) : k0_pay1 (F := Ideal) j = 0 := by pointwise [k0_pay1]

/-- One grid point adds a block's products to the running sum. -/
theorem hpay (acc : Vec Ideal S512x1024 .f32) (x : Vec Ideal S2048x512 .bf16) (d : Vec Ideal S2048x1024 .bf16) (j) :
    k0_pay2 acc x d j = acc j + ∑ k : Fin 2048, x (ix2 k (j 0)) * d (ix2 k (j 1)) := by
  pointwise [k0_pay2]

/-- Where a block is written back, it is what the running sum holds. -/
theorem out_eq (c : Dev nD) (t : Fin cfg0.N) (h : t.val % 2 = 1) :
    (outsAt0 m c t.val t.isLt).1 = (outsAt0 m c t.val t.isLt).2 := by
  rw [outsAt0_B m c t (by omega) h]
  frame_out

/-- The array after the last grid point. -/
theorem final (c : Dev nD) : (dats m 0 c).arrAt 2 (cfgs 0).N
    = val_main_v5 (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, read_unread_whole])
    t ((flush0_2 t).mp hf) _, zero_add]
  pointwise [val_main_v5, val_main_v4, val_main_v3, val_main_v1]
  refine Fin.sum_mul_add_congr fun s k hl => ?_
  show (_ : EReal) = _
  rw [mul_comm]
  blk_point [iblk, V, idx t, idx ⟨_, Pipeline.run_point_lt_of_flush t ((flush0_2 t).mp hf) s⟩]

end Cert.Proof.BranchDw

end
-- ==== Proof.Inward.lean ====
/- The product that opens the mixing layer: its value, and its gradient in each factor. -/
module

public import proofs.«01_k».proof.Proof.Gen.InDxIdeal.Value
public import proofs.«01_k».proof.Proof.Gen.InDxRefIdeal.Read
public import proofs.«01_k».proof.Proof.Gen.InDwIdeal.Value
public import proofs.«01_k».proof.Proof.Gen.InDwRefIdeal.Read
public import proofs.«01_k».proof.Proof.Gen.InFwdIdeal.Value
public import proofs.«01_k».proof.Proof.Gen.InFwdRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The gradient in the weight. -/

namespace Cert.Proof.InDw

open Cert.InDwIdeal Cert.InDwIdeal.Gen Cert.InDwIdeal.Value
open Cert.InDwRefIdeal.Read

variable (m : (ℓ : Loc nD τ sig) → Buf (Elt Ideal) ℓ)

/-- The block of every window at a grid point. -/
theorem idx : ∀ t : Fin cfg0.N, win0_0.index t = ![t.val % 2, 0] ∧ win0_1.index t = ![t.val % 2, t.val / 2] ∧ win0_3.index t = ![0, t.val / 2] :=
  (by decide +kernel : ∀ t : Fin grid0.N, _)

theorem hzero (j) : k0_pay1 (F := Ideal) j = 0 := by pointwise [k0_pay1]

/-- One grid point adds a block's products to the running sum. -/
theorem hpay (acc : Vec Ideal S1024x2048 .f32) (x : Vec Ideal S2048x1024 .bf16) (d : Vec Ideal S2048x2048 .bf16) (j) :
    k0_pay2 acc x d j = acc j + ∑ k : Fin 2048, x (ix2 k (j 0)) * d (ix2 k (j 1)) := by
  pointwise [k0_pay2]

/-- Where a block is written back, it is what the running sum holds. -/
theorem out_eq (c : Dev nD) (t : Fin cfg0.N) (h : t.val % 2 = 1) :
    (outsAt0 m c t.val t.isLt).1 = (outsAt0 m c t.val t.isLt).2 := by
  rw [outsAt0_B m c t (by omega) h]
  frame_out

/-- The array after the last grid point. -/
theorem final (c : Dev nD) : (dats m 0 c).arrAt 3 (cfgs 0).N
    = val_main_v5 (m ((c : Thread nD τ).loc main_arg0)) (m ((c : Thread nD τ).loc main_arg1)) := by
  refine (dats m 0 c).arrAt_eq_of_covers 3 _ (by decide +kernel) fun t hf y => ?_
  blk_simp
  rw [after0_3, out_eq m c t ((flush0_3 t).mp hf), Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, read_unread_whole])
    t ((flush0_3 t).mp hf) _, zero_add]
  pointwise [val_main_v5, val_main_v4, val_main_v3, val_main_v1]
  refine Fin.sum_mul_add_congr fun s k hl => ?_
  show (_ : EReal) = _
  rw [mul_comm]
  blk_point [iblk, V, idx t, idx ⟨_, Pipeline.run_point_lt_of_flush t ((flush0_3 t).mp hf) s⟩]

end Cert.Proof.InDw

/-! The gradient in the left factor: the sum over the columns, a quarter of them at a time. -/

namespace Cert.Proof.InDx

open Cert.InDxIdeal Cert.InDxIdeal.Gen Cert.InDxIdeal.Value
open Cert.InDxRefIdeal.Read

variable (m : (ℓ : Loc nD τ sig) → Buf (Elt Ideal) ℓ)

/-- The block of every window at a grid point. -/
theorem idx : ∀ t : Fin cfg0.N, win0_0.index t = ![t.val / 4, t.val % 4] ∧ win0_1.index t = ![0, t.val % 4] ∧ win0_3.index t = ![t.val / 4, 0] :=
  (by decide +kernel : ∀ t : Fin grid0.N, _)

theorem hzero (j) : k0_pay1 (F := Ideal) j = 0 := by pointwise [k0_pay1]

/-- One grid point adds a block's products to the running sum. -/
theorem hpay (acc : Vec Ideal S1024x1024 .f32) (x : Vec Ideal S1024x2048 .bf16) (d : Vec Ideal S1024x2048 .bf16) (j) :
    k0_pay2 acc x d j = acc j + ∑ k : Fin 2048, x (ix2 (j 0) k) * d (ix2 (j 1) k) := by
  pointwise [k0_pay2]

/-- Where a block is written back, it is what the running sum holds. -/
theorem out_eq (c : Dev nD) (t : Fin cfg0.N) (h : t.val % 4 = 3) :
    (outsAt0 m c t.val t.isLt).1 = (outsAt0 m c t.val t.isLt).2 := by
  rw [outsAt0_C m c t (by omega) h]
  frame_out

/-- The array after the last grid point. -/
theorem final (c : Dev nD) : (dats m 0 c).arrAt 3 (cfgs 0).N
    = val_main_v4 (m ((c : Thread nD τ).loc main_arg0)) (m ((c : Thread nD τ).loc main_arg1)) := by
  refine (dats m 0 c).arrAt_eq_of_covers 3 _ (by decide +kernel) fun t hf y => ?_
  blk_simp
  rw [after0_3, out_eq m c t ((flush0_3 t).mp hf), Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases hl : t.val % 4 = 3
      · rw [outsAt0_C m c t h hl]; frame_out; rw [hpay, read_unread_whole]
      · rw [outsAt0_B m c t h hl]; frame_out; rw [hpay, read_unread_whole])
    t ((flush0_3 t).mp hf) _, zero_add]
  pointwise [val_main_v4, val_main_v3, val_main_v1]
  refine Fin.sum_mul_add_congr fun s k hl => ?_
  blk_point [iblk, V, idx t, idx ⟨_, Pipeline.run_point_lt_of_flush t ((flush0_3 t).mp hf) s⟩]

end Cert.Proof.InDx

/-! The product. -/

namespace Cert.Proof.InFwd

open Cert.InFwdIdeal Cert.InFwdIdeal.Gen Cert.InFwdIdeal.Value
open Cert.InFwdRefIdeal.Read

variable (m : (ℓ : Loc nD τ sig) → Buf (Elt Ideal) ℓ)

/-- The block of every window at a grid point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The array after the last grid point. -/
theorem final (c : Dev nD) : (dats m 0 c).arrAt 2 (cfgs 0).N
    = val_main_v2 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v2, val_main_v1, val_main_v0]
  blk_point [iblk, V, idx t]

end Cert.Proof.InFwd

end
-- ==== Proof.Forward.lean ====
/- The closing product of the mixing layer with the norm that follows it, and the gated merge of the branches. -/
module

public import proofs.«01_k».proof.Proof.Gen.OutFwdIdeal.Value
public import proofs.«01_k».proof.Proof.Gen.OutFwdRefIdeal.Read
public import proofs.«01_k».proof.Proof.Gen.MergeFwdIdeal.Value
public import proofs.«01_k».proof.Proof.Gen.MergeFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The closing product added to the residual, and the norm of the sum. -/

namespace Cert.Proof.OutFwd

open Cert.OutFwdIdeal Cert.OutFwdIdeal.Gen Cert.OutFwdIdeal.Value
open Cert.OutFwdRefIdeal.Read

variable (m : (ℓ : Loc nD τ sig) → Buf (Elt Ideal) ℓ)

/-- The block of every window at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The sum, as it stands when the kernel ends. -/
theorem final4 (c : Dev nD) : (dats m 0 c).arrAt 4 (cfgs 0).N
    = val_main_v3 (m ((c : Thread nD τ).loc main_arg0)) (m ((c : Thread nD τ).loc main_arg1))
      (m ((c : Thread nD τ).loc main_arg2)) := by
  refine (dats m 0 c).arrAt_eq_of_covers 4 _ (by decide +kernel) fun t hf y => ?_
  blk_simp
  rw [after0_4]
  frame_out
  pointwise [k0_pay1, val_main_v3, val_main_v2, val_main_v1, val_main_v0]
  show (_ : EReal) = _
  rw [add_comm]
  blk_point [iblk, V, idx t]

/-- The normed sum, as it stands when the kernel ends. -/
theorem final5 (c : Dev nD) : (dats m 0 c).arrAt 5 (cfgs 0).N
    = val_main_v16 (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay2, val_main_v16, val_main_v15, val_main_v14, val_main_v13, val_main_v12, val_main_v11,
    val_main_v10, val_main_v9, val_main_v8, val_main_v7, val_main_v6, val_main_v5, val_main_v4,
    val_main_cst, val_main_cst_0, val_main_cst_1]
  have hy : k0_pay1 (iblk m c 0 t) (iblk m c 1 t) (iblk m c 2 t) y
      = val_main_v3 (m (c.tc.loc main_arg0)) (m (c.tc.loc main_arg1)) (m (c.tc.loc main_arg2))
        (((View.whole main_v0_1).slice (win0_5.rect t)).emb y) := by
    pointwise [k0_pay1, val_main_v3, val_main_v2, val_main_v1, val_main_v0]
    show (_ : EReal) = _
    rw [add_comm]
    blk_point [iblk, V, idx t]
  have hs : ∀ x, k0_pay1 (iblk m c 0 t) (iblk m c 1 t) (iblk m c 2 t) (ix2 (y 0) x)
      = val_main_v3 (m (c.tc.loc main_arg0)) (m (c.tc.loc main_arg1)) (m (c.tc.loc main_arg2))
        (ix2 (((View.whole main_v0_1).slice (win0_5.rect t)).emb y 0) x) := fun x => by
    pointwise [k0_pay1, val_main_v3, val_main_v2, val_main_v1, val_main_v0]
    show (_ : EReal) = _
    rw [add_comm]
    blk_point [iblk, V, idx t]
  simp only [hy, hs]
  refine congrArg _ ?_
  blk_point [iblk, V, idx t]

end Cert.Proof.OutFwd

/-! The gated merge of the three branches' products. -/

namespace Cert.Proof.MergeFwd

open Cert.MergeFwdIdeal Cert.MergeFwdIdeal.Gen Cert.MergeFwdIdeal.Value
open Cert.MergeFwdRefIdeal.Read

variable (m : (ℓ : Loc nD τ sig) → Buf (Elt Ideal) ℓ)

/-- The block of every window at a grid point. -/
theorem idx : ∀ t : Fin cfg0.N, win0_0.index t = ![t.val, 0] ∧ win0_1.index t = ![t.val, 0] ∧ win0_2.index t = ![t.val, 0]
    ∧ win0_3.index t = ![0, 0, 0] ∧ win0_4.index t = ![t.val, 0] ∧ win0_5.index t = ![t.val, 1]
    ∧ win0_6.index t = ![t.val, 2] ∧ win0_7.index t = ![t.val, 0] :=
  (by decide +kernel : ∀ t : Fin grid0.N, _)

/-- The array after the last grid point. -/
theorem final (c : Dev nD) : (dats m 0 c).arrAt 7 (cfgs 0).N
    = val_main_v43 (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  frame_out
  pointwise [k0_pay1, Ideal.logistic, val_main_v43, val_main_v42, val_main_v41, val_main_v40, val_main_v39, val_main_v38,
    val_main_v37, val_main_v36, val_main_v35, val_main_v34, val_main_v33, val_main_v32, val_main_v31, val_main_v30,
    val_main_v29, val_main_v28, val_main_v27, val_main_v26, val_main_v25, val_main_v24, val_main_v23, val_main_v22,
    val_main_v21, val_main_v20, val_main_v19, val_main_v18, val_main_v17, val_main_v16, val_main_v15, val_main_v14,
    val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, val_main_cst_2, val_main_cst_3, val_main_cst_4, val_main_cst_5]
  blk_point [iblk, V, idx t]

end Cert.Proof.MergeFwd

end
-- ==== Proof.ScanTile.lean ====
module

public import proofs.«01_k».proof.Proof.Gen.ScanGradIdeal
public import Idealize.ShloMosaic.Lib.Pipeline.ValueKit

/-! What the scan's gradient kernel computes for one chunk of 64 rows, as vector operations at a
variable batch `b` and head `h`, and each result read at an index. -/

@[expose] public section

set_option maxRecDepth 16384

noncomputable section

open Idealize.ShloMosaic Idealize.ShloMosaic.TcCoe Idealize.SL.Sem
open Cert.ScanGradIdeal Cert.ScanGradIdeal.Gen

namespace DeltaScan

/-- One chunk's rows of an array whose columns are four heads of 128. -/
abbrev Rows := FVec Ideal S2x64x512 .f32
abbrev Half := FVec Ideal S2x64x512 .bf16
/-- One head's rows. -/
abbrev Tile := FVec Ideal S64x128 .f32
abbrev State := FVec Ideal S128x128 .f32

theorem slicesHead (b : Fin 2) (h : Fin 4) : S2x64x512.Slices ![(b : ℕ), 0, (h : ℕ) * 128] S1x64x128 := by
  revert b h; decide
theorem slicesHead64 (b : Fin 2) (h : Fin 4) : S2x64x512.Slices ![(b : ℕ), 0, (h : ℕ) * 128] S1x64x64 := by
  revert b h; decide
theorem slicesBatch (b : Fin 2) : S2x64x512.Slices ![(b : ℕ), 0, 0] S1x64x512 := by
  revert b; decide
theorem slicesGate (b : Fin 2) : S2x64x128.Slices ![(b : ℕ), 0, 0] S1x64x128 := by
  revert b; decide
theorem slicesCols (h : Fin 4) : S64x512.Slices ![0, (h : ℕ) * 128] S64x128 := by
  revert h; decide

/-- Round to the type the matrix unit reads. -/
def low {s : Shape} (x : FVec Ideal s .f32) : FVec Ideal s .bf16 := truncf .bf16 x bitsLt_bf16_f32
def wide (x : Half) : Rows := extf .f32 x bitsLt_bf16_f32

/-- Head `h` of batch `b`. -/
def head (b : Fin 2) (h : Fin 4) (x : Rows) : Tile :=
  shapeCast S64x128 (extractStridedSlice S1x64x128 ![(b : ℕ), 0, (h : ℕ) * 128] x (slicesHead b h)) shapeCasts_S1x64x128_S64x128
/-- The first 64 columns of head `h` of batch `b`. -/
def head64 (b : Fin 2) (h : Fin 4) (x : Rows) : FVec Ideal S64x64 .f32 :=
  shapeCast S64x64 (extractStridedSlice S1x64x64 ![(b : ℕ), 0, (h : ℕ) * 128] x (slicesHead64 b h)) shapeCasts_S1x64x64_S64x64
/-- Head `h` of batch `b`, the batch axis summed away before the columns are cut. -/
def headSum (b : Fin 2) (h : Fin 4) (x : Rows) : Tile :=
  extractStridedSlice S64x128 ![0, (h : ℕ) * 128]
    (multiReduction .add [0] S64x512 (extractStridedSlice S1x64x512 ![(b : ℕ), 0, 0] x (slicesBatch b)) 0x00000000#32 reduces_S1x64x512_S64x512 (.inl rfl) rfl)
    (slicesCols h)

def laneIs (h : Fin 4) : IVec S64x128 1 := cmpi .eq (iota .tc S64x128 32 [1] iota_S64x128_d1_w32) (broadcast S64x128 (BitVec.ofNat 32 (h : ℕ)))
def rowIs : IVec S64x1 1 := cmpi .eq (iota .tc S64x1 32 [0] iota_S64x1_d0_w32) (broadcast S64x1 0#32)

/-- The gate entry of head `h`, picked by masks. -/
def pick (b : Fin 2) (h : Fin 4) (g : FVec Ideal S2x64x128 .f32) : FVec Ideal S1x1 .f32 :=
  shapeCast S1x1 (multiReduction .add [0] S1
    (select rowIs
      (shapeCast S64x1 (multiReduction .add [1] S64
        (select (laneIs h)
          (shapeCast S64x128 (extractStridedSlice S1x64x128 ![(b : ℕ), 0, 0] g (slicesGate b)) shapeCasts_S1x64x128_S64x128)
          (broadcast S64x128 (Scalar.ofBits .f32 0x00000000#32))) 0x00000000#32 reduces_S64x128_S64 (.inl rfl) rfl) shapeCasts_S64_S64x1)
      (broadcast S64x1 (Scalar.ofBits .f32 0x00000000#32))) 0x00000000#32 reduces_S64x1_S1 (.inl rfl) rfl) shapeCasts_S1_S1x1

/-- What one chunk reads besides the adjoint of the state. -/
structure Chunk where
  u : Rows
  w : Half
  a : Half
  q : Half
  k : Half
  g : FVec Ideal S2x64x128 .f32
  S : Fin 2 → Fin 4 → State
  o : Rows

variable (X : Chunk) (b : Fin 2) (h : Fin 4) (D : State)

def Chunk.decay : FVec Ideal S1x1 .f32 := exp (pick b h X.g)

/-- The value rows after the state's prediction is taken off. -/
def Chunk.vnew : Tile :=
  subf (head b h X.u) (matmul dot_S64x128_S128x128_S64x128_1_0_0_1_n_n none (low (head b h (wide X.w))) (low (X.S b h)) (constant S64x128 .f32 0x00000000#32))

/-- The cotangent of the value rows. -/
def Chunk.dv : Tile :=
  addf (matmul dot_S64x128_S128x128_S64x128_1_0_0_1_n_n none (low (head b h (wide X.k))) (low D) (constant S64x128 .f32 0x00000000#32))
    (matmul dot_S64x64_S64x128_S64x128_0_0_1_1_n_n none (low (head64 b h (wide X.a))) (low (headSum b h X.o)) (constant S64x128 .f32 0x00000000#32))

def Chunk.dvNeg : Tile := subf (broadcast S64x128 (Scalar.ofBits .f32 0x00000000#32)) (X.dv b h D)

/-- The adjoint of the state before the chunk from the one after it. -/
def Chunk.dstate : State :=
  addf (addf (mulf D (broadcastTo S128x128 (X.decay b h) broadcasts_S1x1_S128x128))
      (matmul dot_S64x128_S64x128_S128x128_0_0_1_1_n_n none (low (head b h (wide X.q))) (low (headSum b h X.o)) (constant S128x128 .f32 0x00000000#32)))
    (matmul dot_S64x128_S64x128_S128x128_0_0_1_1_n_n none (low (head b h (wide X.w))) (low (X.dvNeg b h D)) (constant S128x128 .f32 0x00000000#32))

def Chunk.dw : Tile :=
  matmul dot_S64x128_S128x128_S64x128_1_1_0_0_n_n none (low (X.dvNeg b h D)) (low (X.S b h)) (constant S64x128 .f32 0x00000000#32)
def Chunk.dq : Tile :=
  matmul dot_S64x128_S128x128_S64x128_1_1_0_0_n_n none (low (headSum b h X.o)) (low (X.S b h)) (constant S64x128 .f32 0x00000000#32)
def Chunk.dk : Tile :=
  matmul dot_S64x128_S128x128_S64x128_1_1_0_0_n_n none (low (X.vnew b h)) (low D) (constant S64x128 .f32 0x00000000#32)
def Chunk.da : FVec Ideal S64x64 .f32 :=
  matmul dot_S64x128_S64x128_S64x64_1_1_0_0_n_n none (low (headSum b h X.o)) (low (X.vnew b h)) (constant S64x64 .f32 0x00000000#32)

/-- The gate's cotangent, spread to row 0 and lane `h` by masks. -/
def Chunk.dg : Tile :=
  select (laneIs h)
    (broadcastTo S64x128 (shapeCast S64x1 (multiReduction .add [1] S64
      (select rowIs
        (broadcastTo S64x1 (shapeCast S1x1 (broadcast S1 (extractAt ![0, 0, 0] (shapeCast S1x1x1 (multiReduction .add [1, 2] S1
          (shapeCast S1x1x1 (mulf (broadcast S1x1 (extractAt ![0, 0, 0] (shapeCast S1x1x1 (multiReduction .add [1, 2] S1
              (shapeCast S1x128x128 (mulf (X.S b h) D) shapeCasts_S128x128_S1x128x128) 0x00000000#32 reduces_S1x128x128_S1 (.inl rfl) rfl)
              shapeCasts_S1_S1x1x1) inpos_S1x1x1_p0_0_0)) (X.decay b h)) shapeCasts_S1x1_S1x1x1)
          0x00000000#32 reduces_S1x1x1_S1 (.inl rfl) rfl) shapeCasts_S1_S1x1x1) inpos_S1x1x1_p0_0_0)) shapeCasts_S1_S1x1) broadcasts_S1x1_S64x1)
        (broadcast S64x1 (Scalar.ofBits .f32 0x00000000#32))) 0x00000000#32 reduces_S64x1_S64 (.inl rfl) rfl) shapeCasts_S64_S64x1) broadcasts_S64x1_S64x128)
    (broadcast S64x128 (Scalar.ofBits .f32 0x00000000#32))

/-! Eight tiles put side by side: each is padded with zeros to the whole chunk, then all are added. -/

abbrev zer (s : Shape) : FVec Ideal s .f32 := broadcast s (Scalar.ofBits .f32 0x00000000#32)

def lower (x : Tile) : FVec Ideal S2x64x128 .f32 :=
  concatenate S2x64x128 0 [⟨S1x64x128, shapeCast S1x64x128 x shapeCasts_S64x128_S1x64x128⟩, ⟨S1x64x128, zer S1x64x128⟩] concatenates_S1x64x128_S1x64x128_S2x64x128_d0
def upper (x : Tile) : FVec Ideal S2x64x128 .f32 :=
  concatenate S2x64x128 0 [⟨S1x64x128, zer S1x64x128⟩, ⟨S1x64x128, shapeCast S1x64x128 x shapeCasts_S64x128_S1x64x128⟩] concatenates_S1x64x128_S1x64x128_S2x64x128_d0
def at0 (x : FVec Ideal S2x64x128 .f32) : Rows :=
  concatenate S2x64x512 2 [⟨S2x64x128, x⟩, ⟨S2x64x384, zer S2x64x384⟩] concatenates_S2x64x128_S2x64x384_S2x64x512_d2
def at1 (x : FVec Ideal S2x64x128 .f32) : Rows :=
  concatenate S2x64x512 2 [⟨S2x64x256, concatenate S2x64x256 2 [⟨S2x64x128, zer S2x64x128⟩, ⟨S2x64x128, x⟩] concatenates_S2x64x128_S2x64x128_S2x64x256_d2⟩, ⟨S2x64x256, zer S2x64x256⟩] concatenates_S2x64x256_S2x64x256_S2x64x512_d2
def at2 (x : FVec Ideal S2x64x128 .f32) : Rows :=
  concatenate S2x64x512 2 [⟨S2x64x384, concatenate S2x64x384 2 [⟨S2x64x256, zer S2x64x256⟩, ⟨S2x64x128, x⟩] concatenates_S2x64x256_S2x64x128_S2x64x384_d2⟩, ⟨S2x64x128, zer S2x64x128⟩] concatenates_S2x64x384_S2x64x128_S2x64x512_d2
def at3 (x : FVec Ideal S2x64x128 .f32) : Rows :=
  concatenate S2x64x512 2 [⟨S2x64x384, zer S2x64x384⟩, ⟨S2x64x128, x⟩] concatenates_S2x64x384_S2x64x128_S2x64x512_d2

def spread (x : Fin 2 → Fin 4 → Tile) : Rows :=
  addf (addf (addf (addf (addf (addf (addf (at3 (upper (x 1 3))) (at2 (upper (x 1 2)))) (at1 (upper (x 1 1)))) (at0 (upper (x 1 0))))
    (at3 (lower (x 0 3)))) (at2 (lower (x 0 2)))) (at1 (lower (x 0 1)))) (at0 (lower (x 0 0)))

def lower64 (x : FVec Ideal S64x64 .f32) : FVec Ideal S2x64x64 .f32 :=
  concatenate S2x64x64 0 [⟨S1x64x64, shapeCast S1x64x64 x shapeCasts_S64x64_S1x64x64⟩, ⟨S1x64x64, zer S1x64x64⟩] concatenates_S1x64x64_S1x64x64_S2x64x64_d0
def upper64 (x : FVec Ideal S64x64 .f32) : FVec Ideal S2x64x64 .f32 :=
  concatenate S2x64x64 0 [⟨S1x64x64, zer S1x64x64⟩, ⟨S1x64x64, shapeCast S1x64x64 x shapeCasts_S64x64_S1x64x64⟩] concatenates_S1x64x64_S1x64x64_S2x64x64_d0
def at0n (x : FVec Ideal S2x64x64 .f32) : Rows :=
  concatenate S2x64x512 2 [⟨S2x64x64, x⟩, ⟨S2x64x448, zer S2x64x448⟩] concatenates_S2x64x64_S2x64x448_S2x64x512_d2
def at1n (x : FVec Ideal S2x64x64 .f32) : Rows :=
  concatenate S2x64x512 2 [⟨S2x64x192, concatenate S2x64x192 2 [⟨S2x64x128, zer S2x64x128⟩, ⟨S2x64x64, x⟩] concatenates_S2x64x128_S2x64x64_S2x64x192_d2⟩, ⟨S2x64x320, zer S2x64x320⟩] concatenates_S2x64x192_S2x64x320_S2x64x512_d2
def at2n (x : FVec Ideal S2x64x64 .f32) : Rows :=
  concatenate S2x64x512 2 [⟨S2x64x320, concatenate S2x64x320 2 [⟨S2x64x256, zer S2x64x256⟩, ⟨S2x64x64, x⟩] concatenates_S2x64x256_S2x64x64_S2x64x320_d2⟩, ⟨S2x64x192, zer S2x64x192⟩] concatenates_S2x64x320_S2x64x192_S2x64x512_d2
def at3n (x : FVec Ideal S2x64x64 .f32) : Rows :=
  concatenate S2x64x512 2 [⟨S2x64x448, concatenate S2x64x448 2 [⟨S2x64x384, zer S2x64x384⟩, ⟨S2x64x64, x⟩] concatenates_S2x64x384_S2x64x64_S2x64x448_d2⟩, ⟨S2x64x64, zer S2x64x64⟩] concatenates_S2x64x448_S2x64x64_S2x64x512_d2

def spread64 (x : Fin 2 → Fin 4 → FVec Ideal S64x64 .f32) : Rows :=
  addf (addf (addf (addf (addf (addf (addf (at3n (upper64 (x 1 3))) (at2n (upper64 (x 1 2)))) (at1n (upper64 (x 1 1)))) (at0n (upper64 (x 1 0))))
    (at3n (lower64 (x 0 3)))) (at2n (lower64 (x 0 2)))) (at1n (lower64 (x 0 1)))) (at0n (lower64 (x 0 0)))

def stackUp (x : Fin 2 → Fin 4 → Tile) : FVec Ideal S2x64x128 .f32 :=
  addf (addf (addf (addf (addf (addf (addf (upper (x 1 3)) (upper (x 1 2))) (upper (x 1 1))) (upper (x 1 0)))
    (lower (x 0 3))) (lower (x 0 2))) (lower (x 0 1))) (lower (x 0 0))

end DeltaScan
-- ==== Proof.ScanPoint.lean ====
module

public import proofs.«01_k».proof.Proof.Gen.ScanGradIdeal.Value
public import proofs.«01_k».proof.Proof.ScanTile
public import Idealize.ShloMosaic.Lib.Pipeline.ValueKit
public import Idealize.ShloMosaic.Lib.Pipeline.ReadBack

/-! One grid point of the scan's gradient kernel: eight chunks from the last to the first, each one
`DeltaScan.Chunk`, the adjoint state handed from chunk to chunk. -/

@[expose] public section

set_option maxRecDepth 16384

noncomputable section

open Idealize.ShloMosaic Idealize.ShloMosaic.TcCoe Idealize.SL.Sem
open Cert.ScanGradIdeal Cert.ScanGradIdeal.Gen Cert.ScanGradIdeal.Value

namespace DeltaScan

theorem inbRows (s : Fin 8) : ∀ a, (![0, 64 * (s : ℕ), 0] : Fin 3 → ℕ) a + (![2, 64, 512] : Fin 3 → ℕ) a ≤ S2x512x512.size a := by
  revert s; decide
theorem inbGate (s : Fin 8) : ∀ a, (![0, 64 * (s : ℕ), 0] : Fin 3 → ℕ) a + (![2, 64, 128] : Fin 3 → ℕ) a ≤ S2x512x128.size a := by
  revert s; decide
theorem inbSaved (b : Fin 2) (s : Fin 8) (h : Fin 4) : ∀ a, (![(b : ℕ), (s : ℕ), (h : ℕ), 0, 0] : Fin 5 → ℕ) a + (![1, 1, 1, 128, 128] : Fin 5 → ℕ) a ≤ S2x8x4x128x128.size a := by
  revert b s h; decide
theorem inbCarry (b : Fin 2) (h : Fin 4) : ∀ a, (![(b : ℕ) * 4 + h, 0, 0] : Fin 3 → ℕ) a + (![1, 128, 128] : Fin 3 → ℕ) a ≤ S8x128x128.size a := by
  revert b h; decide

def rowsF (s : Fin 8) (x : FVec Ideal S2x512x512 .f32) : Rows :=
  @View.ld (Elt Ideal) S2x512x512 .f32 x (Rect.unit (s := S2x512x512) ![0, 64 * (s : ℕ), 0] ![2, 64, 512] (inbRows s))
def rowsH (s : Fin 8) (x : FVec Ideal S2x512x512 .bf16) : Half :=
  @View.ld (Elt Ideal) S2x512x512 .bf16 x (Rect.unit (s := S2x512x512) ![0, 64 * (s : ℕ), 0] ![2, 64, 512] (inbRows s))
def rowsG (s : Fin 8) (x : FVec Ideal S2x512x128 .f32) : FVec Ideal S2x64x128 .f32 :=
  @View.ld (Elt Ideal) S2x512x128 .f32 x (Rect.unit (s := S2x512x128) ![0, 64 * (s : ℕ), 0] ![2, 64, 128] (inbGate s))
def saved (s : Fin 8) (x : FVec Ideal S2x8x4x128x128 .f32) (b : Fin 2) (h : Fin 4) : State :=
  shapeCast S128x128 (@View.ld (Elt Ideal) S2x8x4x128x128 .f32 x (Rect.unit (s := S2x8x4x128x128) ![(b : ℕ), (s : ℕ), (h : ℕ), 0, 0] ![1, 1, 1, 128, 128] (inbSaved b s h)))
    shapeCasts_S1x1x1x128x128_S128x128
def carried (x : FVec Ideal S8x128x128 .f32) (b : Fin 2) (h : Fin 4) : State :=
  shapeCast S128x128 (shapeCast S128x128 (@View.ld (Elt Ideal) S8x128x128 .f32 x (Rect.unit (s := S8x128x128) ![(b : ℕ) * 4 + h, 0, 0] ![1, 128, 128] (inbCarry b h)))
    shapeCasts_S1x128x128_S128x128) shapeCasts_S128x128_S128x128

variable (m : (ℓ : Loc nD τ sig) → Buf (Elt Ideal) ℓ) (c : Dev nD) (t : Fin cfg0.N)

/-- Chunk `s` of the eight that grid point `t` handles. -/
def chunkAt (s : Fin 8) : Chunk where
  u := rowsF s (iblk m c 0 t)
  w := rowsH s (iblk m c 1 t)
  a := rowsH s (iblk m c 2 t)
  q := rowsH s (iblk m c 3 t)
  k := rowsH s (iblk m c 4 t)
  g := rowsG s (iblk m c 5 t)
  S := saved s (iblk m c 6 t)
  o := rowsF s (iblk m c 7 t)

/-- The adjoint state after `j` of the point's chunks, from `D` on entry. -/
def adj (D : Fin 2 → Fin 4 → State) : ℕ → Fin 2 → Fin 4 → State
  | 0, b, h => D b h
  | j + 1, b, h => (chunkAt m c t (Fin.ofNat 8 (7 - j))).dstate b h (adj D j b h)

/-- Eight chunks' rows stored one under another. -/
def tiles (T : Fin 8 → Rows) : FVec Ideal S2x512x512 .f32 :=
  @View.canon S2x512x512 .f32 (Elt Ideal) _
    [⟨Rect.unit (s := S2x512x512) ![0, 64 * ((0 : Fin 8) : ℕ), 0] ![2, 64, 512] (inbRows 0), T 0⟩,
     ⟨Rect.unit (s := S2x512x512) ![0, 64 * ((1 : Fin 8) : ℕ), 0] ![2, 64, 512] (inbRows 1), T 1⟩,
     ⟨Rect.unit (s := S2x512x512) ![0, 64 * ((2 : Fin 8) : ℕ), 0] ![2, 64, 512] (inbRows 2), T 2⟩,
     ⟨Rect.unit (s := S2x512x512) ![0, 64 * ((3 : Fin 8) : ℕ), 0] ![2, 64, 512] (inbRows 3), T 3⟩,
     ⟨Rect.unit (s := S2x512x512) ![0, 64 * ((4 : Fin 8) : ℕ), 0] ![2, 64, 512] (inbRows 4), T 4⟩,
     ⟨Rect.unit (s := S2x512x512) ![0, 64 * ((5 : Fin 8) : ℕ), 0] ![2, 64, 512] (inbRows 5), T 5⟩,
     ⟨Rect.unit (s := S2x512x512) ![0, 64 * ((6 : Fin 8) : ℕ), 0] ![2, 64, 512] (inbRows 6), T 6⟩,
     ⟨Rect.unit (s := S2x512x512) ![0, 64 * ((7 : Fin 8) : ℕ), 0] ![2, 64, 512] (inbRows 7), T 7⟩]

def tilesG (T : Fin 8 → FVec Ideal S2x64x128 .f32) : FVec Ideal S2x512x128 .f32 :=
  @View.canon S2x512x128 .f32 (Elt Ideal) _
    [⟨Rect.unit (s := S2x512x128) ![0, 64 * ((0 : Fin 8) : ℕ), 0] ![2, 64, 128] (inbGate 0), T 0⟩,
     ⟨Rect.unit (s := S2x512x128) ![0, 64 * ((1 : Fin 8) : ℕ), 0] ![2, 64, 128] (inbGate 1), T 1⟩,
     ⟨Rect.unit (s := S2x512x128) ![0, 64 * ((2 : Fin 8) : ℕ), 0] ![2, 64, 128] (inbGate 2), T 2⟩,
     ⟨Rect.unit (s := S2x512x128) ![0, 64 * ((3 : Fin 8) : ℕ), 0] ![2, 64, 128] (inbGate 3), T 3⟩,
     ⟨Rect.unit (s := S2x512x128) ![0, 64 * ((4 : Fin 8) : ℕ), 0] ![2, 64, 128] (inbGate 4), T 4⟩,
     ⟨Rect.unit (s := S2x512x128) ![0, 64 * ((5 : Fin 8) : ℕ), 0] ![2, 64, 128] (inbGate 5), T 5⟩,
     ⟨Rect.unit (s := S2x512x128) ![0, 64 * ((6 : Fin 8) : ℕ), 0] ![2, 64, 128] (inbGate 6), T 6⟩,
     ⟨Rect.unit (s := S2x512x128) ![0, 64 * ((7 : Fin 8) : ℕ), 0] ![2, 64, 128] (inbGate 7), T 7⟩]

/-- The eight states stored one after another. -/
def stateRows (D : Fin 2 → Fin 4 → State) : List (View.Piece (Elt Ideal) S8x128x128 .f32) :=
    [⟨Rect.unit (s := S8x128x128) ![((1 : Fin 2) : ℕ) * 4 + ((3 : Fin 4) : ℕ), 0, 0] ![1, 128, 128] (inbCarry 1 3), shapeCast S1x128x128 (D 1 3) shapeCasts_S128x128_S1x128x128⟩,
     ⟨Rect.unit (s := S8x128x128) ![((1 : Fin 2) : ℕ) * 4 + ((2 : Fin 4) : ℕ), 0, 0] ![1, 128, 128] (inbCarry 1 2), shapeCast S1x128x128 (D 1 2) shapeCasts_S128x128_S1x128x128⟩,
     ⟨Rect.unit (s := S8x128x128) ![((1 : Fin 2) : ℕ) * 4 + ((1 : Fin 4) : ℕ), 0, 0] ![1, 128, 128] (inbCarry 1 1), shapeCast S1x128x128 (D 1 1) shapeCasts_S128x128_S1x128x128⟩,
     ⟨Rect.unit (s := S8x128x128) ![((1 : Fin 2) : ℕ) * 4 + ((0 : Fin 4) : ℕ), 0, 0] ![1, 128, 128] (inbCarry 1 0), shapeCast S1x128x128 (D 1 0) shapeCasts_S128x128_S1x128x128⟩,
     ⟨Rect.unit (s := S8x128x128) ![((0 : Fin 2) : ℕ) * 4 + ((3 : Fin 4) : ℕ), 0, 0] ![1, 128, 128] (inbCarry 0 3), shapeCast S1x128x128 (D 0 3) shapeCasts_S128x128_S1x128x128⟩,
     ⟨Rect.unit (s := S8x128x128) ![((0 : Fin 2) : ℕ) * 4 + ((2 : Fin 4) : ℕ), 0, 0] ![1, 128, 128] (inbCarry 0 2), shapeCast S1x128x128 (D 0 2) shapeCasts_S128x128_S1x128x128⟩,
     ⟨Rect.unit (s := S8x128x128) ![((0 : Fin 2) : ℕ) * 4 + ((1 : Fin 4) : ℕ), 0, 0] ![1, 128, 128] (inbCarry 0 1), shapeCast S1x128x128 (D 0 1) shapeCasts_S128x128_S1x128x128⟩,
     ⟨Rect.unit (s := S8x128x128) ![((0 : Fin 2) : ℕ) * 4 + ((0 : Fin 4) : ℕ), 0, 0] ![1, 128, 128] (inbCarry 0 0), shapeCast S1x128x128 (D 0 0) shapeCasts_S128x128_S1x128x128⟩]

/-- The carried array after they are stored over what `L` left. -/
def states (L : List (View.Piece (Elt Ideal) S8x128x128 .f32)) (D : Fin 2 → Fin 4 → State) : FVec Ideal S8x128x128 .f32 :=
  @View.canon S8x128x128 .f32 (Elt Ideal) _ (stateRows D ++ L)

/-- The adjoint state that the point starts from where it is not the first. -/
def entryB : Fin 2 → Fin 4 → State := carried (outsAt0 m c (t.val - 1) (Nat.lt_of_le_of_lt (Nat.sub_le _ _) t.isLt)).2.2.2.2.2.2

/-- The first point clears all states before it reads them. -/
def cleared : List (View.Piece (Elt Ideal) S8x128x128 .f32) :=
  [⟨Rect.unit (s := S8x128x128) ![0, 0, 0] ![8, 128, 128] inb_S8x128x128_S8x128x128_0_0_0, k0_pay3 (F := Ideal)⟩]

def entryA (b : Fin 2) (h : Fin 4) : State :=
  shapeCast S128x128 (shapeCast S128x128 ((View.whole cc0_scratch0).readCov cleared (Rect.unit (s := S8x128x128) ![(b : ℕ) * 4 + h, 0, 0] ![1, 128, 128] (inbCarry b h)).toLoadRect)
    shapeCasts_S1x128x128_S128x128) shapeCasts_S128x128_S128x128

/-- All that a point leaves: the six results' blocks and the state it hands on. -/
def pointOut (L : List (View.Piece (Elt Ideal) S8x128x128 .f32)) (D : Fin 2 → Fin 4 → State) :
    FVec Ideal S2x512x512 .f32 × FVec Ideal S2x512x512 .f32 × FVec Ideal S2x512x512 .f32 × FVec Ideal S2x512x512 .f32 × FVec Ideal S2x512x512 .f32
      × FVec Ideal S2x512x128 .f32 × FVec Ideal S8x128x128 .f32 :=
  (tiles fun s => spread fun b h => (chunkAt m c t s).dv b h (adj m c t D (7 - s) b h),
   tiles fun s => spread fun b h => (chunkAt m c t s).dw b h (adj m c t D (7 - s) b h),
   tiles fun s => spread64 fun b h => (chunkAt m c t s).da b h,
   tiles fun s => spread fun b h => (chunkAt m c t s).dq b h,
   tiles fun s => spread fun b h => (chunkAt m c t s).dk b h (adj m c t D (7 - s) b h),
   tilesG fun s => stackUp fun b h => (chunkAt m c t s).dg b h (adj m c t D (7 - s) b h),
   states L (adj m c t D 8))

set_option maxHeartbeats 4000000 in
theorem outsB (ht : ¬ t.val % 4 = 0) : outsAt0 m c t.val t.isLt = pointOut m c t [] (entryB m c t) := by
  rw [outsAt0_B m c t ht]
  frame_out
  rw [read_unread_whole]
  sl_kernel_rfl

set_option maxHeartbeats 4000000 in
theorem outsA (ht : t.val % 4 = 0) : outsAt0 m c t.val t.isLt = pointOut m c t cleared entryA := by
  rw [outsAt0_A m c t ht]
  frame_out
  sl_kernel_rfl

end DeltaScan
-- ==== Proof.ScanRead.lean ====
module

public import proofs.«01_k».proof.Proof.ScanTile
public import Idealize.ShloMosaic.Lib.Pipeline.ValueKit
public import Idealize.ShloMosaic.Lib.WordCmp

/-! The chunk operations of `ScanTile`, read at an index. -/

@[expose] public section

set_option maxRecDepth 16384

noncomputable section

open Idealize.ShloMosaic Idealize.ShloMosaic.TcCoe Idealize.SL.Sem
open Cert.ScanGradIdeal Cert.ScanGradIdeal.Gen

namespace DeltaScan

/-- Column `v` of head `h`. -/
abbrev col (h : Fin 4) (v : Fin 128) : Fin 512 := ⟨(h : ℕ) * 128 + v, by omega⟩
abbrev col64 (h : Fin 4) (v : Fin 64) : Fin 512 := ⟨(h : ℕ) * 128 + v, by omega⟩
abbrev lane (h : Fin 4) : Fin 128 := ⟨h, by omega⟩

variable (b : Fin 2) (h : Fin 4)

theorem head_at (x : Rows) (i : Fin 64) (v : Fin 128) : head b h x (ix2 i v) = x (ix3 b i (col h v)) := by
  pointwise [head]; try blk_ext

theorem head64_at (x : Rows) (i v : Fin 64) : head64 b h x (ix2 i v) = x (ix3 b i (col64 h v)) := by
  pointwise [head64]; try blk_ext

theorem headSum_at (x : Rows) (i : Fin 64) (v : Fin 128) : headSum b h x (ix2 i v) = x (ix3 b i (col h v)) := by
  pointwise [headSum]
  rw [Fin.sum_univ_one]

theorem sel_at (x y : ℕ) (hx : x < 2 ^ 32) (hy : y < 2 ^ 32) (A B : EReal) :
    Scalar.select (IntOp.cmpi .eq (BitVec.ofNat 32 x) (BitVec.ofNat 32 y)) A B = if x = y then A else B := by
  rw [WordCmp.cmpi_eq_eq, Scalar.select]
  simp only [WordCmp.ofBool_eq_one_iff', decide_eq_true_eq, WordCmp.ofNat_eq_ofNat_iff hx hy]

theorem pick_at (g : FVec Ideal S2x64x128 .f32) : pick b h g (ix2 0 0) = g (ix3 b 0 (lane h)) := by
  pointwise [pick, laneIs, rowIs]
  have hl (r : Fin 64) : ∑ l : Fin 128, Scalar.select (IntOp.cmpi .eq (BitVec.ofNat 32 l) (BitVec.ofNat 32 h)) (g (ix3 b r l)) 0 = g (ix3 b r (lane h)) := by
    rw [Finset.sum_eq_single (lane h)]
    · rw [sel_at _ _ (by omega) (by omega), if_pos rfl]
    · intro l _ hne
      rw [sel_at _ _ (by omega) (by omega), if_neg fun e => hne (Fin.ext e)]
    · simp
  simp only [hl]
  rw [Finset.sum_eq_single (0 : Fin 64)]
  · rfl
  · intro r _ hne
    rw [sel_at _ 0 (by omega) (by omega)]; exact if_neg fun e => hne (Fin.ext e)
  · simp

theorem spread_at (x : Fin 2 → Fin 4 → Tile) (i : Fin 64) (v : Fin 128) : spread x (ix3 b i (col h v)) = x b h (ix2 i v) := by
  have hv := v.isLt
  fin_cases b <;> fin_cases h <;> pointwise [spread, at0, at1, at2, at3, upper, lower] <;> try (split_ifs <;> first | omega | simp)

theorem spread64_at (x : Fin 2 → Fin 4 → FVec Ideal S64x64 .f32) (i : Fin 64) (v : Fin 128) :
    spread64 x (ix3 b i (col h v)) = if hv : (v : ℕ) < 64 then x b h (ix2 i ⟨v, hv⟩) else 0 := by
  have hv := v.isLt
  by_cases hw : (v : ℕ) < 64
  · rw [dif_pos hw]
    fin_cases b <;> fin_cases h <;> pointwise [spread64, at0n, at1n, at2n, at3n, upper64, lower64]
      <;> simp (disch := omega) only [dif_pos, dif_neg, dite_eq_ite, ite_self, zero_add, add_zero]
  · rw [dif_neg hw]
    fin_cases b <;> fin_cases h <;> pointwise [spread64, at0n, at1n, at2n, at3n, upper64, lower64]
      <;> simp (disch := omega) only [dif_pos, dif_neg, dite_eq_ite, ite_self, zero_add, add_zero]

variable (X : Chunk) (D : State)

theorem vnew_at (i : Fin 64) (v : Fin 128) : X.vnew b h (ix2 i v)
    = X.u (ix3 b i (col h v)) - ∑ k : Fin 128, X.w (ix3 b i (col h k)) * X.S b h (ix2 k v) := by
  pointwise [Chunk.vnew, low, wide, head_at]

theorem dv_at (i : Fin 64) (v : Fin 128) : X.dv b h D (ix2 i v)
    = ∑ k : Fin 128, X.k (ix3 b i (col h k)) * D (ix2 k v) + ∑ j : Fin 64, X.a (ix3 b j (col64 h i)) * X.o (ix3 b j (col h v)) := by
  pointwise [Chunk.dv, low, wide, head_at, head64_at, headSum_at]

theorem dvNeg_at (i : Fin 64) (v : Fin 128) : X.dvNeg b h D (ix2 i v) = 0 - X.dv b h D (ix2 i v) := by
  pointwise [Chunk.dvNeg]

theorem dstate_at (k v : Fin 128) : X.dstate b h D (ix2 k v)
    = D (ix2 k v) * Ideal.exp (X.g (ix3 b 0 (lane h))) + ∑ i : Fin 64, X.q (ix3 b i (col h k)) * X.o (ix3 b i (col h v))
      + ∑ i : Fin 64, X.w (ix3 b i (col h k)) * (0 - X.dv b h D (ix2 i v)) := by
  pointwise [Chunk.dstate, Chunk.decay, low, wide, head_at, headSum_at, dvNeg_at, pick_at]

theorem dw_at (i : Fin 64) (k : Fin 128) : X.dw b h D (ix2 i k) = ∑ v : Fin 128, (0 - X.dv b h D (ix2 i v)) * X.S b h (ix2 k v) := by
  pointwise [Chunk.dw, low, dvNeg_at]

theorem dq_at (i : Fin 64) (k : Fin 128) : X.dq b h (ix2 i k) = ∑ v : Fin 128, X.o (ix3 b i (col h v)) * X.S b h (ix2 k v) := by
  pointwise [Chunk.dq, low, headSum_at]

theorem dk_at (i : Fin 64) (k : Fin 128) : X.dk b h D (ix2 i k) = ∑ v : Fin 128, X.vnew b h (ix2 i v) * D (ix2 k v) := by
  pointwise [Chunk.dk, low]

theorem da_at (i j : Fin 64) : X.da b h (ix2 i j) = ∑ v : Fin 128, X.o (ix3 b i (col h v)) * X.vnew b h (ix2 j v) := by
  pointwise [Chunk.da, low, headSum_at]

theorem dg_at (i : Fin 64) (l : Fin 128) : X.dg b h D (ix2 i l)
    = if (l : ℕ) = h then if (i : ℕ) = 0 then (∑ k : Fin 128, ∑ v : Fin 128, X.S b h (ix2 k v) * D (ix2 k v)) * Ideal.exp (X.g (ix3 b 0 (lane h))) else 0 else 0 := by
  pointwise [Chunk.dg, Chunk.decay, laneIs, rowIs, pick_at]
  rw [sel_at _ _ (by omega) (by omega), Fin.sum_univ_one, Fin.sum_univ_one, Fin.sum_univ_one]
  exact if_congr Iff.rfl (sel_at _ 0 (by omega) (by omega) _ _) rfl

theorem stackUp_at (x : Fin 2 → Fin 4 → Tile) (i : Fin 64) (l : Fin 128) :
    stackUp x (ix3 b i l) = x b 3 (ix2 i l) + x b 2 (ix2 i l) + x b 1 (ix2 i l) + x b 0 (ix2 i l) := by
  fin_cases b <;> pointwise [stackUp, upper, lower] <;> simp

end DeltaScan
-- ==== Proof.ScanChain.lean ====
module

public import proofs.«01_k».proof.Proof.ScanRead

/-! The gradient of the scan on whole arrays: 32 chunks of 64 rows, walked from the last to the first. -/

@[expose] public section

set_option maxRecDepth 16384

noncomputable section

open Idealize.ShloMosaic Idealize.ShloMosaic.TcCoe Idealize.SL.Sem
open Cert.ScanGradIdeal Cert.ScanGradIdeal.Gen

namespace DeltaScan

/-- Row `i` of chunk `n`. -/
abbrev row (n : Fin 32) (i : Fin 64) : Fin 2048 := ⟨64 * (n : ℕ) + i, by omega⟩

/-- The eight arrays that the gradient reads. -/
structure Args where
  u : FVec Ideal S2x2048x512 .f32
  w : FVec Ideal S2x2048x512 .bf16
  a : FVec Ideal S2x2048x512 .bf16
  q : FVec Ideal S2x2048x512 .bf16
  k : FVec Ideal S2x2048x512 .bf16
  g : FVec Ideal S2x2048x128 .f32
  S : FVec Ideal S2x32x4x128x128 .f32
  o : FVec Ideal S2x2048x512 .f32

/-- Chunk `n` of the arrays. -/
def Args.chunk (A : Args) (n : Fin 32) : Chunk where
  u := fun y => A.u (ix3 (y 0) (row n (y 1)) (y 2))
  w := fun y => A.w (ix3 (y 0) (row n (y 1)) (y 2))
  a := fun y => A.a (ix3 (y 0) (row n (y 1)) (y 2))
  q := fun y => A.q (ix3 (y 0) (row n (y 1)) (y 2))
  k := fun y => A.k (ix3 (y 0) (row n (y 1)) (y 2))
  g := fun y => A.g (ix3 (y 0) (row n (y 1)) (y 2))
  S := fun b h y => A.S (ix5 b n h (y 0) (y 1))
  o := fun y => A.o (ix3 (y 0) (row n (y 1)) (y 2))

/-- The adjoint of the state after the last `j` chunks. -/
def Args.back (A : Args) : ℕ → Fin 2 → Fin 4 → State
  | 0, _, _ => fun _ => 0
  | j + 1, b, h => (A.chunk (Fin.ofNat 32 (31 - j))).dstate b h (A.back j b h)

/-- The adjoint of the state that chunk `n` hands on. -/
def Args.next (A : Args) (n : Fin 32) : Fin 2 → Fin 4 → State := A.back (31 - n)

/-- The chunks' tiles in one array. -/
def whole (f : Fin 32 → Fin 2 → Fin 4 → Tile) : FVec Ideal S2x2048x512 .f32 := fun y =>
  f ⟨(y 1 : ℕ) / 64, by have : (y 1 : ℕ) < 2048 := (y 1).isLt; omega⟩ (y 0) ⟨(y 2 : ℕ) / 128, by have : (y 2 : ℕ) < 512 := (y 2).isLt; omega⟩
    (ix2 ⟨(y 1 : ℕ) % 64, by omega⟩ ⟨(y 2 : ℕ) % 128, by omega⟩)

theorem whole_at (f : Fin 32 → Fin 2 → Fin 4 → Tile) (b : Fin 2) (n : Fin 32) (i : Fin 64) (h : Fin 4) (v : Fin 128) :
    whole f (ix3 b (row n i) (col h v)) = f n b h (ix2 i v) := by
  have e1 : (64 * (n : ℕ) + i) / 64 = n := by omega
  have e2 : (64 * (n : ℕ) + i) % 64 = i := by omega
  have e3 : ((h : ℕ) * 128 + v) / 128 = h := by omega
  have e4 : ((h : ℕ) * 128 + v) % 128 = v := by omega
  have key : ∀ (n' : Fin 32) (h' : Fin 4) (i' : Fin 64) (v' : Fin 128), n' = n → h' = h → i' = i → v' = v → f n' b h' (ix2 i' v') = f n b h (ix2 i v) := by
    rintro _ _ _ _ rfl rfl rfl rfl; rfl
  exact key _ _ _ _ (Fin.ext e1) (Fin.ext e3) (Fin.ext e2) (Fin.ext e4)

/-- An array with these entries is that array. -/
theorem eq_whole (x : FVec Ideal S2x2048x512 .f32) (f : Fin 32 → Fin 2 → Fin 4 → Tile)
    (e : ∀ b n i h v, x (ix3 b (row n i) (col h v)) = f n b h (ix2 i v)) : x = whole f := by
  funext y
  have l1 : (y 1 : ℕ) < 2048 := (y 1).isLt
  have l2 : (y 2 : ℕ) < 512 := (y 2).isLt
  obtain ⟨n, hn⟩ : ∃ n : Fin 32, (n : ℕ) = (y 1 : ℕ) / 64 := ⟨⟨(y 1 : ℕ) / 64, by omega⟩, rfl⟩
  obtain ⟨i, hi⟩ : ∃ i : Fin 64, (i : ℕ) = (y 1 : ℕ) % 64 := ⟨⟨(y 1 : ℕ) % 64, by omega⟩, rfl⟩
  obtain ⟨h, hh⟩ : ∃ h : Fin 4, (h : ℕ) = (y 2 : ℕ) / 128 := ⟨⟨(y 2 : ℕ) / 128, by omega⟩, rfl⟩
  obtain ⟨v, hv⟩ : ∃ v : Fin 128, (v : ℕ) = (y 2 : ℕ) % 128 := ⟨⟨(y 2 : ℕ) % 128, by omega⟩, rfl⟩
  obtain ⟨b, hb⟩ : ∃ b : Fin 2, b = y 0 := ⟨_, rfl⟩
  have hy : y = (ix3 b (row n i) (col h v) : S2x2048x512.Idx) := by
    funext a
    fin_cases a
    · exact hb.symm
    · exact Fin.ext (by show (y 1 : ℕ) = 64 * (n : ℕ) + i; omega)
    · exact Fin.ext (by show (y 2 : ℕ) = (h : ℕ) * 128 + v; omega)
  rw [hy]
  exact (e b n i h v).trans (whole_at f b n i h v).symm

variable (A : Args)

/-! The six results. The gradient of the attention tile fills 64 of its 128 columns; the gate's fills one
row of each chunk and one lane for each head. -/

def Args.du := whole fun n b h => (A.chunk n).dv b h (A.next n b h)
def Args.dw := whole fun n b h => (A.chunk n).dw b h (A.next n b h)
def Args.da := whole fun n b h y => if hv : (y 1 : ℕ) < 64 then (A.chunk n).da b h (ix2 (y 0) ⟨(y 1 : ℕ), hv⟩) else 0
def Args.dq := whole fun n b h => (A.chunk n).dq b h
def Args.dk := whole fun n b h => (A.chunk n).dk b h (A.next n b h)

/-- One chunk's gradient of the gates. -/
def Args.gate (n : Fin 32) : FVec Ideal S2x64x128 .f32 := stackUp fun b h => (A.chunk n).dg b h (A.next n b h)

def Args.dg : FVec Ideal S2x2048x128 .f32 := fun y =>
  A.gate ⟨(y 1 : ℕ) / 64, by have : (y 1 : ℕ) < 2048 := (y 1).isLt; omega⟩ (ix3 (y 0) ⟨(y 1 : ℕ) % 64, by omega⟩ (y 2))

theorem dg_row (b : Fin 2) (n : Fin 32) (i : Fin 64) (l : Fin 128) : A.dg (ix3 b (row n i) l) = A.gate n (ix3 b i l) := by
  have e1 : (64 * (n : ℕ) + i) / 64 = n := by omega
  have e2 : (64 * (n : ℕ) + i) % 64 = i := by omega
  show A.gate ⟨(64 * (n : ℕ) + i) / 64, _⟩ (ix3 b ⟨(64 * (n : ℕ) + i) % 64, _⟩ l) = _
  exact congrArg₂ (fun x y => A.gate x (ix3 b y l)) (Fin.ext e1) (Fin.ext e2)

end DeltaScan
-- ==== Proof.ScanKernel.lean ====
module

public import proofs.«01_k».proof.Proof.ScanPoint
public import proofs.«01_k».proof.Proof.ScanChain
public import Idealize.ShloMosaic.Lib.Pipeline.ValueKit
public import Idealize.ShloMosaic.Lib.Pipeline.ReadBack

/-! The kernel's six arrays after its last grid point. -/

@[expose] public section

set_option maxRecDepth 16384

noncomputable section

open Idealize.ShloMosaic Idealize.ShloMosaic.TcCoe Idealize.SL.Sem
open Cert.ScanGradIdeal Cert.ScanGradIdeal.Gen Cert.ScanGradIdeal.Value
open Idealize.ShloMosaic.Pipeline (Dat)

namespace DeltaScan

/-- Row `i` of chunk `s` among a grid point's eight. -/
abbrev sub (s : Fin 8) (i : Fin 64) : Fin 512 := ⟨64 * (s : ℕ) + i, by omega⟩

theorem rowsF_at (s : Fin 8) (x : FVec Ideal S2x512x512 .f32) (b : Fin 2) (i : Fin 64) (j : Fin 512) : rowsF s x (ix3 b i j) = x (ix3 b (sub s i) j) := by
  pointwise [rowsF]; try blk_ext
theorem rowsH_at (s : Fin 8) (x : FVec Ideal S2x512x512 .bf16) (b : Fin 2) (i : Fin 64) (j : Fin 512) : rowsH s x (ix3 b i j) = x (ix3 b (sub s i) j) := by
  pointwise [rowsH]; try blk_ext
theorem rowsG_at (s : Fin 8) (x : FVec Ideal S2x512x128 .f32) (b : Fin 2) (i : Fin 64) (j : Fin 128) : rowsG s x (ix3 b i j) = x (ix3 b (sub s i) j) := by
  pointwise [rowsG]; try blk_ext
theorem drop1_at (x : FVec Ideal S1x128x128 .f32) (k v : Fin 128) : shapeCast S128x128 x shapeCasts_S1x128x128_S128x128 (ix2 k v) = x (ix3 0 k v) := by
  pointwise
theorem drop3_at (x : FVec Ideal S1x1x1x128x128 .f32) (k v : Fin 128) :
    shapeCast S128x128 x shapeCasts_S1x1x1x128x128_S128x128 (ix2 k v) = x (ix5 0 0 0 k v) := by
  pointwise
theorem same_at (x : State) (k v : Fin 128) : shapeCast S128x128 x shapeCasts_S128x128_S128x128 (ix2 k v) = x (ix2 k v) := by
  pointwise
theorem add1_at (x : State) (k v : Fin 128) : shapeCast S1x128x128 x shapeCasts_S128x128_S1x128x128 (ix3 0 k v) = x (ix2 k v) := by
  pointwise

theorem saved_at (s : Fin 8) (x : FVec Ideal S2x8x4x128x128 .f32) (b : Fin 2) (h : Fin 4) (k v : Fin 128) : saved s x b h (ix2 k v) = x (ix5 b s h k v) := by
  rw [saved, drop3_at]
  refine congrArg x (funext fun a => ?_)
  fin_cases a <;> exact Fin.ext (by simp [ix5])
theorem carried_at (x : FVec Ideal S8x128x128 .f32) (b : Fin 2) (h : Fin 4) (k v : Fin 128) :
    carried x b h (ix2 k v) = x (ix3 ⟨(b : ℕ) * 4 + h, by omega⟩ k v) := by
  rw [carried, same_at, drop1_at]
  refine congrArg x (funext fun a => ?_)
  fin_cases a <;> exact Fin.ext (by simp [ix3])

theorem tile_eq {n : ℕ} (T : Fin 8 → (Shape.Idx ⟨3, ![2, 64, n]⟩) → EReal) {s s' : Fin 8} {b : Fin 2} {i : Fin 64} {j : Fin n} {x : Shape.Idx ⟨3, ![2, 64, n]⟩}
    (hs : (s' : ℕ) = s) (h0 : (x 0 : ℕ) = b) (h1 : (x 1 : ℕ) = i) (h2 : (x 2 : ℕ) = j) : T s' x = T s (ix3 b i j) := by
  obtain rfl := Fin.ext hs
  refine congrArg (T s') (funext fun a => ?_)
  fin_cases a
  · exact Fin.ext h0
  · exact Fin.ext h1
  · exact Fin.ext h2

theorem tiles_at (T : Fin 8 → Rows) (b : Fin 2) (s : Fin 8) (i : Fin 64) (j : Fin 512) : tiles T (ix3 b (sub s i) j) = T s (ix3 b i j) := by
  generalize hy : (ix3 b (sub s i) j : S2x512x512.Idx) = y
  have e0 : (b : ℕ) = y 0 := by rw [← hy]; rfl
  have e1 : 64 * (s : ℕ) + i = y 1 := by rw [← hy]; rfl
  have e2 : (j : ℕ) = y 2 := by rw [← hy]; rfl
  clear hy
  rw [tiles]
  canon_tiles x h
  all_goals exact tile_eq T (by omega) (by omega) (by omega) (by omega)

theorem tilesG_at (T : Fin 8 → FVec Ideal S2x64x128 .f32) (b : Fin 2) (s : Fin 8) (i : Fin 64) (j : Fin 128) : tilesG T (ix3 b (sub s i) j) = T s (ix3 b i j) := by
  generalize hy : (ix3 b (sub s i) j : S2x512x128.Idx) = y
  have e0 : (b : ℕ) = y 0 := by rw [← hy]; rfl
  have e1 : 64 * (s : ℕ) + i = y 1 := by rw [← hy]; rfl
  have e2 : (j : ℕ) = y 2 := by rw [← hy]; rfl
  clear hy
  rw [tilesG]
  canon_tiles x h
  all_goals exact tile_eq T (by omega) (by omega) (by omega) (by omega)

theorem entryA_eq : entryA = fun _ _ _ => 0 := by
  funext b h y
  obtain ⟨k, v, rfl⟩ : ∃ k v, y = ix2 k v := ⟨y 0, y 1, by funext a; fin_cases a <;> rfl⟩
  rw [entryA, same_at, drop1_at]
  refine (congrFun (View.readCov_fill (Val := Elt Ideal) (View.whole cc0_scratch0) inb_S8x128x128_S8x128x128_0_0_0 (k0_pay3 (F := Ideal)) [] _ (by decide)) _).trans ?_
  pointwise [k0_pay3]

/-- State `(b, h)` is row `b * 4 + h` of the carried array. -/
def stack (D : Fin 2 → Fin 4 → State) : FVec Ideal S8x128x128 .f32 := fun y =>
  D ⟨(y 0 : ℕ) / 4, by have : (y 0 : ℕ) < 8 := (y 0).isLt; omega⟩ ⟨(y 0 : ℕ) % 4, by omega⟩ (ix2 (y 1) (y 2))

theorem carried_stack (D : Fin 2 → Fin 4 → State) : carried (stack D) = D := by
  funext b h y
  obtain ⟨k, v, rfl⟩ : ∃ k v, y = ix2 k v := ⟨y 0, y 1, by funext a; fin_cases a <;> rfl⟩
  rw [carried_at]
  have e1 : ((b : ℕ) * 4 + h) / 4 = b := by omega
  have e2 : ((b : ℕ) * 4 + h) % 4 = h := by omega
  exact congrArg₂ (fun p q => D p q (ix2 k v)) (Fin.ext e1) (Fin.ext e2)

theorem piece_at (D : Fin 2 → Fin 4 → State) (b : Fin 2) (h : Fin 4) (x : S1x128x128.Idx) :
    shapeCast S1x128x128 (D b h) shapeCasts_S128x128_S1x128x128 x
      = stack D ((Rect.unit (s := S8x128x128) ![(b : ℕ) * 4 + h, 0, 0] ![1, 128, 128] (inbCarry b h)).emb x) := by
  obtain ⟨k, v, rfl⟩ : ∃ k v, x = ix3 0 k v := ⟨x 1, x 2, by
    funext a; fin_cases a
    · exact Fin.ext (by have : (x 0 : ℕ) < 1 := (x 0).isLt; show (x 0 : ℕ) = 0; omega)
    all_goals rfl⟩
  rw [add1_at]
  refine ((congrFun (congrFun (congrFun (carried_stack D) b) h) (ix2 k v)).symm.trans (carried_at _ b h k v)).trans (congrArg (stack D) (funext fun a => ?_))
  fin_cases a <;> exact Fin.ext (by simp [ix3])

theorem rows_of (D : Fin 2 → Fin 4 → State) : View.PiecesOf (stack D) (stateRows D) :=
  ⟨piece_at D 1 3, piece_at D 1 2, piece_at D 1 1, piece_at D 1 0, piece_at D 0 3, piece_at D 0 2, piece_at D 0 1, piece_at D 0 0, trivial⟩

theorem rows_cover (D : Fin 2 → Fin 4 → State) (y : S8x128x128.Idx) : ∃ p ∈ stateRows D, y ∈ p.1.set :=
  View.cover_of_tiled_head _ _ _ rfl y

theorem states_eq (L : List (View.Piece (Elt Ideal) S8x128x128 .f32)) (D : Fin 2 → Fin 4 → State) : states L D = stack D := by
  funext y
  rw [states]
  exact View.canon_append_of_piecesOf (stack D) L (stateRows D) (rows_of D) y (rows_cover D y)

theorem idx : ∀ t : Fin cfg0.N, win0_0.index t = ![0, 3 - t.val, 0] ∧ win0_1.index t = ![0, 3 - t.val, 0] ∧ win0_2.index t = ![0, 3 - t.val, 0]
    ∧ win0_3.index t = ![0, 3 - t.val, 0] ∧ win0_4.index t = ![0, 3 - t.val, 0] ∧ win0_5.index t = ![0, 3 - t.val, 0]
    ∧ win0_6.index t = ![0, 3 - t.val, 0, 0, 0] ∧ win0_7.index t = ![0, 3 - t.val, 0] ∧ win0_8.index t = ![0, 3 - t.val, 0]
    ∧ win0_9.index t = ![0, 3 - t.val, 0] ∧ win0_10.index t = ![0, 3 - t.val, 0] ∧ win0_11.index t = ![0, 3 - t.val, 0]
    ∧ win0_12.index t = ![0, 3 - t.val, 0] ∧ win0_13.index t = ![0, 3 - t.val, 0] :=
  (by decide +kernel : ∀ t : Fin grid0.N, _)

variable (m : (ℓ : Loc nD τ sig) → Buf (Elt Ideal) ℓ) (c : Dev nD)

/-- The arrays on device `c`. -/
def args : Args where
  u := m ((c : Thread nD τ).loc main_arg0)
  w := m ((c : Thread nD τ).loc main_arg1)
  a := m ((c : Thread nD τ).loc main_arg2)
  q := m ((c : Thread nD τ).loc main_arg3)
  k := m ((c : Thread nD τ).loc main_arg4)
  g := m ((c : Thread nD τ).loc main_arg5)
  S := m ((c : Thread nD τ).loc main_arg6)
  o := m ((c : Thread nD τ).loc main_arg7)

/-- Chunk `s` of grid point `t`, counted from the front of the arrays. -/
abbrev nth (t : Fin cfg0.N) (s : Fin 8) : Fin 32 := ⟨8 * (3 - (t : ℕ)) + s, by omega⟩

theorem ix3_eta {p q r : ℕ} (y : Shape.Idx ⟨3, ![p, q, r]⟩) : ∃ b i j, y = ix3 b i j := ⟨y 0, y 1, y 2, by funext a; fin_cases a <;> rfl⟩
theorem ix2_eta {p q : ℕ} (y : Shape.Idx ⟨2, ![p, q]⟩) : ∃ i j, y = ix2 i j := ⟨y 0, y 1, by funext a; fin_cases a <;> rfl⟩

/-- What a grid point reads is its chunk of the arrays. -/
theorem chunkAt_eq (t : Fin cfg0.N) (s : Fin 8) : chunkAt m c t s = (args m c).chunk (nth t s) := by
  have ht : (t : ℕ) < 4 := t.isLt
  unfold chunkAt Args.chunk
  congr 1
  · funext y; obtain ⟨b, i, j, rfl⟩ := ix3_eta y; rw [rowsF_at]
    show _ = m ((c : Thread nD τ).loc main_arg0) (ix3 b (row (nth t s) i) j)
    blk_point [iblk, V, idx t]
  · funext y; obtain ⟨b, i, j, rfl⟩ := ix3_eta y; rw [rowsH_at]
    show _ = m ((c : Thread nD τ).loc main_arg1) (ix3 b (row (nth t s) i) j)
    blk_point [iblk, V, idx t]
  · funext y; obtain ⟨b, i, j, rfl⟩ := ix3_eta y; rw [rowsH_at]
    show _ = m ((c : Thread nD τ).loc main_arg2) (ix3 b (row (nth t s) i) j)
    blk_point [iblk, V, idx t]
  · funext y; obtain ⟨b, i, j, rfl⟩ := ix3_eta y; rw [rowsH_at]
    show _ = m ((c : Thread nD τ).loc main_arg3) (ix3 b (row (nth t s) i) j)
    blk_point [iblk, V, idx t]
  · funext y; obtain ⟨b, i, j, rfl⟩ := ix3_eta y; rw [rowsH_at]
    show _ = m ((c : Thread nD τ).loc main_arg4) (ix3 b (row (nth t s) i) j)
    blk_point [iblk, V, idx t]
  · funext y; obtain ⟨b, i, j, rfl⟩ := ix3_eta y; rw [rowsG_at]
    show _ = m ((c : Thread nD τ).loc main_arg5) (ix3 b (row (nth t s) i) j)
    blk_point [iblk, V, idx t]
  · funext b h y; obtain ⟨k, v, rfl⟩ := ix2_eta y; rw [saved_at]
    show _ = m ((c : Thread nD τ).loc main_arg6) (ix5 b (nth t s) h k v)
    blk_point [iblk, V, idx t]
  · funext y; obtain ⟨b, i, j, rfl⟩ := ix3_eta y; rw [rowsF_at]
    show _ = m ((c : Thread nD τ).loc main_arg7) (ix3 b (row (nth t s) i) j)
    blk_point [iblk, V, idx t]

/-- A point's adjoint states continue the walk from the end. -/
theorem adj_eq (t : Fin cfg0.N) : ∀ j, j ≤ 8 → adj m c t ((args m c).back (8 * t)) j = (args m c).back (8 * t + j)
  | 0, _ => rfl
  | j + 1, hj => by
    have ht : (t : ℕ) < 4 := t.isLt
    funext b h
    show (chunkAt m c t (Fin.ofNat 8 (7 - j))).dstate b h (adj m c t ((args m c).back (8 * t)) j b h)
      = ((args m c).chunk (Fin.ofNat 32 (31 - (8 * t + j)))).dstate b h ((args m c).back (8 * t + j) b h)
    rw [chunkAt_eq, adj_eq t j (by omega)]
    congr 2
    refine Fin.ext ?_
    show 8 * (3 - (t : ℕ)) + (7 - j) % 8 = (31 - (8 * (t : ℕ) + j)) % 32
    omega

/-- What a point leaves when it starts where the walk from the end has come to. -/
def left (t : Fin cfg0.N) :
    FVec Ideal S2x512x512 .f32 × FVec Ideal S2x512x512 .f32 × FVec Ideal S2x512x512 .f32 × FVec Ideal S2x512x512 .f32 × FVec Ideal S2x512x512 .f32
      × FVec Ideal S2x512x128 .f32 × FVec Ideal S8x128x128 .f32 :=
  (tiles fun s => spread fun b h => ((args m c).chunk (nth t s)).dv b h ((args m c).next (nth t s) b h),
   tiles fun s => spread fun b h => ((args m c).chunk (nth t s)).dw b h ((args m c).next (nth t s) b h),
   tiles fun s => spread64 fun b h => ((args m c).chunk (nth t s)).da b h,
   tiles fun s => spread fun b h => ((args m c).chunk (nth t s)).dq b h,
   tiles fun s => spread fun b h => ((args m c).chunk (nth t s)).dk b h ((args m c).next (nth t s) b h),
   tilesG fun s => (args m c).gate (nth t s),
   stack ((args m c).back (8 * t + 8)))

theorem pointOut_eq (t : Fin cfg0.N) (L : List (View.Piece (Elt Ideal) S8x128x128 .f32)) :
    pointOut m c t L ((args m c).back (8 * t)) = left m c t := by
  have hj (s : Fin 8) : adj m c t ((args m c).back (8 * t)) (7 - s) = (args m c).next (nth t s) := by
    have ht : (t : ℕ) < 4 := t.isLt
    have hs := s.isLt
    rw [adj_eq _ _ _ _ (by omega)]
    exact congrArg (args m c).back (by show 8 * (t : ℕ) + (7 - s) = 31 - (8 * (3 - (t : ℕ)) + s); omega)
  unfold pointOut left Args.gate
  simp only [hj, chunkAt_eq, states_eq, adj_eq _ _ _ 8 le_rfl]

theorem outs_eq : ∀ (n : ℕ) (hn : n < cfg0.N), outsAt0 m c n hn = left m c ⟨n, hn⟩
  | 0, hn => by
    rw [outsA m c ⟨0, hn⟩ rfl, entryA_eq]
    exact pointOut_eq m c ⟨0, hn⟩ cleared
  | n + 1, hn => by
    have h4 : n + 1 < 4 := hn
    have e : entryB m c ⟨n + 1, hn⟩ = (args m c).back (8 * (n + 1)) := by
      show carried (outsAt0 m c n _).2.2.2.2.2.2 = _
      rw [outs_eq n (by omega)]
      exact carried_stack ((args m c).back (8 * n + 8))
    rw [outsB m c ⟨n + 1, hn⟩ (by show ¬ (n + 1) % 4 = 0; omega), e]
    exact pointOut_eq m c ⟨n + 1, hn⟩ []

/-- An index of a point's block, by chunk and head. -/
theorem block_eta (y : S2x512x512.Idx) : ∃ b s i h v, y = ix3 b (sub s i) (col h v) := by
  have l1 : (y 1 : ℕ) < 512 := (y 1).isLt
  have l2 : (y 2 : ℕ) < 512 := (y 2).isLt
  refine ⟨y 0, ⟨(y 1 : ℕ) / 64, by omega⟩, ⟨(y 1 : ℕ) % 64, by omega⟩, ⟨(y 2 : ℕ) / 128, by omega⟩, ⟨(y 2 : ℕ) % 128, by omega⟩, ?_⟩
  funext a
  fin_cases a
  · rfl
  · exact Fin.ext (by show (y 1 : ℕ) = 64 * ((y 1 : ℕ) / 64) + (y 1 : ℕ) % 64; omega)
  · exact Fin.ext (by show (y 2 : ℕ) = (y 2 : ℕ) / 128 * 128 + (y 2 : ℕ) % 128; omega)

theorem gate_eta (y : S2x512x128.Idx) : ∃ b s i l, y = ix3 b (sub s i) l := by
  have l1 : (y 1 : ℕ) < 512 := (y 1).isLt
  refine ⟨y 0, ⟨(y 1 : ℕ) / 64, by omega⟩, ⟨(y 1 : ℕ) % 64, by omega⟩, y 2, ?_⟩
  funext a
  fin_cases a
  · rfl
  · exact Fin.ext (by show (y 1 : ℕ) = 64 * ((y 1 : ℕ) / 64) + (y 1 : ℕ) % 64; omega)
  · rfl

/-- Where a point's block holds the chunks' tiles, the array of all tiles has them there. -/
theorem block_at (t : Fin cfg0.N) (T : Fin 8 → Rows) (f : Fin 32 → Fin 2 → Fin 4 → Tile)
    (e : ∀ b s i h v, T s (ix3 b i (col h v)) = f (nth t s) b h (ix2 i v)) (y : S2x512x512.Idx) (z : S2x2048x512.Idx)
    (h0 : (z 0 : ℕ) = y 0) (h1 : (z 1 : ℕ) = (3 - (t : ℕ)) * 512 + y 1) (h2 : (z 2 : ℕ) = y 2) : tiles T y = whole f z := by
  obtain ⟨b, s, i, h, v, rfl⟩ := block_eta y
  have hz : z = (ix3 b (row (nth t s) i) (col h v) : S2x2048x512.Idx) := by
    funext a
    fin_cases a
    · exact Fin.ext h0
    · exact Fin.ext (h1.trans (by show (3 - (t : ℕ)) * 512 + (64 * (s : ℕ) + i) = 64 * (8 * (3 - (t : ℕ)) + s) + i; omega))
    · exact Fin.ext h2
  rw [tiles_at, e, hz]
  exact (whole_at f b (nth t s) i h v).symm

theorem gate_at (A : Args) (t : Fin cfg0.N) (y : S2x512x128.Idx) (z : S2x2048x128.Idx)
    (h0 : (z 0 : ℕ) = y 0) (h1 : (z 1 : ℕ) = (3 - (t : ℕ)) * 512 + y 1) (h2 : (z 2 : ℕ) = y 2) : tilesG (fun s => A.gate (nth t s)) y = A.dg z := by
  obtain ⟨b, s, i, l, rfl⟩ := gate_eta y
  have hz : z = (ix3 b (row (nth t s) i) l : S2x2048x128.Idx) := by
    funext a
    fin_cases a
    · exact Fin.ext h0
    · exact Fin.ext (h1.trans (by show (3 - (t : ℕ)) * 512 + (64 * (s : ℕ) + i) = 64 * (8 * (3 - (t : ℕ)) + s) + i; omega))
    · exact Fin.ext h2
  rw [tilesG_at, hz]
  exact (dg_row A b (nth t s) i l).symm

attribute [local irreducible] tiles tilesG spread spread64 whole

section
variable (t : Fin cfg0.N) (y : S2x512x512.Idx) (z : S2x2048x512.Idx)
  (h0 : (z 0 : ℕ) = y 0) (h1 : (z 1 : ℕ) = (3 - (t : ℕ)) * 512 + y 1) (h2 : (z 2 : ℕ) = y 2)
include h0 h1 h2

theorem left_du : (left m c t).1 y = (args m c).du z :=
  block_at t _ (fun n b h => ((args m c).chunk n).dv b h ((args m c).next n b h)) (fun b s i h v => spread_at b h _ i v) y z h0 h1 h2
theorem left_dw : (left m c t).2.1 y = (args m c).dw z :=
  block_at t _ (fun n b h => ((args m c).chunk n).dw b h ((args m c).next n b h)) (fun b s i h v => spread_at b h _ i v) y z h0 h1 h2
theorem left_da : (left m c t).2.2.1 y = (args m c).da z := block_at t _ _ (fun b s i h v => spread64_at b h _ i v) y z h0 h1 h2
theorem left_dq : (left m c t).2.2.2.1 y = (args m c).dq z :=
  block_at t _ (fun n b h => ((args m c).chunk n).dq b h) (fun b s i h v => spread_at b h _ i v) y z h0 h1 h2
theorem left_dk : (left m c t).2.2.2.2.1 y = (args m c).dk z :=
  block_at t _ (fun n b h => ((args m c).chunk n).dk b h ((args m c).next n b h)) (fun b s i h v => spread_at b h _ i v) y z h0 h1 h2
end

/-! The arrays after the last grid point. -/

theorem final8 : (dats m 0 c).arrAt 8 (cfgs 0).N = (args m c).du := by
  refine (dats m 0 c).arrAt_eq_of_covers 8 _ (by decide +kernel) fun t hf y => ?_
  blk_simp
  rw [after0_8, outs_eq]
  have e0 : (((win0_8.blk t).view.emb y 0 : Fin _) : ℕ) = (y 0 : ℕ) := by blk_simp [idx t]
  have e1 : (((win0_8.blk t).view.emb y 1 : Fin _) : ℕ) = (3 - (t : ℕ)) * 512 + (y 1 : ℕ) := by blk_simp [idx t]
  have e2 : (((win0_8.blk t).view.emb y 2 : Fin _) : ℕ) = (y 2 : ℕ) := by blk_simp [idx t]
  exact left_du m c t y _ e0 e1 e2

theorem final9 : (dats m 0 c).arrAt 9 (cfgs 0).N = (args m c).dw := by
  refine (dats m 0 c).arrAt_eq_of_covers 9 _ (by decide +kernel) fun t hf y => ?_
  blk_simp
  rw [after0_9, outs_eq]
  have e0 : (((win0_9.blk t).view.emb y 0 : Fin _) : ℕ) = (y 0 : ℕ) := by blk_simp [idx t]
  have e1 : (((win0_9.blk t).view.emb y 1 : Fin _) : ℕ) = (3 - (t : ℕ)) * 512 + (y 1 : ℕ) := by blk_simp [idx t]
  have e2 : (((win0_9.blk t).view.emb y 2 : Fin _) : ℕ) = (y 2 : ℕ) := by blk_simp [idx t]
  exact left_dw m c t y _ e0 e1 e2

theorem final10 : (dats m 0 c).arrAt 10 (cfgs 0).N = (args m c).da := by
  refine (dats m 0 c).arrAt_eq_of_covers 10 _ (by decide +kernel) fun t hf y => ?_
  blk_simp
  rw [after0_10, outs_eq]
  have e0 : (((win0_10.blk t).view.emb y 0 : Fin _) : ℕ) = (y 0 : ℕ) := by blk_simp [idx t]
  have e1 : (((win0_10.blk t).view.emb y 1 : Fin _) : ℕ) = (3 - (t : ℕ)) * 512 + (y 1 : ℕ) := by blk_simp [idx t]
  have e2 : (((win0_10.blk t).view.emb y 2 : Fin _) : ℕ) = (y 2 : ℕ) := by blk_simp [idx t]
  exact left_da m c t y _ e0 e1 e2

theorem final11 : (dats m 0 c).arrAt 11 (cfgs 0).N = (args m c).dq := by
  refine (dats m 0 c).arrAt_eq_of_covers 11 _ (by decide +kernel) fun t hf y => ?_
  blk_simp
  rw [after0_11, outs_eq]
  have e0 : (((win0_11.blk t).view.emb y 0 : Fin _) : ℕ) = (y 0 : ℕ) := by blk_simp [idx t]
  have e1 : (((win0_11.blk t).view.emb y 1 : Fin _) : ℕ) = (3 - (t : ℕ)) * 512 + (y 1 : ℕ) := by blk_simp [idx t]
  have e2 : (((win0_11.blk t).view.emb y 2 : Fin _) : ℕ) = (y 2 : ℕ) := by blk_simp [idx t]
  exact left_dq m c t y _ e0 e1 e2

theorem final12 : (dats m 0 c).arrAt 12 (cfgs 0).N = (args m c).dk := by
  refine (dats m 0 c).arrAt_eq_of_covers 12 _ (by decide +kernel) fun t hf y => ?_
  blk_simp
  rw [after0_12, outs_eq]
  have e0 : (((win0_12.blk t).view.emb y 0 : Fin _) : ℕ) = (y 0 : ℕ) := by blk_simp [idx t]
  have e1 : (((win0_12.blk t).view.emb y 1 : Fin _) : ℕ) = (3 - (t : ℕ)) * 512 + (y 1 : ℕ) := by blk_simp [idx t]
  have e2 : (((win0_12.blk t).view.emb y 2 : Fin _) : ℕ) = (y 2 : ℕ) := by blk_simp [idx t]
  exact left_dk m c t y _ e0 e1 e2

theorem final13 : (dats m 0 c).arrAt 13 (cfgs 0).N = (args m c).dg := by
  refine (dats m 0 c).arrAt_eq_of_covers 13 _ (by decide +kernel) fun t hf y => ?_
  blk_simp
  rw [after0_13, outs_eq]
  have e0 : (((win0_13.blk t).view.emb y 0 : Fin _) : ℕ) = (y 0 : ℕ) := by blk_simp [idx t]
  have e1 : (((win0_13.blk t).view.emb y 1 : Fin _) : ℕ) = (3 - (t : ℕ)) * 512 + (y 1 : ℕ) := by blk_simp [idx t]
  have e2 : (((win0_13.blk t).view.emb y 2 : Fin _) : ℕ) = (y 2 : ℕ) := by blk_simp [idx t]
  exact gate_at (args m c) t y _ e0 e1 e2

end DeltaScan
-- ==== Proof.ScanRef.lean ====
module

public import proofs.«01_k».proof.Proof.Gen.ScanGradRefIdeal.Run
public import proofs.«01_k».proof.Proof.ScanChain
public import Idealize.ShloMosaic.Lib.Pipeline.ValueKit
public import Idealize.ShloMosaic.Lib.WordCmp

/-! The reference's loop over the chunks, from the last to the first. -/

@[expose] public section

set_option maxRecDepth 16384

noncomputable section

open Idealize.ShloMosaic Idealize.ShloMosaic.TcCoe Idealize.SL.Sem
open Cert.ScanGradRefIdeal Cert.ScanGradRefIdeal.Gen Cert.ScanGradRefIdeal.Value
open Idealize.ShloMosaic.StableHlo Idealize.ShloMosaic.Tactic

namespace DeltaScan

/-- Where chunk `n` starts in a stack of chunks. -/
abbrev front (n : Fin 32) : Fin 5 → ℕ := ![(n : ℕ), 0, 0, 0, 0]

theorem fits128 (n : Fin 32) : S32x2x4x128x128.Slices (front n) S1x2x4x128x128 := by revert n; decide
theorem fits64 (n : Fin 32) : S32x2x4x64x128.Slices (front n) S1x2x4x64x128 := by revert n; decide
theorem fitsSq (n : Fin 32) : S32x2x4x64x64.Slices (front n) S1x2x4x64x64 := by revert n; decide
theorem fits1 (n : Fin 32) : S32x2x4x1x1.Slices (front n) S1x2x4x1x1 := by revert n; decide

section
variable (st : Fin 5 → Int) (n : Fin 32) (e : ∀ a, st a = (front n a : ℕ)) (n' : Fin 32) (b : Fin 2) (h : Fin 4)
include e

theorem take128 (x : FVec Ideal S32x2x4x128x128 .f32) (k v : Fin 128) :
    shapeCast S2x4x128x128 (Host.dynamicSlice S1x2x4x128x128 x st sliceFits_S32x2x4x128x128_S1x2x4x128x128) shapeCasts_S1x2x4x128x128_S2x4x128x128 (ix4 b h k v)
      = x (ix5 n b h k v) := by
  rw [WordCmp.dynamicSlice_eq_extract _ x st _ _ (fits128 n) e]
  pointwise; try blk_ext
theorem take64 (x : FVec Ideal S32x2x4x64x128 .f32) (i : Fin 64) (v : Fin 128) :
    shapeCast S2x4x64x128 (Host.dynamicSlice S1x2x4x64x128 x st sliceFits_S32x2x4x64x128_S1x2x4x64x128) shapeCasts_S1x2x4x64x128_S2x4x64x128 (ix4 b h i v)
      = x (ix5 n b h i v) := by
  rw [WordCmp.dynamicSlice_eq_extract _ x st _ _ (fits64 n) e]
  pointwise; try blk_ext
theorem takeSq (x : FVec Ideal S32x2x4x64x64 .f32) (i j : Fin 64) :
    shapeCast S2x4x64x64 (Host.dynamicSlice S1x2x4x64x64 x st sliceFits_S32x2x4x64x64_S1x2x4x64x64) shapeCasts_S1x2x4x64x64_S2x4x64x64 (ix4 b h i j)
      = x (ix5 n b h i j) := by
  rw [WordCmp.dynamicSlice_eq_extract _ x st _ _ (fitsSq n) e]
  pointwise; try blk_ext
theorem take1 (x : FVec Ideal S32x2x4x1x1 .f32) :
    shapeCast S2x4x1x1 (Host.dynamicSlice S1x2x4x1x1 x st sliceFits_S32x2x4x1x1_S1x2x4x1x1) shapeCasts_S1x2x4x1x1_S2x4x1x1 (ix4 b h 0 0)
      = x (ix5 n b h 0 0) := by
  rw [WordCmp.dynamicSlice_eq_extract _ x st _ _ (fits1 n) e]
  pointwise; try blk_ext

theorem put64 (x : FVec Ideal S32x2x4x64x128 .f32) (w : FVec Ideal S2x4x64x128 .f32) (i : Fin 64) (v : Fin 128) :
    Host.dynamicUpdateSlice x (broadcastInDim S1x2x4x64x128 ![1, 2, 3, 4] bcast_S2x4x64x128_S1x2x4x64x128_1_2_3_4 w) st updateFits_S32x2x4x64x128_S1x2x4x64x128 (ix5 n' b h i v)
      = if n' = n then w (ix4 b h i v) else x (ix5 n' b h i v) := by
  rw [WordCmp.dynamicUpdateSlice_eq_update x _ st _ _ (fits64 n) e]
  pointwise
  exact if_congr (by rw [Fin.ext_iff]; omega) rfl rfl
theorem putSq (x : FVec Ideal S32x2x4x64x64 .f32) (w : FVec Ideal S2x4x64x64 .f32) (i j : Fin 64) :
    Host.dynamicUpdateSlice x (broadcastInDim S1x2x4x64x64 ![1, 2, 3, 4] bcast_S2x4x64x64_S1x2x4x64x64_1_2_3_4 w) st updateFits_S32x2x4x64x64_S1x2x4x64x64 (ix5 n' b h i j)
      = if n' = n then w (ix4 b h i j) else x (ix5 n' b h i j) := by
  rw [WordCmp.dynamicUpdateSlice_eq_update x _ st _ _ (fitsSq n) e]
  pointwise
  exact if_congr (by rw [Fin.ext_iff]; omega) rfl rfl
theorem put1 (x : FVec Ideal S32x2x4x1x1 .f32) (w : FVec Ideal S2x4x1x1 .f32) :
    Host.dynamicUpdateSlice x (broadcastInDim S1x2x4x1x1 ![1, 2, 3, 4] bcast_S2x4x1x1_S1x2x4x1x1_1_2_3_4 w) st updateFits_S32x2x4x1x1_S1x2x4x1x1 (ix5 n' b h 0 0)
      = if n' = n then w (ix4 b h 0 0) else x (ix5 n' b h 0 0) := by
  rw [WordCmp.dynamicUpdateSlice_eq_update x _ st _ _ (fits1 n) e]
  pointwise
  exact if_congr (by rw [Fin.ext_iff]; omega) rfl rfl
end

variable (A : Args)

/-- The stacks that the loop reads hold the arrays' chunks. -/
structure Reads (V : Valuation τ sig (Elt Ideal)) : Prop where
  S : ∀ n b h k v, V main_v29_0 (ix5 n b h k v) = (A.chunk n).S b h (ix2 k v)
  u : ∀ n b h i v, V main_v29_1 (ix5 n b h i v) = (A.chunk n).u (ix3 b i (col h v))
  w : ∀ n b h i v, V main_v29_2 (ix5 n b h i v) = (A.chunk n).w (ix3 b i (col h v))
  a : ∀ n b h i j, V main_v29_3 (ix5 n b h i j) = (A.chunk n).a (ix3 b i (col64 h j))
  q : ∀ n b h i v, V main_v29_4 (ix5 n b h i v) = (A.chunk n).q (ix3 b i (col h v))
  k : ∀ n b h i v, V main_v29_5 (ix5 n b h i v) = (A.chunk n).k (ix3 b i (col h v))
  g : ∀ n b h, V main_v29_6 (ix5 n b h 0 0) = (A.chunk n).g (ix3 b 0 (lane h))
  o : ∀ n b h i v, V main_v29_7 (ix5 n b h i v) = (A.chunk n).o (ix3 b i (col h v))

section
variable (V : Valuation τ sig (Elt Ideal)) (H : Reads A V) (n : Fin 32)
  (e : ∀ a, (fun k => (((![res_main_while0b_v47 V, constantI S_ 32 0#32, constantI S_ 32 0#32, constantI S_ 32 0#32, constantI S_ 32 0#32] : Fin 5 → (⟨S_, .i32⟩ : BufTy).Contents (Elt Ideal))) k (Shape.Idx.first h_S_)).toInt) a = (front n a : ℕ))
  (D : Fin 2 → Fin 4 → State) (hD : ∀ b h k v, V main_v29_9 (ix4 b h k v) = D b h (ix2 k v)) (b : Fin 2) (h : Fin 4)
include H e

theorem v48_at (k v : Fin 128) : res_main_while0b_v48 V (ix4 b h k v) = (A.chunk n).S b h (ix2 k v) :=
  (take128 _ n e b h _ k v).trans (H.S n b h k v)
theorem v50_at (i : Fin 64) (v : Fin 128) : res_main_while0b_v50 V (ix4 b h i v) = (A.chunk n).w (ix3 b i (col h v)) :=
  (take64 _ n e b h _ i v).trans (H.w n b h i v)
theorem v51_at (i j : Fin 64) : res_main_while0b_v51 V (ix4 b h i j) = (A.chunk n).a (ix3 b i (col64 h j)) :=
  (takeSq _ n e b h _ i j).trans (H.a n b h i j)
theorem v52_at (i : Fin 64) (v : Fin 128) : res_main_while0b_v52 V (ix4 b h i v) = (A.chunk n).q (ix3 b i (col h v)) :=
  (take64 _ n e b h _ i v).trans (H.q n b h i v)
theorem v53_at (i : Fin 64) (v : Fin 128) : res_main_while0b_v53 V (ix4 b h i v) = (A.chunk n).k (ix3 b i (col h v)) :=
  (take64 _ n e b h _ i v).trans (H.k n b h i v)
theorem v55_at (i : Fin 64) (v : Fin 128) : res_main_while0b_v55 V (ix4 b h i v) = (A.chunk n).o (ix3 b i (col h v)) :=
  (take64 _ n e b h _ i v).trans (H.o n b h i v)

theorem v57_at (i : Fin 64) (v : Fin 128) : res_main_while0b_v57 V (ix4 b h i v) = (A.chunk n).vnew b h (ix2 i v) := by
  rw [vnew_at, res_main_while0b_v57]
  refine congrArg₂ (fun x y : EReal => x - y) ((take64 _ n e b h _ i v).trans (H.u n b h i v)) ?_
  pointwise [v48_at A V H n e, v50_at A V H n e]

theorem v61_at : res_main_while0b_v61 V (ix4 b h 0 0) = Ideal.exp ((A.chunk n).g (ix3 b 0 (lane h))) := by
  rw [res_main_while0b_v61]
  exact congrArg Ideal.exp ((take1 _ n e b h _).trans (H.g n b h))

include hD

theorem v78_at (i : Fin 64) (v : Fin 128) : res_main_while0b_v78 V (ix4 b h i v) = (A.chunk n).dv b h (D b h) (ix2 i v) := by
  rw [dv_at]
  pointwise [res_main_while0b_v78, v51_at A V H n e, v53_at A V H n e, v55_at A V H n e, hD]
  exact congrArg₂ (fun x y : EReal => x + y) (Finset.sum_congr rfl fun k _ => mul_comm (_ : EReal) _) (Finset.sum_congr rfl fun k _ => mul_comm (_ : EReal) _)
theorem v84_at (i : Fin 64) (v : Fin 128) : res_main_while0b_v84 V (ix4 b h i v) = 0 - (A.chunk n).dv b h (D b h) (ix2 i v) := by
  pointwise [res_main_while0b_v84, v78_at A V H n e D hD]
  show (_ : EReal) = _
  rw [sub_eq_add_neg, zero_add]
theorem state_at (k v : Fin 128) : step_main_v29_9 V (ix4 b h k v) = (A.chunk n).dstate b h (D b h) (ix2 k v) := by
  rw [dstate_at]
  unfold step_main_v29_9
  rw [id_eq]
  pointwise [v61_at A V H n e, v55_at A V H n e, v52_at A V H n e, v84_at A V H n e D hD, v50_at A V H n e, hD]
  exact congrArg₂ (fun x y : EReal => x + y) (congrArg₂ (fun x y : EReal => x + y) rfl (Finset.sum_congr rfl fun k _ => mul_comm (_ : EReal) _))
    (Finset.sum_congr rfl fun k _ => mul_comm (_ : EReal) _)

theorem du_at (n' : Fin 32) (i : Fin 64) (v : Fin 128) : step_main_v29_10 V (ix5 n' b h i v)
    = if n' = n then (A.chunk n).dv b h (D b h) (ix2 i v) else V main_v29_10 (ix5 n' b h i v) := by
  rw [← v78_at A V H n e D hD]
  exact put64 _ n e n' b h _ _ i v
theorem dw_stack (n' : Fin 32) (i : Fin 64) (v : Fin 128) : step_main_v29_11 V (ix5 n' b h i v)
    = if n' = n then (A.chunk n).dw b h (D b h) (ix2 i v) else V main_v29_11 (ix5 n' b h i v) := by
  refine (put64 _ n e n' b h _ _ i v).trans (if_congr Iff.rfl ?_ rfl)
  rw [dw_at]
  pointwise [v84_at A V H n e D hD, v48_at A V H n e]
theorem dk_stack (n' : Fin 32) (i : Fin 64) (v : Fin 128) : step_main_v29_14 V (ix5 n' b h i v)
    = if n' = n then (A.chunk n).dk b h (D b h) (ix2 i v) else V main_v29_14 (ix5 n' b h i v) := by
  refine (put64 _ n e n' b h _ _ i v).trans (if_congr Iff.rfl ?_ rfl)
  rw [dk_at]
  pointwise [v57_at A V H n e, hD]
  exact Finset.sum_congr rfl fun k _ => mul_comm (_ : EReal) _
theorem dg_stack (n' : Fin 32) : step_main_v29_15 V (ix5 n' b h 0 0)
    = if n' = n then (A.chunk n).dg b h (D b h) (ix2 0 (lane h)) else V main_v29_15 (ix5 n' b h 0 0) := by
  refine (put1 _ n e n' b h _ _).trans (if_congr Iff.rfl ?_ rfl)
  rw [dg_at, if_pos rfl]
  pointwise [v48_at A V H n e, v61_at A V H n e, hD]

omit hD
theorem da_stack (n' : Fin 32) (i j : Fin 64) : step_main_v29_12 V (ix5 n' b h i j)
    = if n' = n then (A.chunk n).da b h (ix2 i j) else V main_v29_12 (ix5 n' b h i j) := by
  refine (putSq _ n e n' b h _ _ i j).trans (if_congr Iff.rfl ?_ rfl)
  rw [da_at]
  pointwise [v55_at A V H n e, v57_at A V H n e]
theorem dq_stack (n' : Fin 32) (i : Fin 64) (v : Fin 128) : step_main_v29_13 V (ix5 n' b h i v)
    = if n' = n then (A.chunk n).dq b h (ix2 i v) else V main_v29_13 (ix5 n' b h i v) := by
  refine (put64 _ n e n' b h _ _ i v).trans (if_congr Iff.rfl ?_ rfl)
  rw [dq_at]
  pointwise [v55_at A V H n e, v48_at A V H n e]

end

/-- Where the loop is after `k` trips. -/
structure Walk (k : ℕ) (V : Valuation τ sig (Elt Ideal)) : Prop where
  reads : Reads A V
  count : ∀ j, V main_v29_8 j = BitVec.ofNat 32 k
  state : ∀ b h p v, V main_v29_9 (ix4 b h p v) = A.back k b h (ix2 p v)
  du : ∀ (n : Fin 32) b h i v, 32 - k ≤ (n : ℕ) → V main_v29_10 (ix5 n b h i v) = (A.chunk n).dv b h (A.next n b h) (ix2 i v)
  dw : ∀ (n : Fin 32) b h i v, 32 - k ≤ (n : ℕ) → V main_v29_11 (ix5 n b h i v) = (A.chunk n).dw b h (A.next n b h) (ix2 i v)
  da : ∀ (n : Fin 32) b h i j, 32 - k ≤ (n : ℕ) → V main_v29_12 (ix5 n b h i j) = (A.chunk n).da b h (ix2 i j)
  dq : ∀ (n : Fin 32) b h i v, 32 - k ≤ (n : ℕ) → V main_v29_13 (ix5 n b h i v) = (A.chunk n).dq b h (ix2 i v)
  dk : ∀ (n : Fin 32) b h i v, 32 - k ≤ (n : ℕ) → V main_v29_14 (ix5 n b h i v) = (A.chunk n).dk b h (A.next n b h) (ix2 i v)
  dg : ∀ (n : Fin 32) b h, 32 - k ≤ (n : ℕ) → V main_v29_15 (ix5 n b h 0 0) = (A.chunk n).dg b h (A.next n b h) (ix2 0 (lane h))

theorem word_back : ∀ k : Fin 32, (IntOp.subi (IntOp.subi 32#32 (BitVec.ofNat 32 k)) 1#32).toInt = ((31 - (k : ℕ) : ℕ) : Int) := by decide
theorem word_next : ∀ k : Fin 32, IntOp.addi (BitVec.ofNat 32 k) 1#32 = BitVec.ofNat 32 (k + 1) := by decide

theorem front_at (k : ℕ) (hk : k < 32) (V : Valuation τ sig (Elt Ideal)) (hc : ∀ j, V main_v29_8 j = BitVec.ofNat 32 k) (n : Fin 32) (hn : (n : ℕ) = 31 - k) :
    ∀ a, (fun k => (((![res_main_while0b_v47 V, constantI S_ 32 0#32, constantI S_ 32 0#32, constantI S_ 32 0#32, constantI S_ 32 0#32] : Fin 5 → (⟨S_, .i32⟩ : BufTy).Contents (Elt Ideal))) k (Shape.Idx.first h_S_)).toInt) a = (front n a : ℕ) := by
  intro a
  fin_cases a
  · show (IntOp.subi (IntOp.subi 32#32 (V main_v29_8 _)) 1#32).toInt = ((n : ℕ) : Int)
    rw [hc, hn]
    exact word_back ⟨k, hk⟩
  all_goals rfl

theorem Walk.step (k : ℕ) (hk : k < 32) (V : Valuation τ sig (Elt Ideal)) (W : Walk A k V) : Walk A (k + 1) (STEP V) := by
  obtain ⟨n, hn⟩ : ∃ n : Fin 32, (n : ℕ) = 31 - k := ⟨⟨31 - k, by omega⟩, rfl⟩
  have e := front_at k hk V W.count n hn
  have hb : A.back k = A.next n := congrArg A.back (by omega)
  have hD : ∀ b h p v, V main_v29_9 (ix4 b h p v) = A.next n b h (ix2 p v) := fun b h p v => (W.state b h p v).trans (by rw [hb])
  have hlt {n' : Fin 32} (h : 32 - (k + 1) ≤ (n' : ℕ)) (hne : ¬ n' = n) : 32 - k ≤ (n' : ℕ) := by
    have : (n' : ℕ) ≠ n := fun q => hne (Fin.ext q)
    omega
  constructor
  · constructor
    · rw [STEP_main_v29_0]; exact W.reads.S
    · rw [STEP_main_v29_1]; exact W.reads.u
    · rw [STEP_main_v29_2]; exact W.reads.w
    · rw [STEP_main_v29_3]; exact W.reads.a
    · rw [STEP_main_v29_4]; exact W.reads.q
    · rw [STEP_main_v29_5]; exact W.reads.k
    · rw [STEP_main_v29_6]; exact W.reads.g
    · rw [STEP_main_v29_7]; exact W.reads.o
  · intro j
    rw [STEP_main_v29_8]
    show IntOp.addi (V main_v29_8 j) 1#32 = _
    rw [W.count]
    exact word_next ⟨k, hk⟩
  · intro b h p v
    rw [STEP_main_v29_9, state_at A V W.reads n e _ hD]
    show _ = (A.chunk (Fin.ofNat 32 (31 - k))).dstate b h (A.back k b h) (ix2 p v)
    rw [hb]
    congr 2
    exact Fin.ext (by show (n : ℕ) = (31 - k) % 32; omega)
  · intro n' b h i v hle
    rw [STEP_main_v29_10, du_at A V W.reads n e _ hD]
    split_ifs with q
    · rw [q]
    · exact W.du n' b h i v (hlt hle q)
  · intro n' b h i v hle
    rw [STEP_main_v29_11, dw_stack A V W.reads n e _ hD]
    split_ifs with q
    · rw [q]
    · exact W.dw n' b h i v (hlt hle q)
  · intro n' b h i v hle
    rw [STEP_main_v29_12, da_stack A V W.reads n e]
    split_ifs with q
    · rw [q]
    · exact W.da n' b h i v (hlt hle q)
  · intro n' b h i v hle
    rw [STEP_main_v29_13, dq_stack A V W.reads n e]
    split_ifs with q
    · rw [q]
    · exact W.dq n' b h i v (hlt hle q)
  · intro n' b h i v hle
    rw [STEP_main_v29_14, dk_stack A V W.reads n e _ hD]
    split_ifs with q
    · rw [q]
    · exact W.dk n' b h i v (hlt hle q)
  · intro n' b h hle
    rw [STEP_main_v29_15, dg_stack A V W.reads n e _ hD]
    split_ifs with q
    · rw [q]
    · exact W.dg n' b h (hlt hle q)

theorem Walk.iterate (V : Valuation τ sig (Elt Ideal)) (W : Walk A 0 V) : ∀ k, k ≤ 32 → Walk A k (STEP^[k] V)
  | 0, _ => W
  | k + 1, hk => by
    rw [Function.iterate_succ_apply']
    exact Walk.step A k (by omega) _ (Walk.iterate V W k (by omega))

variable (m : (ℓ : Loc nD τ sig) → Buf (Elt Ideal) ℓ) (c : Dev nD)

/-- The arrays on device `c`. -/
def refArgs : Args where
  u := m ((c.tc : Thread nD τ).loc main_arg0)
  w := m ((c.tc : Thread nD τ).loc main_arg1)
  a := m ((c.tc : Thread nD τ).loc main_arg2)
  q := m ((c.tc : Thread nD τ).loc main_arg3)
  k := m ((c.tc : Thread nD τ).loc main_arg4)
  g := m ((c.tc : Thread nD τ).loc main_arg5)
  S := m ((c.tc : Thread nD τ).loc main_arg6)
  o := m ((c.tc : Thread nD τ).loc main_arg7)

/-! What the loop starts from. -/

theorem pack_at (x : FVec Ideal S2x2048x512 .f32) (n : Fin 32) (b : Fin 2) (h : Fin 4) (i : Fin 64) (v : Fin 128) :
    transpose S32x2x4x64x128 [1, 0, 3, 2, 4] (shapeCast S2x32x64x4x128 x shapeCasts_S2x2048x512_S2x32x64x4x128) transposes_S2x32x64x4x128_S32x2x4x64x128_1_0_3_2_4 (ix5 n b h i v)
      = x (ix3 b (row n i) (col h v)) := by
  pointwise
  try blk_ext

theorem unpack_at (x : FVec Ideal S32x2x4x64x128 .f32) (n : Fin 32) (b : Fin 2) (h : Fin 4) (i : Fin 64) (v : Fin 128) :
    shapeCast S2x2048x512 (transpose S2x32x64x4x128 [1, 0, 3, 2, 4] x transposes_S32x2x4x64x128_S2x32x64x4x128_1_0_3_2_4) shapeCasts_S2x32x64x4x128_S2x2048x512 (ix3 b (row n i) (col h v))
      = x (ix5 n b h i v) := by
  pointwise
  try blk_ext

theorem entry_S (n : Fin 32) (b : Fin 2) (h : Fin 4) (k v : Fin 128) :
    entryContents preI m c main_v29_0 (ix5 n b h k v) = ((refArgs m c).chunk n).S b h (ix2 k v) := by
  have q : entryContents preI m c main_v29_0 = transpose S32x2x4x128x128 [1, 0, 2, 3, 4] (m ((c.tc : Thread nD τ).loc main_arg6)) transposes_S2x32x4x128x128_S32x2x4x128x128_1_0_2_3_4 := by
    simp only [entryContents, afterL_cons, afterL_nil]
    after_reads_simp
    rfl
  rw [q]
  pointwise
  rfl

theorem entry_u : entryContents preI m c main_v29_1 = transpose S32x2x4x64x128 [1, 0, 3, 2, 4] (shapeCast S2x32x64x4x128 (m ((c.tc : Thread nD τ).loc main_arg0)) shapeCasts_S2x2048x512_S2x32x64x4x128) transposes_S2x32x64x4x128_S32x2x4x64x128_1_0_3_2_4 := by
  simp only [entryContents, afterL_cons, afterL_nil]
  after_reads_simp
  rfl
theorem entry_w : entryContents preI m c main_v29_2 = transpose S32x2x4x64x128 [1, 0, 3, 2, 4] (shapeCast S2x32x64x4x128 (m ((c.tc : Thread nD τ).loc main_arg1)) shapeCasts_S2x2048x512_S2x32x64x4x128) transposes_S2x32x64x4x128_S32x2x4x64x128_1_0_3_2_4 := by
  simp only [entryContents, afterL_cons, afterL_nil]
  after_reads_simp
  rfl
theorem entry_q : entryContents preI m c main_v29_4 = transpose S32x2x4x64x128 [1, 0, 3, 2, 4] (shapeCast S2x32x64x4x128 (m ((c.tc : Thread nD τ).loc main_arg3)) shapeCasts_S2x2048x512_S2x32x64x4x128) transposes_S2x32x64x4x128_S32x2x4x64x128_1_0_3_2_4 := by
  simp only [entryContents, afterL_cons, afterL_nil]
  after_reads_simp
  rfl
theorem entry_k : entryContents preI m c main_v29_5 = transpose S32x2x4x64x128 [1, 0, 3, 2, 4] (shapeCast S2x32x64x4x128 (m ((c.tc : Thread nD τ).loc main_arg4)) shapeCasts_S2x2048x512_S2x32x64x4x128) transposes_S2x32x64x4x128_S32x2x4x64x128_1_0_3_2_4 := by
  simp only [entryContents, afterL_cons, afterL_nil]
  after_reads_simp
  rfl
theorem entry_o : entryContents preI m c main_v29_7 = transpose S32x2x4x64x128 [1, 0, 3, 2, 4] (shapeCast S2x32x64x4x128 (m ((c.tc : Thread nD τ).loc main_arg7)) shapeCasts_S2x2048x512_S2x32x64x4x128) transposes_S2x32x64x4x128_S32x2x4x64x128_1_0_3_2_4 := by
  simp only [entryContents, afterL_cons, afterL_nil]
  after_reads_simp
  rfl
theorem entry_a : entryContents preI m c main_v29_3 = extractStridedSlice S32x2x4x64x64 ![0, 0, 0, 0, 0] (transpose S32x2x4x64x128 [1, 0, 3, 2, 4] (shapeCast S2x32x64x4x128 (m ((c.tc : Thread nD τ).loc main_arg2)) shapeCasts_S2x2048x512_S2x32x64x4x128) transposes_S2x32x64x4x128_S32x2x4x64x128_1_0_3_2_4) slices_S32x2x4x64x128_S32x2x4x64x64_0_0_0_0_0 := by
  simp only [entryContents, afterL_cons, afterL_nil]
  after_reads_simp
  rfl
theorem entry_g : entryContents preI m c main_v29_6 = broadcastInDim S32x2x4x1x1 ![0, 1, 2, 3] bcast_S32x2x4x1_S32x2x4x1x1_0_1_2_3 (transpose S32x2x4x1 [1, 0, 3, 2] (extractStridedSlice S2x32x1x4 ![0, 0, 0, 0] (shapeCast S2x32x64x128 (m ((c.tc : Thread nD τ).loc main_arg5)) shapeCasts_S2x2048x128_S2x32x64x128) slices_S2x32x64x128_S2x32x1x4_0_0_0_0) transposes_S2x32x1x4_S32x2x4x1_1_0_3_2) := by
  simp only [entryContents, afterL_cons, afterL_nil]
  after_reads_simp
  rfl
theorem entry_state : entryContents preI m c main_v29_9 = broadcastInDim S2x4x128x128 ![] bcast_S_S2x4x128x128 (constant (F := Ideal) S_ .f32 0x00000000#32) := by
  simp only [entryContents, afterL_cons, afterL_nil]
  after_reads_simp
  rfl

theorem head_start (x : FVec Ideal S2x2048x512 .f32) (n : Fin 32) (b : Fin 2) (h : Fin 4) (i j : Fin 64) :
    extractStridedSlice S32x2x4x64x64 ![0, 0, 0, 0, 0] (transpose S32x2x4x64x128 [1, 0, 3, 2, 4] (shapeCast S2x32x64x4x128 x shapeCasts_S2x2048x512_S2x32x64x4x128) transposes_S2x32x64x4x128_S32x2x4x64x128_1_0_3_2_4) slices_S32x2x4x64x128_S32x2x4x64x64_0_0_0_0_0 (ix5 n b h i j)
      = x (ix3 b (row n i) (col64 h j)) := by
  pointwise
  try blk_ext

theorem gate_start (x : FVec Ideal S2x2048x128 .f32) (n : Fin 32) (b : Fin 2) (h : Fin 4) :
    broadcastInDim S32x2x4x1x1 ![0, 1, 2, 3] bcast_S32x2x4x1_S32x2x4x1x1_0_1_2_3 (transpose S32x2x4x1 [1, 0, 3, 2] (extractStridedSlice S2x32x1x4 ![0, 0, 0, 0] (shapeCast S2x32x64x128 x shapeCasts_S2x2048x128_S2x32x64x128) slices_S2x32x64x128_S2x32x1x4_0_0_0_0) transposes_S2x32x1x4_S32x2x4x1_1_0_3_2) (ix5 n b h 0 0)
      = x (ix3 b (row n 0) (lane h)) := by
  pointwise
  try blk_ext

theorem walk_start : Walk (refArgs m c) 0 (entryContents preI m c) where
  reads :=
    { S := entry_S m c
      u := fun n b h i v => by rw [entry_u, pack_at]; rfl
      w := fun n b h i v => by rw [entry_w, pack_at]; rfl
      a := fun n b h i j => by rw [entry_a, head_start]; rfl
      q := fun n b h i v => by rw [entry_q, pack_at]; rfl
      k := fun n b h i v => by rw [entry_k, pack_at]; rfl
      g := fun n b h => by rw [entry_g, gate_start]; rfl
      o := fun n b h i v => by rw [entry_o, pack_at]; rfl }
  count := fun j => by rw [ctr_entry]
  state := fun b h p v => by
    rw [entry_state]
    pointwise [Args.back]
  du := fun n _ _ _ _ hn => by omega
  dw := fun n _ _ _ _ hn => by omega
  da := fun n _ _ _ _ hn => by omega
  dq := fun n _ _ _ _ hn => by omega
  dk := fun n _ _ _ _ hn => by omega
  dg := fun n _ _ hn => by omega

theorem walk_end : Walk (refArgs m c) 32 (STEP^[32] (entryContents preI m c)) :=
  Walk.iterate (refArgs m c) _ (walk_start m c) 32 le_rfl

/-! The six results. -/

theorem ref_du : out_main_v40 (STEP^[32] (entryContents preI m c)) = (refArgs m c).du :=
  eq_whole _ _ fun b n i h v => (unpack_at _ n b h i v).trans ((walk_end m c).du n b h i v (by omega))
theorem ref_dw : out_main_v38 (STEP^[32] (entryContents preI m c)) = (refArgs m c).dw :=
  eq_whole _ _ fun b n i h v => (unpack_at _ n b h i v).trans ((walk_end m c).dw n b h i v (by omega))
theorem ref_dq : out_main_v33 (STEP^[32] (entryContents preI m c)) = (refArgs m c).dq :=
  eq_whole _ _ fun b n i h v => (unpack_at _ n b h i v).trans ((walk_end m c).dq n b h i v (by omega))
theorem ref_dk : out_main_v31 (STEP^[32] (entryContents preI m c)) = (refArgs m c).dk :=
  eq_whole _ _ fun b n i h v => (unpack_at _ n b h i v).trans ((walk_end m c).dk n b h i v (by omega))

theorem pad_at (x : FVec Ideal S32x2x4x64x64 .f32) (n : Fin 32) (b : Fin 2) (h : Fin 4) (i : Fin 64) (v : Fin 128) :
    pad S32x2x4x64x128 ![0, 0, 0, 0, 0] ![0, 0, 0, 0, 64] ![0, 0, 0, 0, 0] x (constant (F := Ideal) S_ .f32 0x00000000#32) pads_S32x2x4x64x64_S32x2x4x64x128_000_000_000_000_0640 h_S_ (ix5 n b h i v)
      = if hv : (v : ℕ) < 64 then x (ix5 n b h i ⟨v, hv⟩) else 0 := by
  pointwise

theorem ref_da : out_main_v36 (STEP^[32] (entryContents preI m c)) = (refArgs m c).da :=
  eq_whole _ _ fun b n i h v => (unpack_at _ n b h i v).trans ((pad_at _ n b h i v).trans
    (dite_congr rfl (fun hv => (walk_end m c).da n b h i ⟨v, hv⟩ (by omega)) fun _ => rfl))

theorem one_at (x : FVec Ideal S32x2x4x1x1 .f32) (n : Fin 32) (b : Fin 2) (h : Fin 4) :
    Ideal.hostReduceAdd reducesTo_S32x2x4x1x1_S32x2x4_d3_4 x 0 (ix3 n b h) = x (ix5 n b h 0 0) := by
  unfold Ideal.hostReduceAdd
  rw [zero_add, Finset.sum_eq_single (ix5 n b h 0 0)]
  · intro y hy hne
    refine absurd ?_ hne
    have q := (Finset.mem_filter.mp hy).2
    have q0 : (y 0 : ℕ) = n := congrArg Fin.val (congrFun q 0)
    have q1 : (y 1 : ℕ) = b := congrArg Fin.val (congrFun q 1)
    have q2 : (y 2 : ℕ) = h := congrArg Fin.val (congrFun q 2)
    have l3 : (y 3 : ℕ) < 1 := (y 3).isLt
    have l4 : (y 4 : ℕ) < 1 := (y 4).isLt
    funext a
    fin_cases a
    · exact Fin.ext q0
    · exact Fin.ext q1
    · exact Fin.ext q2
    · exact Fin.ext (by show (y 3 : ℕ) = 0; omega)
    · exact Fin.ext (by show (y 4 : ℕ) = 0; omega)
  · intro hn
    refine absurd (Finset.mem_filter.mpr ⟨Finset.mem_univ _, ?_⟩) hn
    funext a
    fin_cases a <;> rfl

theorem rows_flat (x : FVec Ideal S2x32x64x128 .f32) (n : Fin 32) (b : Fin 2) (i : Fin 64) (l : Fin 128) :
    shapeCast S2x2048x128 x shapeCasts_S2x32x64x128_S2x2048x128 (ix3 b (row n i) l) = x (ix4 b n i l) := by
  pointwise; try blk_ext

theorem gate_pad (x : FVec Ideal S2x32x1x4 .f32) (n : Fin 32) (b : Fin 2) (i : Fin 64) (l : Fin 128) :
    pad S2x32x64x128 ![0, 0, 0, 0] ![0, 0, 63, 124] ![0, 0, 0, 0] x (constant (F := Ideal) S_ .f32 0x00000000#32) pads_S2x32x1x4_S2x32x64x128_000_000_0630_01240 h_S_ (ix4 b n i l)
      = if hl : (i : ℕ) < 1 ∧ (l : ℕ) < 4 then x (ix4 b n 0 ⟨l, hl.2⟩) else 0 := by
  pointwise
  exact dite_congr rfl (fun hl => congrArg x (congrArg (fun z => ix4 b n z _) (Fin.ext (by show (i : ℕ) = 0; omega)))) fun _ => rfl

theorem gate_lane (x : FVec Ideal S32x2x4x1x1 .f32) (n : Fin 32) (b : Fin 2) (h : Fin 4) :
    transpose S2x32x1x4 [1, 0, 3, 2] (broadcastInDim S32x2x4x1 ![0, 1, 2] bcast_S32x2x4_S32x2x4x1_0_1_2 (Host.reduceAdd x (constant S_ .f32 0x00000000#32) reducesTo_S32x2x4x1x1_S32x2x4_d3_4 h_S_)) transposes_S32x2x4x1_S2x32x1x4_1_0_3_2 (ix4 b n 0 h)
      = x (ix5 n b h 0 0) := by
  pointwise [one_at]

theorem gate_end (x : FVec Ideal S32x2x4x1x1 .f32) (n : Fin 32) (b : Fin 2) (i : Fin 64) (l : Fin 128) :
    shapeCast S2x2048x128 (pad S2x32x64x128 ![0, 0, 0, 0] ![0, 0, 63, 124] ![0, 0, 0, 0] (transpose S2x32x1x4 [1, 0, 3, 2] (broadcastInDim S32x2x4x1 ![0, 1, 2] bcast_S32x2x4_S32x2x4x1_0_1_2 (Host.reduceAdd x (constant S_ .f32 0x00000000#32) reducesTo_S32x2x4x1x1_S32x2x4_d3_4 h_S_)) transposes_S32x2x4x1_S2x32x1x4_1_0_3_2) (constant (F := Ideal) S_ .f32 0x00000000#32) pads_S2x32x1x4_S2x32x64x128_000_000_0630_01240 h_S_) shapeCasts_S2x32x64x128_S2x2048x128 (ix3 b (row n i) l)
      = if hl : (i : ℕ) < 1 ∧ (l : ℕ) < 4 then x (ix5 n b ⟨l, hl.2⟩ 0 0) else 0 := by
  rw [rows_flat, gate_pad]
  exact dite_congr rfl (fun hl => gate_lane x n b ⟨l, hl.2⟩) fun _ => rfl

theorem gate_sum (A : Args) (n : Fin 32) (b : Fin 2) (i : Fin 64) (l : Fin 128) :
    A.gate n (ix3 b i l) = if hl : (i : ℕ) < 1 ∧ (l : ℕ) < 4 then (A.chunk n).dg b ⟨l, hl.2⟩ (A.next n b ⟨l, hl.2⟩) (ix2 0 (lane ⟨l, hl.2⟩)) else 0 := by
  rw [Args.gate, stackUp_at]
  by_cases hl : (l : ℕ) < 4
  · obtain ⟨h, rfl⟩ : ∃ h : Fin 4, l = lane h := ⟨⟨l, hl⟩, rfl⟩
    by_cases hi : (i : ℕ) < 1
    · rw [dif_pos ⟨hi, hl⟩]
      obtain rfl : i = 0 := Fin.ext (by show (i : ℕ) = 0; omega)
      simp only [dg_at]
      fin_cases h <;> simp
    · have hz : ¬ (i : ℕ) = 0 := by omega
      rw [dif_neg fun q => hi q.1]
      simp only [dg_at, if_neg hz]
      simp
  · rw [dif_neg fun q => hl q.2]
    have off (h : Fin 4) : ¬ (l : ℕ) = h := by omega
    simp only [dg_at, if_neg (off _)]
    simp

theorem ref_dg : out_main_v45 (STEP^[32] (entryContents preI m c)) = (refArgs m c).dg := by
  funext y
  have l1 : (y 1 : ℕ) < 2048 := (y 1).isLt
  obtain ⟨b, n, i, l, rfl⟩ : ∃ b n i l, y = (ix3 b (row n i) l : S2x2048x128.Idx) := by
    refine ⟨y 0, ⟨(y 1 : ℕ) / 64, by omega⟩, ⟨(y 1 : ℕ) % 64, by omega⟩, y 2, ?_⟩
    funext a
    fin_cases a
    · rfl
    · exact Fin.ext (by show (y 1 : ℕ) = 64 * ((y 1 : ℕ) / 64) + (y 1 : ℕ) % 64; omega)
    · rfl
  refine (gate_end _ n b i l).trans (Eq.trans ?_ ((gate_sum _ n b i l).symm.trans (dg_row _ b n i l).symm))
  exact dite_congr rfl (fun hl => (walk_end m c).dg n b ⟨l, hl.2⟩ (by omega)) fun _ => rfl

end DeltaScan
-- ==== Proof.Norm.lean ====
/- The norm's gradient: what each grid point stores is its block of the reference's result, and the weight's gradient is
the sum over the row blocks. -/
module

public import proofs.«01_k».proof.Proof.Gen.NormGradIdeal.Value
public import proofs.«01_k».proof.Proof.Gen.NormGradRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Norm

open Cert.NormGradIdeal Cert.NormGradIdeal.Gen Cert.NormGradIdeal.Value
open Cert.NormGradRefIdeal.Read

variable (m : (ℓ : Loc nD τ sig) → Buf (Elt Ideal) ℓ)

/-- The block of every window at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0, 0] :=
  (by decide +kernel : ∀ t : Fin grid0.N, _)

/-- What a grid point stores of the input's gradient. -/
theorem out4 (c : Dev nD) (t : Fin cfg0.N) : (outsAt0 m c t.val t.isLt).1
    = k0_pay8 (iblk m c 0 t) (iblk m c 1 t) (iblk m c 2 t) (iblk m c 3 t) := by
  by_cases h : t.val % 8 = 0
  · rw [outsAt0_A m c t h]
    frame_out
  · rw [outsAt0_B m c t h]
    frame_out

/-- What a grid point stores of the rounded copy. -/
theorem out5 (c : Dev nD) (t : Fin cfg0.N) : (outsAt0 m c t.val t.isLt).2.1
    = k0_pay1 (k0_pay7 (iblk m c 0 t) (iblk m c 1 t) (iblk m c 2 t)) (iblk m c 3 t) := by
  by_cases h : t.val % 8 = 0
  · rw [outsAt0_A m c t h]
    frame_out
  · rw [outsAt0_B m c t h]
    frame_out

/-- The input's gradient, added to the residual's. -/
theorem final4 (c : Dev nD) : (dats m 0 c).arrAt 4 (cfgs 0).N
    = val_main_v34 (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4, out4]
  pointwise [k0_pay8, k0_pay7, k0_pay5, k0_pay4, val_main_v34, val_main_v33, val_main_v32, val_main_v31, val_main_v30,
    val_main_v29, val_main_v28, val_main_v27, val_main_v26, val_main_v25, val_main_v24, val_main_v23, val_main_v22,
    val_main_v21, val_main_v20, val_main_v19, val_main_v18, val_main_v10, val_main_v9, val_main_v8, val_main_v7,
    val_main_v6, val_main_v5, val_main_v4, val_main_v3, val_main_v2, val_main_v1, val_main_v0, val_main_cst,
    val_main_cst_0, val_main_cst_1, val_main_cst_2, val_main_cst_4, val_main_cst_5, val_main_cst_6]
  blk_point [iblk, V, idx t]

/-- The rounded copy of that sum: over the extended reals, the sum itself. -/
theorem final5 (c : Dev nD) : (dats m 0 c).arrAt 5 (cfgs 0).N
    = val_main_v35 (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5, out5]
  pointwise [k0_pay1, k0_pay7, k0_pay5, k0_pay4, val_main_v35, val_main_v34, val_main_v33, val_main_v32, val_main_v31, val_main_v30,
    val_main_v29, val_main_v28, val_main_v27, val_main_v26, val_main_v25, val_main_v24, val_main_v23, val_main_v22,
    val_main_v21, val_main_v20, val_main_v19, val_main_v18, val_main_v10, val_main_v9, val_main_v8, val_main_v7,
    val_main_v6, val_main_v5, val_main_v4, val_main_v3, val_main_v2, val_main_v1, val_main_v0, val_main_cst,
    val_main_cst_0, val_main_cst_1, val_main_cst_2, val_main_cst_4, val_main_cst_5, val_main_cst_6]
  blk_point [iblk, V, idx t]

theorem hzero (j) : k0_pay2 (F := Ideal) j = 0 := by pointwise [k0_pay2]

/-- One grid point adds its rows' products, each of a cotangent and a normed input, to the running sum. -/
theorem hpay (acc : Vec Ideal S1x1x1024 .f32) (x d : Vec Ideal S512x1024 .f32) (j) :
    k0_pay3 (k0_pay6 x d) acc j
      = acc j + ∑ k : Fin 512, x (ix2 k (j 2)) * k0_pay5 x (ix2 k 0) * d (ix2 k (j 2)) := by
  pointwise [k0_pay3, k0_pay6]
  blk_ext

/-- The weight's gradient: the sum over the row blocks. -/
theorem final6 (c : Dev nD) : (dats m 0 c).arrAt 6 (cfgs 0).N
    = val_main_v36 (m ((c : Thread nD τ).loc main_arg0)) (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2.2) 8 (fun _ => 0) _
    (fun t h j => by rw [outsAt0_A m c t h]; frame_out; rw [hpay, hzero])
    (fun t h j => by rw [outsAt0_B m c t h]; frame_out; rw [hpay])
    t ((flush0_6 t).mp hf) _, zero_add]
  pointwise [val_main_v36, val_main_v17, val_main_v16, val_main_v15, val_main_v12, val_main_v11, val_main_v7, val_main_v6,
    val_main_v5, val_main_v4, val_main_v3, val_main_v2, val_main_v1, val_main_v0, val_main_cst, val_main_cst_0,
    val_main_cst_1, val_main_cst_3]
  refine Fin.sum_mul_add_congr fun s k hl => ?_
  show (_ : EReal) = _
  pointwise [k0_pay5, k0_pay4]
  blk_point [iblk, V, idx t, idx ⟨_, Pipeline.run_point_lt_of_flush t ((flush0_6 t).mp hf) s⟩]

end Cert.Proof.Norm

end
-- ==== Proof.Post.lean ====
/- The recurrent unit's gate and its gradient, and the norm that opens a layer: what each grid point stores is its block of
the reference's result. -/
module

public import proofs.«01_k».proof.Proof.Gen.LruPostGradIdeal.Value
public import proofs.«01_k».proof.Proof.Gen.LruPostGradRefIdeal.Read
public import proofs.«01_k».proof.Proof.Gen.NormFwdIdeal.Value
public import proofs.«01_k».proof.Proof.Gen.NormFwdRefIdeal.Read
public import proofs.«01_k».proof.Proof.Gen.LruPostFwdIdeal.Value
public import proofs.«01_k».proof.Proof.Gen.LruPostFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The norm. -/

namespace Cert.Proof.NormFwd

open Cert.NormFwdIdeal Cert.NormFwdIdeal.Gen Cert.NormFwdIdeal.Value
open Cert.NormFwdRefIdeal.Read

variable (m : (ℓ : Loc nD τ sig) → Buf (Elt Ideal) ℓ)

/-- The block of every window at a grid point. -/
theorem idx : ∀ t : Fin cfg0.N, win0_0.index t = ![t.val, 0] ∧ win0_1.index t = ![0, 0] ∧ win0_2.index t = ![t.val, 0] :=
  (by decide +kernel : ∀ t : Fin grid0.N, _)

/-- The array after the last grid point. -/
theorem final (c : Dev nD) : (dats m 0 c).arrAt 2 (cfgs 0).N
    = val_main_v12 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v12, val_main_v11, val_main_v10, val_main_v9, val_main_v8, val_main_v7, val_main_v6,
    val_main_v5, val_main_v4, val_main_v3, val_main_v2, val_main_v1, val_main_v0, val_main_cst, val_main_cst_0,
    val_main_cst_1]
  blk_point [iblk, V, idx t]

end Cert.Proof.NormFwd

/-! The recurrent unit's gate. -/

namespace Cert.Proof.LruPostFwd

open Cert.LruPostFwdIdeal Cert.LruPostFwdIdeal.Gen Cert.LruPostFwdIdeal.Value
open Cert.LruPostFwdRefIdeal.Read

variable (m : (ℓ : Loc nD τ sig) → Buf (Elt Ideal) ℓ)

/-- The block of every window at a grid point. -/
theorem idx : ∀ t : Fin cfg0.N, win0_0.index t = ![t.val, 0] ∧ win0_1.index t = ![t.val, 13] ∧ win0_2.index t = ![t.val, 0] :=
  (by decide +kernel : ∀ t : Fin grid0.N, _)

/-- The array after the last grid point. -/
theorem final (c : Dev nD) : (dats m 0 c).arrAt 2 (cfgs 0).N
    = val_main_v15 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v15, val_main_v14, val_main_v13, val_main_v12, val_main_v11, val_main_v10, val_main_v9,
    val_main_v8, val_main_v7, val_main_v6, val_main_v5, val_main_v4, val_main_v3, val_main_v2, val_main_v1,
    val_main_v0, val_main_cst, val_main_cst_0, val_main_cst_1, val_main_cst_2]
  blk_point [iblk, V, idx t]

end Cert.Proof.LruPostFwd

/-! The gradient of the recurrent unit's gate, in the recurrence's output and in the gate inputs. -/

namespace Cert.Proof.LruPostGrad

open Cert.LruPostGradIdeal Cert.LruPostGradIdeal.Gen Cert.LruPostGradIdeal.Value
open Cert.LruPostGradRefIdeal.Read

variable (m : (ℓ : Loc nD τ sig) → Buf (Elt Ideal) ℓ)

/-- The block of every window at a grid point. -/
theorem idx : ∀ t : Fin cfg0.N, win0_0.index t = ![t.val, 0] ∧ win0_1.index t = ![t.val, 13] ∧ win0_2.index t = ![t.val, 0]
    ∧ win0_3.index t = ![t.val, 0] ∧ win0_4.index t = ![t.val, 13] :=
  (by decide +kernel : ∀ t : Fin grid0.N, _)

/-- The gradient in the recurrence's output. -/
theorem final3 (c : Dev nD) : (dats m 0 c).arrAt 3 (cfgs 0).N
    = val_main_v24 (m ((c : Thread nD τ).loc main_arg1)) (m ((c : Thread nD τ).loc main_arg2)) := by
  refine (dats m 0 c).arrAt_eq_of_covers 3 _ (by decide +kernel) fun t hf y => ?_
  blk_simp
  rw [after0_3]
  simp only [outsAt0]
  frame_out
  pointwise [k0_pay4, k0_pay3, k0_pay2, val_main_v24, val_main_v21, val_main_v20, val_main_v19, val_main_v18,
    val_main_v17, val_main_v16, val_main_v15, val_main_v14, val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1, val_main_cst_2, val_main_cst_3,
    val_main_cst_4, val_main_cst_5]
  blk_point [iblk, V, idx t]

/-- The gradient in the gate inputs as the reference composes it, of the arguments. -/
abbrev dGate (c : Dev nD) : (⟨S4096x8192, .bf16⟩ : BufTy).Contents (Elt Ideal) :=
  val_main_v40 (m ((c : Thread nD τ).loc main_arg0)) (m ((c : Thread nD τ).loc main_arg1))
    (m ((c : Thread nD τ).loc main_arg2)) (m ((c : Thread nD τ).loc main_arg3))

/-- Row `y 0` of row block `t`, column `y 1` of the gate's columns, in the array of all columns. -/
abbrev place (t : Fin cfg0.N) (y : S512x512.Idx) : S4096x8192.Idx :=
  ix2 (⟨t.val * 512 + (y 0).val, by
      have ht : t.val < 8 := t.isLt
      have h0 : (y 0).val < 512 := (y 0).isLt
      omega⟩ : Fin 4096)
    (⟨6656 + (y 1).val, by have h1 : (y 1).val < 512 := (y 1).isLt; omega⟩ : Fin 8192)

/-- What grid point `t` stores of the gradient in the gate inputs. -/
theorem gate_point (c : Dev nD) (t : Fin cfg0.N) (y : S512x512.Idx) :
    (outsAt0 m c t).2 y = dGate m c (place t y) := by
  have hy : (y 1).val < 512 := (y 1).isLt
  simp only [outsAt0]
  frame_out
  pointwise [k0_pay1, k0_pay2, k0_pay3, k0_pay4, k0_pay5, dGate, val_main_v40]
  pointwise [val_main_v38, val_main_v36, val_main_v35, val_main_v34, val_main_v33, val_main_v32, val_main_v31,
    val_main_v30, val_main_v29, val_main_v28, val_main_v27, val_main_v26, val_main_v25, val_main_v23, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v1, val_main_v0, val_main_cst, val_main_cst_0, val_main_cst_1,
    val_main_cst_2, val_main_cst_3, val_main_cst_4, val_main_cst_5, val_main_cst_6, val_main_cst_7, val_main_cst_8]
  blk_point [iblk, V, idx t]

/-- The gradient in the gate inputs: the gate's columns, and the argument's own in the others. -/
theorem final4 (c : Dev nD) : (dats m 0 c).arrAt 4 (cfgs 0).N = dGate m c := by
  have h := (dats m 0 c).arrAt_eq_of_coversWhere 4 (dGate m c) (fun β => β 1 = 13) (by decide +kernel)
    (P := fun j => 6656 ≤ (j 1).val ∧ (j 1).val < 7168) (fun t hf y => ?_) (fun j => by blk_simp [Pipeline.Window.cell_apply]; omega)
  · rw [h]; funext j
    split
    · rfl
    · rename_i hj
      rw [A_eq]
      show V m c main_v0_1 j = _
      have hj0 : ¬ (6656 ≤ (j 1).val ∧ (j 1).val < 7168) := hj
      entry_read
      pointwise [dGate, val_main_v40, val_main_v39, val_main_v37]
      by_cases h0 : (j 1).val < 6656
      · rw [dif_pos h0]
        blk_ext
      · rw [dif_neg h0, dif_neg (by omega)]
        blk_ext
  · rw [after0_4, cast_eq]
    refine (gate_point m c t ((cfg0.win 4).xinj (cfg0.grid.coords t) y)).trans (congrArg (dGate m c) ?_)
    blk_ext [idx t] <;> rfl

end Cert.Proof.LruPostGrad

end
-- ==== Proof.Heads.lean ====
/- The norms by heads that close the retention's and the delta rule's branches. -/
module

public import proofs.«01_k».proof.Proof.Gen.RetPostFwdIdeal.Value
public import proofs.«01_k».proof.Proof.Gen.RetPostFwdRefIdeal.Read
public import proofs.«01_k».proof.Proof.Gen.DnPostFwdIdeal.Value
public import proofs.«01_k».proof.Proof.Gen.DnPostFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The retention's. -/

namespace Cert.Proof.RetPostFwd

open Cert.RetPostFwdIdeal Cert.RetPostFwdIdeal.Gen Cert.RetPostFwdIdeal.Value
open Cert.RetPostFwdRefIdeal.Read

variable (m : (ℓ : Loc nD τ sig) → Buf (Elt Ideal) ℓ)

/-- The block of every window at a grid point. -/
theorem idx : ∀ t : Fin cfg0.N, win0_0.index t = ![t.val, 0] ∧ win0_1.index t = ![t.val, 10] ∧ win0_2.index t = ![t.val, 0] :=
  (by decide +kernel : ∀ t : Fin grid0.N, _)

set_option maxHeartbeats 1600000 in
/-- The array after the last grid point. -/
theorem final (c : Dev nD) : (dats m 0 c).arrAt 2 (cfgs 0).N
    = val_main_v24 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v24, val_main_v23]
  have ht : t.val < 8 := t.isLt
  have h0 : (y 0).val < 512 := (y 0).isLt
  have h1 : (y 1).val < 512 := (y 1).isLt
  split
  · pointwise [k0_pay2, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0, val_main_cst, val_main_cst_0, val_main_cst_1, val_main_cst_2, val_main_cst_3]
    simp only [Ideal.logistic]
    blk_point [iblk, V, idx t]
  split
  · pointwise [k0_pay8, k0_pay7, k0_pay6, k0_pay5, k0_pay4, k0_pay3, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0, val_main_cst, val_main_cst_0, val_main_cst_1, val_main_cst_2, val_main_cst_3]
    simp only [Ideal.logistic]
    blk_point [iblk, V, idx t]
  split
  · pointwise [k0_pay9, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0, val_main_cst, val_main_cst_0, val_main_cst_1, val_main_cst_2, val_main_cst_3]
    simp only [Ideal.logistic]
    blk_point [iblk, V, idx t]
  · pointwise [k0_pay10, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0, val_main_cst, val_main_cst_0, val_main_cst_1, val_main_cst_2, val_main_cst_3]
    simp only [Ideal.logistic]
    blk_point [iblk, V, idx t]

end Cert.Proof.RetPostFwd

/-! The delta rule's. -/

namespace Cert.Proof.DnPostFwd

open Cert.DnPostFwdIdeal Cert.DnPostFwdIdeal.Gen Cert.DnPostFwdIdeal.Value
open Cert.DnPostFwdRefIdeal.Read

variable (m : (ℓ : Loc nD τ sig) → Buf (Elt Ideal) ℓ)

/-- The block of every window at a grid point. -/
theorem idx : ∀ t : Fin cfg0.N, win0_0.index t = ![t.val, 0] ∧ win0_1.index t = ![t.val, 11] ∧ win0_2.index t = ![0, 0]
    ∧ win0_3.index t = ![t.val, 0] :=
  (by decide +kernel : ∀ t : Fin grid0.N, _)

set_option maxHeartbeats 1600000 in
/-- The array after the last grid point. -/
theorem final (c : Dev nD) : (dats m 0 c).arrAt 3 (cfgs 0).N
    = val_main_v19 (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3]
  frame_out
  pointwise [k0_pay1, val_main_v19, val_main_v18]
  have ht : t.val < 8 := t.isLt
  have h0 : (y 0).val < 512 := (y 0).isLt
  have h1 : (y 1).val < 512 := (y 1).isLt
  split
  · pointwise [k0_pay2, k0_pay3, k0_pay4, k0_pay5, k0_pay6, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0, val_main_cst, val_main_cst_0, val_main_cst_1]
    simp only [Ideal.logistic]
    blk_point [iblk, V, idx t]
  split
  · pointwise [k0_pay2, k0_pay3, k0_pay4, k0_pay5, k0_pay6, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0, val_main_cst, val_main_cst_0, val_main_cst_1]
    simp only [Ideal.logistic]
    blk_point [iblk, V, idx t]
  split
  · pointwise [k0_pay2, k0_pay3, k0_pay4, k0_pay5, k0_pay6, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0, val_main_cst, val_main_cst_0, val_main_cst_1]
    simp only [Ideal.logistic]
    blk_point [iblk, V, idx t]
  · pointwise [k0_pay2, k0_pay3, k0_pay4, k0_pay5, k0_pay6, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0, val_main_cst, val_main_cst_0, val_main_cst_1]
    simp only [Ideal.logistic]
    blk_point [iblk, V, idx t]

end Cert.Proof.DnPostFwd

end
-- ==== Proof.lean ====
/- The certificate: each program's run, and each kernel's result arrays set beside its reference's. -/
module

public import proofs.«01_k».proof.Defs
public import proofs.«01_k».proof.Proof.Gen.MergeGrad
public import proofs.«01_k».proof.Proof.Gen.MergeGrad.Skeleton
public import proofs.«01_k».proof.Proof.Gen.MergeGrad.Launch
public import proofs.«01_k».proof.Proof.Gen.MergeGrad.Points
public import proofs.«01_k».proof.Proof.Gen.MergeGrad.Frame
public import proofs.«01_k».proof.Proof.Gen.MergeGradIdeal
public import proofs.«01_k».proof.Proof.Gen.MergeGradIdeal.Skeleton
public import proofs.«01_k».proof.Proof.Gen.MergeGradIdeal.Launch
public import proofs.«01_k».proof.Proof.Gen.MergeGradIdeal.Points
public import proofs.«01_k».proof.Proof.Gen.MergeGradIdeal.Frame
public import proofs.«01_k».proof.Proof.Gen.MergeGradIdeal.Value
public import proofs.«01_k».proof.Proof.Gen.MergeGradRefIdeal
public import proofs.«01_k».proof.Proof.Gen.MergeGradRefIdeal.Run
public import proofs.«01_k».proof.Proof.Gen.MergeGradRefIdeal.Read
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.UpGateDx
public import proofs.«01_k».proof.Proof.Gen.UpGateDx.Skeleton
public import proofs.«01_k».proof.Proof.Gen.UpGateDx.Launch
public import proofs.«01_k».proof.Proof.Gen.UpGateDx.Points
public import proofs.«01_k».proof.Proof.Gen.UpGateDx.Frame
public import proofs.«01_k».proof.Proof.Gen.UpGateDxIdeal
public import proofs.«01_k».proof.Proof.Gen.UpGateDxIdeal.Skeleton
public import proofs.«01_k».proof.Proof.Gen.UpGateDxIdeal.Launch
public import proofs.«01_k».proof.Proof.Gen.UpGateDxIdeal.Points
public import proofs.«01_k».proof.Proof.Gen.UpGateDxIdeal.Frame
public import proofs.«01_k».proof.Proof.Gen.UpGateDxIdeal.Value
public import proofs.«01_k».proof.Proof.Gen.UpGateDxRefIdeal
public import proofs.«01_k».proof.Proof.Gen.UpGateDxRefIdeal.Run
public import proofs.«01_k».proof.Proof.Gen.UpGateDxRefIdeal.Read
public import proofs.«01_k».proof.Proof.Gen.UpValDx
public import proofs.«01_k».proof.Proof.Gen.UpValDx.Skeleton
public import proofs.«01_k».proof.Proof.Gen.UpValDx.Launch
public import proofs.«01_k».proof.Proof.Gen.UpValDx.Points
public import proofs.«01_k».proof.Proof.Gen.UpValDx.Frame
public import proofs.«01_k».proof.Proof.Gen.UpValDxIdeal
public import proofs.«01_k».proof.Proof.Gen.UpValDxIdeal.Skeleton
public import proofs.«01_k».proof.Proof.Gen.UpValDxIdeal.Launch
public import proofs.«01_k».proof.Proof.Gen.UpValDxIdeal.Points
public import proofs.«01_k».proof.Proof.Gen.UpValDxIdeal.Frame
public import proofs.«01_k».proof.Proof.Gen.UpValDxIdeal.Value
public import proofs.«01_k».proof.Proof.Gen.UpValDxRefIdeal
public import proofs.«01_k».proof.Proof.Gen.UpValDxRefIdeal.Run
public import proofs.«01_k».proof.Proof.Gen.UpValDxRefIdeal.Read
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.BranchDx
public import proofs.«01_k».proof.Proof.Gen.BranchDx.Skeleton
public import proofs.«01_k».proof.Proof.Gen.BranchDx.Launch
public import proofs.«01_k».proof.Proof.Gen.BranchDx.Points
public import proofs.«01_k».proof.Proof.Gen.BranchDx.Frame
public import proofs.«01_k».proof.Proof.Gen.BranchDxIdeal
public import proofs.«01_k».proof.Proof.Gen.BranchDxIdeal.Skeleton
public import proofs.«01_k».proof.Proof.Gen.BranchDxIdeal.Launch
public import proofs.«01_k».proof.Proof.Gen.BranchDxIdeal.Points
public import proofs.«01_k».proof.Proof.Gen.BranchDxIdeal.Frame
public import proofs.«01_k».proof.Proof.Gen.BranchDxIdeal.Value
public import proofs.«01_k».proof.Proof.Gen.BranchDxRefIdeal
public import proofs.«01_k».proof.Proof.Gen.BranchDxRefIdeal.Run
public import proofs.«01_k».proof.Proof.Gen.BranchDxRefIdeal.Read
public import proofs.«01_k».proof.Proof.Gen.BranchDw
public import proofs.«01_k».proof.Proof.Gen.BranchDw.Skeleton
public import proofs.«01_k».proof.Proof.Gen.BranchDw.Launch
public import proofs.«01_k».proof.Proof.Gen.BranchDw.Points
public import proofs.«01_k».proof.Proof.Gen.BranchDw.Frame
public import proofs.«01_k».proof.Proof.Gen.BranchDwIdeal
public import proofs.«01_k».proof.Proof.Gen.BranchDwIdeal.Skeleton
public import proofs.«01_k».proof.Proof.Gen.BranchDwIdeal.Launch
public import proofs.«01_k».proof.Proof.Gen.BranchDwIdeal.Points
public import proofs.«01_k».proof.Proof.Gen.BranchDwIdeal.Frame
public import proofs.«01_k».proof.Proof.Gen.BranchDwIdeal.Value
public import proofs.«01_k».proof.Proof.Gen.BranchDwRefIdeal
public import proofs.«01_k».proof.Proof.Gen.BranchDwRefIdeal.Run
public import proofs.«01_k».proof.Proof.Gen.BranchDwRefIdeal.Read
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.InFwdRefIdeal.Read
public import proofs.«01_k».proof.Proof.Gen.UpFwd
public import proofs.«01_k».proof.Proof.Gen.UpFwd.Skeleton
public import proofs.«01_k».proof.Proof.Gen.UpFwd.Launch
public import proofs.«01_k».proof.Proof.Gen.UpFwd.Points
public import proofs.«01_k».proof.Proof.Gen.UpFwd.Frame
public import proofs.«01_k».proof.Proof.Gen.UpFwdIdeal
public import proofs.«01_k».proof.Proof.Gen.UpFwdIdeal.Skeleton
public import proofs.«01_k».proof.Proof.Gen.UpFwdIdeal.Launch
public import proofs.«01_k».proof.Proof.Gen.UpFwdIdeal.Points
public import proofs.«01_k».proof.Proof.Gen.UpFwdIdeal.Frame
public import proofs.«01_k».proof.Proof.Gen.UpFwdIdeal.Value
public import proofs.«01_k».proof.Proof.Gen.UpFwdRefIdeal
public import proofs.«01_k».proof.Proof.Gen.UpFwdRefIdeal.Run
public import proofs.«01_k».proof.Proof.Gen.UpFwdRefIdeal.Read
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.DownFwdIdeal
public import proofs.«01_k».proof.Proof.Gen.DownFwdIdeal.Skeleton
public import proofs.«01_k».proof.Proof.Gen.DownFwdIdeal.Launch
public import proofs.«01_k».proof.Proof.Gen.DownFwdIdeal.Points
public import proofs.«01_k».proof.Proof.Gen.DownFwdIdeal.Frame
public import proofs.«01_k».proof.Proof.Gen.DownFwdIdeal.Value
public import proofs.«01_k».proof.Proof.Gen.DownFwdRefIdeal
public import proofs.«01_k».proof.Proof.Gen.DownFwdRefIdeal.Run
public import proofs.«01_k».proof.Proof.Gen.DownFwdRefIdeal.Read
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.OutFwdRefIdeal.Read
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.ScanGrad
public import proofs.«01_k».proof.Proof.Gen.ScanGrad.Skeleton
public import proofs.«01_k».proof.Proof.Gen.ScanGrad.Launch
public import proofs.«01_k».proof.Proof.Gen.ScanGrad.Points
public import proofs.«01_k».proof.Proof.Gen.ScanGrad.Frame
public import proofs.«01_k».proof.Proof.Gen.ScanGradIdeal
public import proofs.«01_k».proof.Proof.Gen.ScanGradIdeal.Skeleton
public import proofs.«01_k».proof.Proof.Gen.ScanGradIdeal.Launch
public import proofs.«01_k».proof.Proof.Gen.ScanGradIdeal.Points
public import proofs.«01_k».proof.Proof.Gen.ScanGradIdeal.Frame
public import proofs.«01_k».proof.Proof.Gen.ScanGradIdeal.Value
public import proofs.«01_k».proof.Proof.Gen.ScanGradRefIdeal
public import proofs.«01_k».proof.Proof.Gen.ScanGradRefIdeal.Run
public import proofs.«01_k».proof.Proof.Gen.NormGrad
public import proofs.«01_k».proof.Proof.Gen.NormGrad.Skeleton
public import proofs.«01_k».proof.Proof.Gen.NormGrad.Launch
public import proofs.«01_k».proof.Proof.Gen.NormGrad.Points
public import proofs.«01_k».proof.Proof.Gen.NormGrad.Frame
public import proofs.«01_k».proof.Proof.Gen.NormGradIdeal
public import proofs.«01_k».proof.Proof.Gen.NormGradIdeal.Skeleton
public import proofs.«01_k».proof.Proof.Gen.NormGradIdeal.Launch
public import proofs.«01_k».proof.Proof.Gen.NormGradIdeal.Points
public import proofs.«01_k».proof.Proof.Gen.NormGradIdeal.Frame
public import proofs.«01_k».proof.Proof.Gen.NormGradIdeal.Value
public import proofs.«01_k».proof.Proof.Gen.NormGradRefIdeal
public import proofs.«01_k».proof.Proof.Gen.NormGradRefIdeal.Run
public import proofs.«01_k».proof.Proof.Gen.NormGradRefIdeal.Read
public import proofs.«01_k».proof.Proof.Gen.LruPostGrad
public import proofs.«01_k».proof.Proof.Gen.LruPostGrad.Skeleton
public import proofs.«01_k».proof.Proof.Gen.LruPostGrad.Launch
public import proofs.«01_k».proof.Proof.Gen.LruPostGrad.Points
public import proofs.«01_k».proof.Proof.Gen.LruPostGrad.Frame
public import proofs.«01_k».proof.Proof.Gen.LruPostGradIdeal
public import proofs.«01_k».proof.Proof.Gen.LruPostGradIdeal.Skeleton
public import proofs.«01_k».proof.Proof.Gen.LruPostGradIdeal.Launch
public import proofs.«01_k».proof.Proof.Gen.LruPostGradIdeal.Points
public import proofs.«01_k».proof.Proof.Gen.LruPostGradIdeal.Frame
public import proofs.«01_k».proof.Proof.Gen.LruPostGradIdeal.Value
public import proofs.«01_k».proof.Proof.Gen.LruPostGradRefIdeal
public import proofs.«01_k».proof.Proof.Gen.LruPostGradRefIdeal.Run
public import proofs.«01_k».proof.Proof.Gen.LruPostGradRefIdeal.Read
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.LruPostFwd
public import proofs.«01_k».proof.Proof.Gen.LruPostFwd.Skeleton
public import proofs.«01_k».proof.Proof.Gen.LruPostFwd.Launch
public import proofs.«01_k».proof.Proof.Gen.LruPostFwd.Points
public import proofs.«01_k».proof.Proof.Gen.LruPostFwd.Frame
public import proofs.«01_k».proof.Proof.Gen.LruPostFwdIdeal
public import proofs.«01_k».proof.Proof.Gen.LruPostFwdIdeal.Skeleton
public import proofs.«01_k».proof.Proof.Gen.LruPostFwdIdeal.Launch
public import proofs.«01_k».proof.Proof.Gen.LruPostFwdIdeal.Points
public import proofs.«01_k».proof.Proof.Gen.LruPostFwdIdeal.Frame
public import proofs.«01_k».proof.Proof.Gen.LruPostFwdIdeal.Value
public import proofs.«01_k».proof.Proof.Gen.LruPostFwdRefIdeal
public import proofs.«01_k».proof.Proof.Gen.LruPostFwdRefIdeal.Run
public import proofs.«01_k».proof.Proof.Gen.LruPostFwdRefIdeal.Read
public import proofs.«01_k».proof.Proof.Gen.RetPostFwd
public import proofs.«01_k».proof.Proof.Gen.RetPostFwd.Skeleton
public import proofs.«01_k».proof.Proof.Gen.RetPostFwd.Launch
public import proofs.«01_k».proof.Proof.Gen.RetPostFwd.Points
public import proofs.«01_k».proof.Proof.Gen.RetPostFwd.Frame
public import proofs.«01_k».proof.Proof.Gen.RetPostFwdIdeal
public import proofs.«01_k».proof.Proof.Gen.RetPostFwdIdeal.Skeleton
public import proofs.«01_k».proof.Proof.Gen.RetPostFwdIdeal.Launch
public import proofs.«01_k».proof.Proof.Gen.RetPostFwdIdeal.Points
public import proofs.«01_k».proof.Proof.Gen.RetPostFwdIdeal.Frame
public import proofs.«01_k».proof.Proof.Gen.RetPostFwdIdeal.Value
public import proofs.«01_k».proof.Proof.Gen.RetPostFwdRefIdeal
public import proofs.«01_k».proof.Proof.Gen.RetPostFwdRefIdeal.Run
public import proofs.«01_k».proof.Proof.Gen.RetPostFwdRefIdeal.Read
public import proofs.«01_k».proof.Proof.Gen.DnPostFwd
public import proofs.«01_k».proof.Proof.Gen.DnPostFwd.Skeleton
public import proofs.«01_k».proof.Proof.Gen.DnPostFwd.Launch
public import proofs.«01_k».proof.Proof.Gen.DnPostFwd.Points
public import proofs.«01_k».proof.Proof.Gen.DnPostFwd.Frame
public import proofs.«01_k».proof.Proof.Gen.DnPostFwdIdeal
public import proofs.«01_k».proof.Proof.Gen.DnPostFwdIdeal.Skeleton
public import proofs.«01_k».proof.Proof.Gen.DnPostFwdIdeal.Launch
public import proofs.«01_k».proof.Proof.Gen.DnPostFwdIdeal.Points
public import proofs.«01_k».proof.Proof.Gen.DnPostFwdIdeal.Frame
public import proofs.«01_k».proof.Proof.Gen.DnPostFwdIdeal.Value
public import proofs.«01_k».proof.Proof.Gen.DnPostFwdRefIdeal
public import proofs.«01_k».proof.Proof.Gen.DnPostFwdRefIdeal.Run
public import proofs.«01_k».proof.Proof.Gen.DnPostFwdRefIdeal.Read
public import proofs.«01_k».proof.Proof.MergeGates
public import proofs.«01_k».proof.Proof.Down
public import proofs.«01_k».proof.Proof.Up
public import proofs.«01_k».proof.Proof.Mix
public import proofs.«01_k».proof.Proof.Inward
public import proofs.«01_k».proof.Proof.Forward
public import proofs.«01_k».proof.Proof.ScanKernel
public import proofs.«01_k».proof.Proof.ScanRef
public import proofs.«01_k».proof.Proof.Norm
public import proofs.«01_k».proof.Proof.Post
public import proofs.«01_k».proof.Proof.Heads
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference of the gated merge's gradient runs and leaves its arguments as they were. -/
theorem merge_reference : Cert.quiescent_MergeGradRefIdeal (hMergeGradRefIdeal := Cert.MergeGradRefIdeal.Gen.facts) :=
  fun m g _ => (θ_run Cert.MergeGradRefIdeal.defs _ _).mono
    (fun r h => ⟨fun c => (h c).2.2.2.2, sem_eq_zero_of_no_sems (by decide) r.2⟩) (Cert.MergeGradRefIdeal.Value.run m g)

set_option maxHeartbeats 1600000 in
/-- The gated merge's gradient: the kernel's four results are the reference's. -/
theorem merge_grad : Cert.algebraic_MergeGradIdeal_MergeGradRefIdeal
    (hMergeGradIdeal := Cert.MergeGradIdeal.Gen.facts) (hMergeGradRefIdeal := Cert.MergeGradRefIdeal.Gen.facts) := by
  pair_intro
  · run_from Cert.MergeGradIdeal.Gen.run_main m g
  · run_from Cert.MergeGradRefIdeal.Value.run m' g'
    · exact (Cert.MergeGradRefIdeal.Read.val_main_v62_eq _ _).trans (Merge.final8 m c).symm
    · exact (Cert.MergeGradRefIdeal.Read.val_main_v63_eq _ _).trans (Merge.final9 m c).symm
    · exact (Cert.MergeGradRefIdeal.Read.val_main_v64_eq _ _).trans (Merge.final10 m c).symm
    · obtain ⟨h0, h1, h2, h3, h4, h5, h6⟩ := hagree c
      rw [Cert.MergeGradRefIdeal.Read.val_main_v61_eq, h0, h1, h2, h3, h4, h5, h6]
      exact (Merge.final11 m c).symm

theorem DownDx.reference : Cert.quiescent_DownDxRefIdeal (hDownDxRefIdeal := Cert.DownDxRefIdeal.Gen.facts) :=
  fun m g _ => (θ_run Cert.DownDxRefIdeal.defs _ _).mono
    (fun r h => ⟨fun c => (h c).2, sem_eq_zero_of_no_sems (by decide) r.2⟩) (Cert.DownDxRefIdeal.Value.run m g)

/-- The closing product of the feed-forward layer: its gradient in the activation. -/
theorem DownDx.value : Cert.algebraic_DownDxIdeal_DownDxRefIdeal
    (hDownDxIdeal := Cert.DownDxIdeal.Gen.facts) (hDownDxRefIdeal := Cert.DownDxRefIdeal.Gen.facts) := by
  pair_intro
  · run_from Cert.DownDxIdeal.Gen.run_main m g
  · run_from Cert.DownDxRefIdeal.Value.run m' g'
    exact (Cert.DownDxRefIdeal.Read.val_main_v4_eq _ _).trans (DownDx.final m c).symm

theorem DownDw.reference : Cert.quiescent_DownDwRefIdeal (hDownDwRefIdeal := Cert.DownDwRefIdeal.Gen.facts) :=
  fun m g _ => (θ_run Cert.DownDwRefIdeal.defs _ _).mono
    (fun r h => ⟨fun c => (h c).2, sem_eq_zero_of_no_sems (by decide) r.2⟩) (Cert.DownDwRefIdeal.Value.run m g)

/-- The closing product of the feed-forward layer: its gradient in the weight. -/
theorem DownDw.value : Cert.algebraic_DownDwIdeal_DownDwRefIdeal
    (hDownDwIdeal := Cert.DownDwIdeal.Gen.facts) (hDownDwRefIdeal := Cert.DownDwRefIdeal.Gen.facts) := by
  pair_intro
  · run_from Cert.DownDwIdeal.Gen.run_main m g
  · run_from Cert.DownDwRefIdeal.Value.run m' g'
    exact (Cert.DownDwRefIdeal.Read.val_main_v5_eq _ _).trans (DownDw.final m c).symm

theorem UpDw.reference : Cert.quiescent_UpDwRefIdeal (hUpDwRefIdeal := Cert.UpDwRefIdeal.Gen.facts) :=
  fun m g _ => (θ_run Cert.UpDwRefIdeal.defs _ _).mono
    (fun r h => ⟨fun c => (h c).2, sem_eq_zero_of_no_sems (by decide) r.2⟩) (Cert.UpDwRefIdeal.Value.run m g)

/-- The opening product of the feed-forward layer: its gradient in one half of the weight. -/
theorem UpDw.value : Cert.algebraic_UpDwIdeal_UpDwRefIdeal
    (hUpDwIdeal := Cert.UpDwIdeal.Gen.facts) (hUpDwRefIdeal := Cert.UpDwRefIdeal.Gen.facts) := by
  pair_intro
  · run_from Cert.UpDwIdeal.Gen.run_main m g
  · run_from Cert.UpDwRefIdeal.Value.run m' g'
    exact (Cert.UpDwRefIdeal.Read.val_main_v5_eq _ _).trans (UpDw.final m c).symm

theorem UpGateDx.reference : Cert.quiescent_UpGateDxRefIdeal (hUpGateDxRefIdeal := Cert.UpGateDxRefIdeal.Gen.facts) :=
  fun m g _ => (θ_run Cert.UpGateDxRefIdeal.defs _ _).mono
    (fun r h => ⟨fun c => (h c).2, sem_eq_zero_of_no_sems (by decide) r.2⟩) (Cert.UpGateDxRefIdeal.Value.run m g)

/-- The gate half of the opening product: its gradient in the input. -/
theorem UpGateDx.value : Cert.algebraic_UpGateDxIdeal_UpGateDxRefIdeal
    (hUpGateDxIdeal := Cert.UpGateDxIdeal.Gen.facts) (hUpGateDxRefIdeal := Cert.UpGateDxRefIdeal.Gen.facts) := by
  pair_intro
  · run_from Cert.UpGateDxIdeal.Gen.run_main m g
  · run_from Cert.UpGateDxRefIdeal.Value.run m' g'
    exact (Cert.UpGateDxRefIdeal.Read.val_main_v5_eq _ _).trans (UpGateDx.final m c).symm

theorem UpValDx.reference : Cert.quiescent_UpValDxRefIdeal (hUpValDxRefIdeal := Cert.UpValDxRefIdeal.Gen.facts) :=
  fun m g _ => (θ_run Cert.UpValDxRefIdeal.defs _ _).mono
    (fun r h => ⟨fun c => (h c).2, sem_eq_zero_of_no_sems (by decide) r.2⟩) (Cert.UpValDxRefIdeal.Value.run m g)

/-- The value half of the opening product: its gradient in the input, added to the gate half's. -/
theorem UpValDx.value : Cert.algebraic_UpValDxIdeal_UpValDxRefIdeal
    (hUpValDxIdeal := Cert.UpValDxIdeal.Gen.facts) (hUpValDxRefIdeal := Cert.UpValDxRefIdeal.Gen.facts) := by
  pair_intro
  · run_from Cert.UpValDxIdeal.Gen.run_main m g
  · run_from Cert.UpValDxRefIdeal.Value.run m' g'
    exact (Cert.UpValDxRefIdeal.Read.val_main_v6_eq _ _ _).trans (UpValDx.final m c).symm

theorem OutDx.reference : Cert.quiescent_OutDxRefIdeal (hOutDxRefIdeal := Cert.OutDxRefIdeal.Gen.facts) :=
  fun m g _ => (θ_run Cert.OutDxRefIdeal.defs _ _).mono
    (fun r h => ⟨fun c => (h c).2, sem_eq_zero_of_no_sems (by decide) r.2⟩) (Cert.OutDxRefIdeal.Value.run m g)

/-- The closing product of the mixing layer: its gradient in the input. -/
theorem OutDx.value : Cert.algebraic_OutDxIdeal_OutDxRefIdeal
    (hOutDxIdeal := Cert.OutDxIdeal.Gen.facts) (hOutDxRefIdeal := Cert.OutDxRefIdeal.Gen.facts) := by
  pair_intro
  · run_from Cert.OutDxIdeal.Gen.run_main m g
  · run_from Cert.OutDxRefIdeal.Value.run m' g'
    exact (Cert.OutDxRefIdeal.Read.val_main_v4_eq _ _).trans (OutDx.final m c).symm

theorem OutDw.reference : Cert.quiescent_OutDwRefIdeal (hOutDwRefIdeal := Cert.OutDwRefIdeal.Gen.facts) :=
  fun m g _ => (θ_run Cert.OutDwRefIdeal.defs _ _).mono
    (fun r h => ⟨fun c => (h c).2, sem_eq_zero_of_no_sems (by decide) r.2⟩) (Cert.OutDwRefIdeal.Value.run m g)

/-- The closing product of the mixing layer: its gradient in the weight. -/
theorem OutDw.value : Cert.algebraic_OutDwIdeal_OutDwRefIdeal
    (hOutDwIdeal := Cert.OutDwIdeal.Gen.facts) (hOutDwRefIdeal := Cert.OutDwRefIdeal.Gen.facts) := by
  pair_intro
  · run_from Cert.OutDwIdeal.Gen.run_main m g
  · run_from Cert.OutDwRefIdeal.Value.run m' g'
    exact (Cert.OutDwRefIdeal.Read.val_main_v5_eq _ _).trans (OutDw.final m c).symm

theorem BranchDx.reference : Cert.quiescent_BranchDxRefIdeal (hBranchDxRefIdeal := Cert.BranchDxRefIdeal.Gen.facts) :=
  fun m g _ => (θ_run Cert.BranchDxRefIdeal.defs _ _).mono
    (fun r h => ⟨fun c => (h c).2, sem_eq_zero_of_no_sems (by decide) r.2⟩) (Cert.BranchDxRefIdeal.Value.run m g)

/-- A branch's product: its gradient in the branch. -/
theorem BranchDx.value : Cert.algebraic_BranchDxIdeal_BranchDxRefIdeal
    (hBranchDxIdeal := Cert.BranchDxIdeal.Gen.facts) (hBranchDxRefIdeal := Cert.BranchDxRefIdeal.Gen.facts) := by
  pair_intro
  · run_from Cert.BranchDxIdeal.Gen.run_main m g
  · run_from Cert.BranchDxRefIdeal.Value.run m' g'
    exact (Cert.BranchDxRefIdeal.Read.val_main_v4_eq _ _).trans (BranchDx.final m c).symm

theorem BranchDw.reference : Cert.quiescent_BranchDwRefIdeal (hBranchDwRefIdeal := Cert.BranchDwRefIdeal.Gen.facts) :=
  fun m g _ => (θ_run Cert.BranchDwRefIdeal.defs _ _).mono
    (fun r h => ⟨fun c => (h c).2, sem_eq_zero_of_no_sems (by decide) r.2⟩) (Cert.BranchDwRefIdeal.Value.run m g)

/-- A branch's product: its gradient in the weight. -/
theorem BranchDw.value : Cert.algebraic_BranchDwIdeal_BranchDwRefIdeal
    (hBranchDwIdeal := Cert.BranchDwIdeal.Gen.facts) (hBranchDwRefIdeal := Cert.BranchDwRefIdeal.Gen.facts) := by
  pair_intro
  · run_from Cert.BranchDwIdeal.Gen.run_main m g
  · run_from Cert.BranchDwRefIdeal.Value.run m' g'
    exact (Cert.BranchDwRefIdeal.Read.val_main_v5_eq _ _).trans (BranchDw.final m c).symm

theorem InDw.reference : Cert.quiescent_InDwRefIdeal (hInDwRefIdeal := Cert.InDwRefIdeal.Gen.facts) :=
  fun m g _ => (θ_run Cert.InDwRefIdeal.defs _ _).mono
    (fun r h => ⟨fun c => (h c).2, sem_eq_zero_of_no_sems (by decide) r.2⟩) (Cert.InDwRefIdeal.Value.run m g)

/-- The opening product of the mixing layer: its gradient in the weight. -/
theorem InDw.value : Cert.algebraic_InDwIdeal_InDwRefIdeal
    (hInDwIdeal := Cert.InDwIdeal.Gen.facts) (hInDwRefIdeal := Cert.InDwRefIdeal.Gen.facts) := by
  pair_intro
  · run_from Cert.InDwIdeal.Gen.run_main m g
  · run_from Cert.InDwRefIdeal.Value.run m' g'
    exact (Cert.InDwRefIdeal.Read.val_main_v5_eq _ _).trans (InDw.final m c).symm

theorem InDx.reference : Cert.quiescent_InDxRefIdeal (hInDxRefIdeal := Cert.InDxRefIdeal.Gen.facts) :=
  fun m g _ => (θ_run Cert.InDxRefIdeal.defs _ _).mono
    (fun r h => ⟨fun c => (h c).2, sem_eq_zero_of_no_sems (by decide) r.2⟩) (Cert.InDxRefIdeal.Value.run m g)

/-- The opening product of the mixing layer: its gradient in the input. -/
theorem InDx.value : Cert.algebraic_InDxIdeal_InDxRefIdeal
    (hInDxIdeal := Cert.InDxIdeal.Gen.facts) (hInDxRefIdeal := Cert.InDxRefIdeal.Gen.facts) := by
  pair_intro
  · run_from Cert.InDxIdeal.Gen.run_main m g
  · run_from Cert.InDxRefIdeal.Value.run m' g'
    exact (Cert.InDxRefIdeal.Read.val_main_v4_eq _ _).trans (InDx.final m c).symm

theorem InFwd.reference : Cert.quiescent_InFwdRefIdeal (hInFwdRefIdeal := Cert.InFwdRefIdeal.Gen.facts) :=
  fun m g _ => (θ_run Cert.InFwdRefIdeal.defs _ _).mono
    (fun r h => ⟨fun c => (h c).2, sem_eq_zero_of_no_sems (by decide) r.2⟩) (Cert.InFwdRefIdeal.Value.run m g)

/-- The opening product of the mixing layer. -/
theorem InFwd.value : Cert.algebraic_InFwdIdeal_InFwdRefIdeal
    (hInFwdIdeal := Cert.InFwdIdeal.Gen.facts) (hInFwdRefIdeal := Cert.InFwdRefIdeal.Gen.facts) := by
  pair_intro
  · run_from Cert.InFwdIdeal.Gen.run_main m g
  · run_from Cert.InFwdRefIdeal.Value.run m' g'
    exact (Cert.InFwdRefIdeal.Read.val_main_v2_eq _ _).trans (InFwd.final m c).symm

theorem UpFwd.reference : Cert.quiescent_UpFwdRefIdeal (hUpFwdRefIdeal := Cert.UpFwdRefIdeal.Gen.facts) :=
  fun m g _ => (θ_run Cert.UpFwdRefIdeal.defs _ _).mono
    (fun r h => ⟨fun c => (h c).2, sem_eq_zero_of_no_sems (by decide) r.2⟩) (Cert.UpFwdRefIdeal.Value.run m g)

/-- The opening product of the feed-forward layer. -/
theorem UpFwd.value : Cert.algebraic_UpFwdIdeal_UpFwdRefIdeal
    (hUpFwdIdeal := Cert.UpFwdIdeal.Gen.facts) (hUpFwdRefIdeal := Cert.UpFwdRefIdeal.Gen.facts) := by
  pair_intro
  · run_from Cert.UpFwdIdeal.Gen.run_main m g
  · run_from Cert.UpFwdRefIdeal.Value.run m' g'
    exact (Cert.UpFwdRefIdeal.Read.val_main_v2_eq _ _).trans (UpFwd.final m c).symm

theorem DownFwd.reference : Cert.quiescent_DownFwdRefIdeal (hDownFwdRefIdeal := Cert.DownFwdRefIdeal.Gen.facts) :=
  fun m g _ => (θ_run Cert.DownFwdRefIdeal.defs _ _).mono
    (fun r h => ⟨fun c => (h c).2, sem_eq_zero_of_no_sems (by decide) r.2⟩) (Cert.DownFwdRefIdeal.Value.run m g)

/-- The closing product of the feed-forward layer, added to the residual. -/
theorem DownFwd.value : Cert.algebraic_DownFwdIdeal_DownFwdRefIdeal
    (hDownFwdIdeal := Cert.DownFwdIdeal.Gen.facts) (hDownFwdRefIdeal := Cert.DownFwdRefIdeal.Gen.facts) := by
  pair_intro
  · run_from Cert.DownFwdIdeal.Gen.run_main m g
  · run_from Cert.DownFwdRefIdeal.Value.run m' g'
    exact (Cert.DownFwdRefIdeal.Read.val_main_v3_eq _ _ _).trans (DownFwd.final m c).symm

theorem OutFwd.reference : Cert.quiescent_OutFwdRefIdeal (hOutFwdRefIdeal := Cert.OutFwdRefIdeal.Gen.facts) :=
  fun m g _ => (θ_run Cert.OutFwdRefIdeal.defs _ _).mono
    (fun r h => ⟨fun c => (h c).2.2, sem_eq_zero_of_no_sems (by decide) r.2⟩) (Cert.OutFwdRefIdeal.Value.run m g)

set_option maxHeartbeats 1600000 in
/-- The closing product of the mixing layer, added to the residual, and the norm of the sum. -/
theorem OutFwd.value : Cert.algebraic_OutFwdIdeal_OutFwdRefIdeal
    (hOutFwdIdeal := Cert.OutFwdIdeal.Gen.facts) (hOutFwdRefIdeal := Cert.OutFwdRefIdeal.Gen.facts) := by
  pair_intro
  · run_from Cert.OutFwdIdeal.Gen.run_main m g
  · run_from Cert.OutFwdRefIdeal.Value.run m' g'
    · exact (Cert.OutFwdRefIdeal.Read.val_main_v3_eq _ _ _).trans (OutFwd.final4 m c).symm
    · exact (Cert.OutFwdRefIdeal.Read.val_main_v16_eq _ _ _ _).trans (OutFwd.final5 m c).symm

theorem MergeFwd.reference : Cert.quiescent_MergeFwdRefIdeal (hMergeFwdRefIdeal := Cert.MergeFwdRefIdeal.Gen.facts) :=
  fun m g _ => (θ_run Cert.MergeFwdRefIdeal.defs _ _).mono
    (fun r h => ⟨fun c => (h c).2, sem_eq_zero_of_no_sems (by decide) r.2⟩) (Cert.MergeFwdRefIdeal.Value.run m g)

/-- The gated merge of the branches' products. -/
theorem MergeFwd.value : Cert.algebraic_MergeFwdIdeal_MergeFwdRefIdeal
    (hMergeFwdIdeal := Cert.MergeFwdIdeal.Gen.facts) (hMergeFwdRefIdeal := Cert.MergeFwdRefIdeal.Gen.facts) := by
  pair_intro
  · run_from Cert.MergeFwdIdeal.Gen.run_main m g
  · run_from Cert.MergeFwdRefIdeal.Value.run m' g'
    exact (Cert.MergeFwdRefIdeal.Read.val_main_v43_eq _ _ _ _ _).trans (MergeFwd.final m c).symm

/-- The reference of the scan's gradient runs and leaves its arguments as they were. -/
theorem scan_reference : Cert.quiescent_ScanGradRefIdeal (hScanGradRefIdeal := Cert.ScanGradRefIdeal.Gen.facts) :=
  fun m g _ => (θ_run Cert.ScanGradRefIdeal.defs _ _).mono
    (fun r h => ⟨fun c => (h c).2.2.2.2.2.2, sem_eq_zero_of_no_sems (by decide) r.2⟩) (Cert.ScanGradRefIdeal.Value.run m g)

set_option maxHeartbeats 1600000 in
/-- The gradient of the gated delta rule's scan: the kernel's six results are the reference's. -/
theorem scan_grad : Cert.algebraic_ScanGradIdeal_ScanGradRefIdeal
    (hScanGradIdeal := Cert.ScanGradIdeal.Gen.facts) (hScanGradRefIdeal := Cert.ScanGradRefIdeal.Gen.facts) := by
  pair_intro
  · run_from Cert.ScanGradIdeal.Gen.run_main m g
  · refine (θ_run Cert.ScanGradRefIdeal.defs _ _).mono (fun r h c => ?_) (Cert.ScanGradRefIdeal.Value.run m' g')
    have e : DeltaScan.refArgs m' c = DeltaScan.args m c := by
      obtain ⟨h0, h1, h2, h3, h4, h5, h6, h7⟩ := hagree c
      unfold DeltaScan.refArgs DeltaScan.args
      rw [h0, h1, h2, h3, h4, h5, h6, h7]
    obtain ⟨h0, h1, h2, h3, h4, h5, kept⟩ := h c
    exact ⟨h0.trans ((DeltaScan.ref_du m' c).trans ((congrArg DeltaScan.Args.du e).trans (DeltaScan.final8 m c).symm)),
      h1.trans ((DeltaScan.ref_dw m' c).trans ((congrArg DeltaScan.Args.dw e).trans (DeltaScan.final9 m c).symm)),
      h2.trans ((DeltaScan.ref_da m' c).trans ((congrArg DeltaScan.Args.da e).trans (DeltaScan.final10 m c).symm)),
      h3.trans ((DeltaScan.ref_dq m' c).trans ((congrArg DeltaScan.Args.dq e).trans (DeltaScan.final11 m c).symm)),
      h4.trans ((DeltaScan.ref_dk m' c).trans ((congrArg DeltaScan.Args.dk e).trans (DeltaScan.final12 m c).symm)),
      h5.trans ((DeltaScan.ref_dg m' c).trans ((congrArg DeltaScan.Args.dg e).trans (DeltaScan.final13 m c).symm)), kept⟩

theorem NormGrad.reference : Cert.quiescent_NormGradRefIdeal (hNormGradRefIdeal := Cert.NormGradRefIdeal.Gen.facts) :=
  fun m g _ => (θ_run Cert.NormGradRefIdeal.defs _ _).mono
    (fun r h => ⟨fun c => (h c).2.2.2, sem_eq_zero_of_no_sems (by decide) r.2⟩) (Cert.NormGradRefIdeal.Value.run m g)

set_option maxHeartbeats 1600000 in
/-- The norm's gradient: the kernel's three results are the reference's. -/
theorem NormGrad.value : Cert.algebraic_NormGradIdeal_NormGradRefIdeal
    (hNormGradIdeal := Cert.NormGradIdeal.Gen.facts) (hNormGradRefIdeal := Cert.NormGradRefIdeal.Gen.facts) := by
  pair_intro
  · run_from Cert.NormGradIdeal.Gen.run_main m g
  · refine (θ_run Cert.NormGradRefIdeal.defs _ _).mono (fun r h c => ?_) (Cert.NormGradRefIdeal.Value.run m' g')
    obtain ⟨e0, e1, e2, e3⟩ := hagree c
    obtain ⟨h0, h1, h2, kept⟩ := h c
    refine ⟨h0.trans ((Cert.NormGradRefIdeal.Read.val_main_v34_eq _ _ _ _).trans ?_),
      h1.trans ((Cert.NormGradRefIdeal.Read.val_main_v35_eq _ _ _ _).trans ?_),
      h2.trans ((Cert.NormGradRefIdeal.Read.val_main_v36_eq _ _).trans ?_), kept⟩
    · rw [e0, e1, e2, e3]
      exact (Norm.final4 m c).symm
    · rw [e0, e1, e2, e3]
      exact (Norm.final5 m c).symm
    · rw [e0, e2]
      exact (Norm.final6 m c).symm

theorem LruPostGrad.reference : Cert.quiescent_LruPostGradRefIdeal (hLruPostGradRefIdeal := Cert.LruPostGradRefIdeal.Gen.facts) :=
  fun m g _ => (θ_run Cert.LruPostGradRefIdeal.defs _ _).mono
    (fun r h => ⟨fun c => (h c).2.2, sem_eq_zero_of_no_sems (by decide) r.2⟩) (Cert.LruPostGradRefIdeal.Value.run m g)

set_option maxHeartbeats 1600000 in
/-- The gradient of the recurrent unit's gate: the kernel's two results are the reference's. -/
theorem LruPostGrad.value : Cert.algebraic_LruPostGradIdeal_LruPostGradRefIdeal
    (hLruPostGradIdeal := Cert.LruPostGradIdeal.Gen.facts) (hLruPostGradRefIdeal := Cert.LruPostGradRefIdeal.Gen.facts) := by
  pair_intro
  · run_from Cert.LruPostGradIdeal.Gen.run_main m g
  · refine (θ_run Cert.LruPostGradRefIdeal.defs _ _).mono (fun r h c => ?_) (Cert.LruPostGradRefIdeal.Value.run m' g')
    obtain ⟨e0, e1, e2, e3⟩ := hagree c
    obtain ⟨h0, h1, kept⟩ := h c
    refine ⟨h0.trans ((Cert.LruPostGradRefIdeal.Read.val_main_v24_eq _ _).trans ?_),
      h1.trans ((Cert.LruPostGradRefIdeal.Read.val_main_v40_eq m' c).trans ?_), kept⟩
    · rw [e1, e2]
      exact (LruPostGrad.final3 m c).symm
    · rw [e0, e1, e2, e3]
      exact (LruPostGrad.final4 m c).symm

theorem NormFwd.reference : Cert.quiescent_NormFwdRefIdeal (hNormFwdRefIdeal := Cert.NormFwdRefIdeal.Gen.facts) :=
  fun m g _ => (θ_run Cert.NormFwdRefIdeal.defs _ _).mono
    (fun r h => ⟨fun c => (h c).2, sem_eq_zero_of_no_sems (by decide) r.2⟩) (Cert.NormFwdRefIdeal.Value.run m g)

set_option maxHeartbeats 1600000 in
/-- The norm: the kernel's result is the reference's. -/
theorem NormFwd.value : Cert.algebraic_NormFwdIdeal_NormFwdRefIdeal
    (hNormFwdIdeal := Cert.NormFwdIdeal.Gen.facts) (hNormFwdRefIdeal := Cert.NormFwdRefIdeal.Gen.facts) := by
  pair_intro
  · run_from Cert.NormFwdIdeal.Gen.run_main m g
  · refine (θ_run Cert.NormFwdRefIdeal.defs _ _).mono (fun r h c => ?_) (Cert.NormFwdRefIdeal.Value.run m' g')
    obtain ⟨e0, e1⟩ := hagree c
    obtain ⟨h0, kept⟩ := h c
    refine ⟨h0.trans ((Cert.NormFwdRefIdeal.Read.val_main_v12_eq _ _).trans ?_), kept⟩
    rw [e0, e1]
    exact (NormFwd.final m c).symm

theorem LruPostFwd.reference : Cert.quiescent_LruPostFwdRefIdeal (hLruPostFwdRefIdeal := Cert.LruPostFwdRefIdeal.Gen.facts) :=
  fun m g _ => (θ_run Cert.LruPostFwdRefIdeal.defs _ _).mono
    (fun r h => ⟨fun c => (h c).2, sem_eq_zero_of_no_sems (by decide) r.2⟩) (Cert.LruPostFwdRefIdeal.Value.run m g)

set_option maxHeartbeats 1600000 in
/-- The recurrent unit's gate: the kernel's result is the reference's. -/
theorem LruPostFwd.value : Cert.algebraic_LruPostFwdIdeal_LruPostFwdRefIdeal
    (hLruPostFwdIdeal := Cert.LruPostFwdIdeal.Gen.facts) (hLruPostFwdRefIdeal := Cert.LruPostFwdRefIdeal.Gen.facts) := by
  pair_intro
  · run_from Cert.LruPostFwdIdeal.Gen.run_main m g
  · refine (θ_run Cert.LruPostFwdRefIdeal.defs _ _).mono (fun r h c => ?_) (Cert.LruPostFwdRefIdeal.Value.run m' g')
    obtain ⟨e0, e1⟩ := hagree c
    obtain ⟨h0, kept⟩ := h c
    refine ⟨h0.trans ((Cert.LruPostFwdRefIdeal.Read.val_main_v15_eq _ _).trans ?_), kept⟩
    rw [e0, e1]
    exact (LruPostFwd.final m c).symm

theorem RetPostFwd.reference : Cert.quiescent_RetPostFwdRefIdeal (hRetPostFwdRefIdeal := Cert.RetPostFwdRefIdeal.Gen.facts) :=
  fun m g _ => (θ_run Cert.RetPostFwdRefIdeal.defs _ _).mono
    (fun r h => ⟨fun c => (h c).2, sem_eq_zero_of_no_sems (by decide) r.2⟩) (Cert.RetPostFwdRefIdeal.Value.run m g)

set_option maxHeartbeats 1600000 in
/-- The norm by heads that closes the retention: the kernel's result is the reference's. -/
theorem RetPostFwd.value : Cert.algebraic_RetPostFwdIdeal_RetPostFwdRefIdeal
    (hRetPostFwdIdeal := Cert.RetPostFwdIdeal.Gen.facts) (hRetPostFwdRefIdeal := Cert.RetPostFwdRefIdeal.Gen.facts) := by
  pair_intro
  · run_from Cert.RetPostFwdIdeal.Gen.run_main m g
  · refine (θ_run Cert.RetPostFwdRefIdeal.defs _ _).mono (fun r h c => ?_) (Cert.RetPostFwdRefIdeal.Value.run m' g')
    obtain ⟨e0, e1⟩ := hagree c
    obtain ⟨h0, kept⟩ := h c
    refine ⟨h0.trans ((Cert.RetPostFwdRefIdeal.Read.val_main_v24_eq _ _).trans ?_), kept⟩
    rw [e0, e1]
    exact (RetPostFwd.final m c).symm

theorem DnPostFwd.reference : Cert.quiescent_DnPostFwdRefIdeal (hDnPostFwdRefIdeal := Cert.DnPostFwdRefIdeal.Gen.facts) :=
  fun m g _ => (θ_run Cert.DnPostFwdRefIdeal.defs _ _).mono
    (fun r h => ⟨fun c => (h c).2, sem_eq_zero_of_no_sems (by decide) r.2⟩) (Cert.DnPostFwdRefIdeal.Value.run m g)

set_option maxHeartbeats 1600000 in
/-- The norm by heads that closes the delta rule: the kernel's result is the reference's. -/
theorem DnPostFwd.value : Cert.algebraic_DnPostFwdIdeal_DnPostFwdRefIdeal
    (hDnPostFwdIdeal := Cert.DnPostFwdIdeal.Gen.facts) (hDnPostFwdRefIdeal := Cert.DnPostFwdRefIdeal.Gen.facts) := by
  pair_intro
  · run_from Cert.DnPostFwdIdeal.Gen.run_main m g
  · refine (θ_run Cert.DnPostFwdRefIdeal.defs _ _).mono (fun r h c => ?_) (Cert.DnPostFwdRefIdeal.Value.run m' g')
    obtain ⟨e0, e1, e2⟩ := hagree c
    obtain ⟨h0, kept⟩ := h c
    refine ⟨h0.trans ((Cert.DnPostFwdRefIdeal.Read.val_main_v19_eq _ _ _).trans ?_), kept⟩
    rw [e0, e1, e2]
    exact (DnPostFwd.final m c).symm

set_option maxRecDepth 16384 in
/-- Every claim of the certificate. -/
theorem claim : Cert.Claim := ⟨
  Cert.MergeGrad.Gen.facts, Cert.MergeGradIdeal.Gen.facts, Cert.MergeGradRefIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.UpDw.Gen.facts, Cert.UpDwIdeal.Gen.facts, Cert.UpDwRefIdeal.Gen.facts,
  Cert.UpGateDx.Gen.facts, Cert.UpGateDxIdeal.Gen.facts, Cert.UpGateDxRefIdeal.Gen.facts,
  Cert.UpValDx.Gen.facts, Cert.UpValDxIdeal.Gen.facts, Cert.UpValDxRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.BranchDx.Gen.facts, Cert.BranchDxIdeal.Gen.facts, Cert.BranchDxRefIdeal.Gen.facts,
  Cert.BranchDw.Gen.facts, Cert.BranchDwIdeal.Gen.facts, Cert.BranchDwRefIdeal.Gen.facts,
  Cert.InDw.Gen.facts, Cert.InDwIdeal.Gen.facts, Cert.InDwRefIdeal.Gen.facts,
  Cert.InDx.Gen.facts, Cert.InDxIdeal.Gen.facts, Cert.InDxRefIdeal.Gen.facts,
  Cert.InFwd.Gen.facts, Cert.InFwdIdeal.Gen.facts, Cert.InFwdRefIdeal.Gen.facts,
  Cert.UpFwd.Gen.facts, Cert.UpFwdIdeal.Gen.facts, Cert.UpFwdRefIdeal.Gen.facts,
  Cert.DownFwd.Gen.facts, Cert.DownFwdIdeal.Gen.facts, Cert.DownFwdRefIdeal.Gen.facts,
  Cert.OutFwd.Gen.facts, Cert.OutFwdIdeal.Gen.facts, Cert.OutFwdRefIdeal.Gen.facts,
  Cert.MergeFwd.Gen.facts, Cert.MergeFwdIdeal.Gen.facts, Cert.MergeFwdRefIdeal.Gen.facts,
  Cert.ScanGrad.Gen.facts, Cert.ScanGradIdeal.Gen.facts, Cert.ScanGradRefIdeal.Gen.facts,
  Cert.NormGrad.Gen.facts, Cert.NormGradIdeal.Gen.facts, Cert.NormGradRefIdeal.Gen.facts,
  Cert.LruPostGrad.Gen.facts, Cert.LruPostGradIdeal.Gen.facts, Cert.LruPostGradRefIdeal.Gen.facts,
  Cert.NormFwd.Gen.facts, Cert.NormFwdIdeal.Gen.facts, Cert.NormFwdRefIdeal.Gen.facts,
  Cert.LruPostFwd.Gen.facts, Cert.LruPostFwdIdeal.Gen.facts, Cert.LruPostFwdRefIdeal.Gen.facts,
  Cert.RetPostFwd.Gen.facts, Cert.RetPostFwdIdeal.Gen.facts, Cert.RetPostFwdRefIdeal.Gen.facts,
  Cert.DnPostFwd.Gen.facts, Cert.DnPostFwdIdeal.Gen.facts, Cert.DnPostFwdRefIdeal.Gen.facts,
  fun m ρ _ => Cert.MergeGrad.Gen.frame m ρ, fun m ρ _ => Cert.MergeGradIdeal.Gen.frame m ρ, merge_reference,
  fun m ρ _ => Cert.DownDx.Gen.frame m ρ, fun m ρ _ => Cert.DownDxIdeal.Gen.frame m ρ, DownDx.reference,
  fun m ρ _ => Cert.DownDw.Gen.frame m ρ, fun m ρ _ => Cert.DownDwIdeal.Gen.frame m ρ, DownDw.reference,
  fun m ρ _ => Cert.UpDw.Gen.frame m ρ, fun m ρ _ => Cert.UpDwIdeal.Gen.frame m ρ, UpDw.reference,
  fun m ρ _ => Cert.UpGateDx.Gen.frame m ρ, fun m ρ _ => Cert.UpGateDxIdeal.Gen.frame m ρ, UpGateDx.reference,
  fun m ρ _ => Cert.UpValDx.Gen.frame m ρ, fun m ρ _ => Cert.UpValDxIdeal.Gen.frame m ρ, UpValDx.reference,
  fun m ρ _ => Cert.OutDx.Gen.frame m ρ, fun m ρ _ => Cert.OutDxIdeal.Gen.frame m ρ, OutDx.reference,
  fun m ρ _ => Cert.OutDw.Gen.frame m ρ, fun m ρ _ => Cert.OutDwIdeal.Gen.frame m ρ, OutDw.reference,
  fun m ρ _ => Cert.BranchDx.Gen.frame m ρ, fun m ρ _ => Cert.BranchDxIdeal.Gen.frame m ρ, BranchDx.reference,
  fun m ρ _ => Cert.BranchDw.Gen.frame m ρ, fun m ρ _ => Cert.BranchDwIdeal.Gen.frame m ρ, BranchDw.reference,
  fun m ρ _ => Cert.InDw.Gen.frame m ρ, fun m ρ _ => Cert.InDwIdeal.Gen.frame m ρ, InDw.reference,
  fun m ρ _ => Cert.InDx.Gen.frame m ρ, fun m ρ _ => Cert.InDxIdeal.Gen.frame m ρ, InDx.reference,
  fun m ρ _ => Cert.InFwd.Gen.frame m ρ, fun m ρ _ => Cert.InFwdIdeal.Gen.frame m ρ, InFwd.reference,
  fun m ρ _ => Cert.UpFwd.Gen.frame m ρ, fun m ρ _ => Cert.UpFwdIdeal.Gen.frame m ρ, UpFwd.reference,
  fun m ρ _ => Cert.DownFwd.Gen.frame m ρ, fun m ρ _ => Cert.DownFwdIdeal.Gen.frame m ρ, DownFwd.reference,
  fun m ρ _ => Cert.OutFwd.Gen.frame m ρ, fun m ρ _ => Cert.OutFwdIdeal.Gen.frame m ρ, OutFwd.reference,
  fun m ρ _ => Cert.MergeFwd.Gen.frame m ρ, fun m ρ _ => Cert.MergeFwdIdeal.Gen.frame m ρ, MergeFwd.reference,
  fun m ρ _ => Cert.ScanGrad.Gen.frame m ρ, fun m ρ _ => Cert.ScanGradIdeal.Gen.frame m ρ, scan_reference,
  fun m ρ _ => Cert.NormGrad.Gen.frame m ρ, fun m ρ _ => Cert.NormGradIdeal.Gen.frame m ρ, NormGrad.reference,
  fun m ρ _ => Cert.LruPostGrad.Gen.frame m ρ, fun m ρ _ => Cert.LruPostGradIdeal.Gen.frame m ρ, LruPostGrad.reference,
  fun m ρ _ => Cert.NormFwd.Gen.frame m ρ, fun m ρ _ => Cert.NormFwdIdeal.Gen.frame m ρ, NormFwd.reference,
  fun m ρ _ => Cert.LruPostFwd.Gen.frame m ρ, fun m ρ _ => Cert.LruPostFwdIdeal.Gen.frame m ρ, LruPostFwd.reference,
  fun m ρ _ => Cert.RetPostFwd.Gen.frame m ρ, fun m ρ _ => Cert.RetPostFwdIdeal.Gen.frame m ρ, RetPostFwd.reference,
  fun m ρ _ => Cert.DnPostFwd.Gen.frame m ρ, fun m ρ _ => Cert.DnPostFwdIdeal.Gen.frame m ρ, DnPostFwd.reference,
  trivial, merge_grad,
  trivial, DownDx.value,
  trivial, DownDw.value,
  trivial, UpDw.value,
  trivial, UpGateDx.value,
  trivial, UpValDx.value,
  trivial, OutDx.value,
  trivial, OutDw.value,
  trivial, BranchDx.value,
  trivial, BranchDw.value,
  trivial, InDw.value,
  trivial, InDx.value,
  trivial, InFwd.value,
  trivial, UpFwd.value,
  trivial, DownFwd.value,
  trivial, OutFwd.value,
  trivial, MergeFwd.value,
  trivial, scan_grad,
  trivial, NormGrad.value,
  trivial, LruPostGrad.value,
  trivial, NormFwd.value,
  trivial, LruPostFwd.value,
  trivial, RetPostFwd.value,
  trivial, DnPostFwd.value⟩

end Cert.Proof

end
